-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S1x4096
  ∧ IdealRules.bf16_pair.Statement Cert.KernelIdeal.S2x4096 Cert.KernelIdeal.S1x4096

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S1x8192 : Shape := ⟨2, ![1, 8192]⟩
abbrev S25088x4096 : Shape := ⟨2, ![25088, 4096]⟩
abbrev S25088 : Shape := ⟨1, ![25088]⟩
abbrev S4096 : Shape := ⟨1, ![4096]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel

variable [Facts]

def fn {F : FTy → Type} [FloatOps F] (main_arg0 : IVec S1x8192 32) (main_arg1 : IVec S25088x4096 8) (main_arg2 : FVec F S25088 .f32) (main_arg3 : FVec F S4096 .bf16) : IVec S_ 1 :=
  let main_c : IVec S_ 32 := constantI S_ 32 0#32
  let main_v0 : IVec S1x8192 32 := broadcastInDim S1x8192 ![] bcast_S_S1x8192 main_c
  let main_v1 : IVec S1x8192 1 := cmpi .sge main_arg0 main_v0
  let main_c_0 : IVec S_ 32 := constantI S_ 32 25088#32
  let main_v2 : IVec S1x8192 32 := broadcastInDim S1x8192 ![] bcast_S_S1x8192 main_c_0
  let main_v3 : IVec S1x8192 1 := cmpi .slt main_arg0 main_v2
  let main_v4 : IVec S1x8192 1 := andi main_v1 main_v3
  let main_c_1 : IVec S_ 1 := constantI S_ 1 1#1
  let main_v5 : IVec S_ 1 := (fun x v => Host.reduce IntOp.andi x v reducesTo_S1x8192_S_d0_1 h_S_) main_v4 main_c_1
  main_v5
-- ==== Kernel.lean ====
abbrev S1x8192 : Shape := ⟨2, ![1, 8192]⟩
abbrev S25088x4096 : Shape := ⟨2, ![25088, 4096]⟩
abbrev S25088 : Shape := ⟨1, ![25088]⟩
abbrev S4096 : Shape := ⟨1, ![4096]⟩
abbrev S6272x4x4096 : Shape := ⟨3, ![6272, 4, 4096]⟩
abbrev S6272x4096x4 : Shape := ⟨3, ![6272, 4096, 4]⟩
abbrev S6272x4096 : Shape := ⟨2, ![6272, 4096]⟩
abbrev S8192 : Shape := ⟨1, ![8192]⟩
abbrev S1x4096 : Shape := ⟨2, ![1, 4096]⟩
abbrev S8192x4096 : Shape := ⟨2, ![8192, 4096]⟩
abbrev S128x4096 : Shape := ⟨2, ![128, 4096]⟩
abbrev S512x1x4096 : Shape := ⟨3, ![512, 1, 4096]⟩
abbrev S4 : Shape := ⟨1, ![4]⟩
abbrev S1 : Shape := ⟨1, ![1]⟩
abbrev S_ : Shape := ⟨0, ![]⟩
abbrev S1x1x4096 : Shape := ⟨3, ![1, 1, 4096]⟩
abbrev S128x1x4096 : Shape := ⟨3, ![128, 1, 4096]⟩
abbrev S2x4096 : Shape := ⟨2, ![2, 4096]⟩
abbrev S64x4096 : Shape := ⟨2, ![64, 4096]⟩
abbrev S1x1x1 : Shape := ⟨3, ![1, 1, 1]⟩
abbrev S1x1 : Shape := ⟨2, ![1, 1]⟩

abbrev nBuf : Space → Nat
  | .hbm => 12
  | .vmem => 6
  | .smem => 2
  | _ => 0

abbrev bufTy : (tb : Table) → Fin (tcTables nBuf tb) → BufTy
  | .hbm, ⟨0, _⟩ => ⟨S1x8192, .i32⟩
  | .hbm, ⟨1, _⟩ => ⟨S25088x4096, .i8⟩
  | .hbm, ⟨2, _⟩ => ⟨S25088, .f32⟩
  | .hbm, ⟨3, _⟩ => ⟨S4096, .bf16⟩
  | .hbm, ⟨4, _⟩ => ⟨S6272x4x4096, .i8⟩
  | .hbm, ⟨5, _⟩ => ⟨S6272x4096x4, .i8⟩
  | .hbm, ⟨6, _⟩ => ⟨S6272x4096, .i32⟩
  | .hbm, ⟨7, _⟩ => ⟨S8192, .i32⟩
  | .hbm, ⟨8, _⟩ => ⟨S4096, .f32⟩
  | .hbm, ⟨9, _⟩ => ⟨S1x4096, .f32⟩
  | .hbm, ⟨10, _⟩ => ⟨S8192x4096, .bf16⟩
  | .hbm, ⟨11, _⟩ => ⟨S8192x4096, .bf16⟩
  | .local _ .vmem, ⟨0, _⟩ => ⟨S1x4096, .f32⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S512x1x4096, .i32⟩
  | .local _ .smem, ⟨0, _⟩ => ⟨S8192, .i32⟩
  | .local _ .smem, ⟨1, _⟩ => ⟨S25088, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c16_i32_23 : BitVec 32 := 16#32
  let v36 : BitVec 32 := Scalar.addi c0_i32_22 c16_i32_23
  let c1_i32_24 : BitVec 32 := 1#32
  ⟨c0_i32_22, v36, c1_i32_24⟩
def k0_off1 (k0_t1 : Fin k0_t1_loop.trips) : Fin 1 → Nat :=
  let c0_i32_35 : BitVec 32 := 0#32
  let c0_i32_22 : BitVec 32 := 0#32
  let c1_i32_24 : BitVec 32 := 1#32
  let arg9 : BitVec 32 := Scf.iv c0_i32_22 c1_i32_24 k0_t1
  let c8_i32 : BitVec 32 := 8#32
  let v39 : BitVec 32 := Scalar.muli arg9 c8_i32
  let c0_i32_34 : BitVec 32 := 0#32
  let v40 : BitVec 32 := Scalar.addi v39 c0_i32_34
  let v41 : BitVec 32 := Scalar.addi c0_i32_35 v40
  let v42 : Index := Scalar.indexCast v41
  ![v42.toNat]
def k0_off2 (k0_t1 : Fin k0_t1_loop.trips) : Fin 3 → Nat :=
  let c0_i32_36 : BitVec 32 := 0#32
  let c0_i32_22 : BitVec 32 := 0#32
  let c1_i32_24 : BitVec 32 := 1#32
  let arg9 : BitVec 32 := Scf.iv c0_i32_22 c1_i32_24 k0_t1
  let c8_i32 : BitVec 32 := 8#32
  let v39 : BitVec 32 := Scalar.muli arg9 c8_i32
  let c0_i32_34 : BitVec 32 := 0#32
  let v40 : BitVec 32 := Scalar.addi v39 c0_i32_34
  let v45 : BitVec 32 := Scalar.addi c0_i32_36 v40
  let c0_i32_38 : BitVec 32 := 0#32
  let c0_i32_39 : BitVec 32 := 0#32
  ![v45.toNat, 0, 0]
def k0_off3 (v43 : BitVec 32) : Fin 2 → Nat :=
  let c2_i32 : BitVec 32 := 2#32
  let v44 : BitVec 32 := Scalar.shrsi v43 c2_i32
  let c0_i32_40 : BitVec 32 := 0#32
  ![v44.toNat, 0]

def k0_chk1 (i : grid0.Coords) (v43 : BitVec 32) : Prop :=
  (∀ (k0_h1 : k0_cond1 i = 1#1), ∀ a, (k0_off3 v43) a + S1x4096.size a ≤ S6272x4096.size a)
theorem k0_off3_inb : ∀ (i : grid0.Coords) (v43 : BitVec 32) (k0_hw1 : k0_chk1 i v43), ∀ (k0_h1 : k0_cond1 i = 1#1), ∀ a, (k0_off3 v43) a + S1x4096.size a ≤ S6272x4096.size a := fun i v43 k0_hw1 k0_h1 => k0_hw1 k0_h1

def k0_off4 (k0_t1 : Fin k0_t1_loop.trips) : Fin 1 → Nat :=
  let c0_i32_43 : BitVec 32 := 0#32
  let c0_i32_22 : BitVec 32 := 0#32
  let c1_i32_24 : BitVec 32 := 1#32
  let arg9 : BitVec 32 := Scf.iv c0_i32_22 c1_i32_24 k0_t1
  let c8_i32_41 : BitVec 32 := 8#32
  let v51 : BitVec 32 := Scalar.muli arg9 c8_i32_41
  let c1_i32_42 : BitVec 32 := 1#32
  let v52 : BitVec 32 := Scalar.addi v51 c1_i32_42
  let v53 : BitVec 32 := Scalar.addi c0_i32_43 v52
  let v54 : Index := Scalar.indexCast v53
  ![v54.toNat]
def k0_off5 (k0_t1 : Fin k0_t1_loop.trips) : Fin 3 → Nat :=
  let c0_i32_45 : BitVec 32 := 0#32
  let c0_i32_22 : BitVec 32 := 0#32
  let c1_i32_24 : BitVec 32 := 1#32
  let arg9 : BitVec 32 := Scf.iv c0_i32_22 c1_i32_24 k0_t1
  let c8_i32_41 : BitVec 32 := 8#32
  let v51 : BitVec 32 := Scalar.muli arg9 c8_i32_41
  let c1_i32_42 : BitVec 32 := 1#32
  let v52 : BitVec 32 := Scalar.addi v51 c1_i32_42
  let v57 : BitVec 32 := Scalar.addi c0_i32_45 v52
  let c0_i32_47 : BitVec 32 := 0#32
  let c0_i32_48 : BitVec 32 := 0#32
  ![v57.toNat, 0, 0]
def k0_off6 (v55 : BitVec 32) : Fin 2 → Nat :=
  let c2_i32_44 : BitVec 32 := 2#32
  let v56 : BitVec 32 := Scalar.shrsi v55 c2_i32_44
  let c0_i32_49 : BitVec 32 := 0#32
  ![v56.toNat, 0]

def k0_chk2 (i : grid0.Coords) (v55 : BitVec 32) : Prop :=
  (∀ (k0_h1 : k0_cond1 i = 1#1), ∀ a, (k0_off6 v55) a + S1x4096.size a ≤ S6272x4096.size a)
theorem k0_off6_inb : ∀ (i : grid0.Coords) (v55 : BitVec 32) (k0_hw2 : k0_chk2 i v55), ∀ (k0_h1 : k0_cond1 i = 1#1), ∀ a, (k0_off6 v55) a + S1x4096.size a ≤ S6272x4096.size a := fun i v55 k0_hw2 k0_h1 => k0_hw2 k0_h1

def k0_off7 (k0_t1 : Fin k0_t1_loop.trips) : Fin 1 → Nat :=
  let c0_i32_52 : BitVec 32 := 0#32
  let c0_i32_22 : BitVec 32 := 0#32
  let c1_i32_24 : BitVec 32 := 1#32
  let arg9 : BitVec 32 := Scf.iv c0_i32_22 c1_i32_24 k0_t1
  let c8_i32_50 : BitVec 32 := 8#32
  let v63 : BitVec 32 := Scalar.muli arg9 c8_i32_50
  let c2_i32_51 : BitVec 32 := 2#32
  let v64 : BitVec 32 := Scalar.addi v63 c2_i32_51
  let v65 : BitVec 32 := Scalar.addi c0_i32_52 v64
  let v66 : Index := Scalar.indexCast v65
  ![v66.toNat]
def k0_off8 (k0_t1 : Fin k0_t1_loop.trips) : Fin 3 → Nat :=
  let c0_i32_54 : BitVec 32 := 0#32
  let c0_i32_22 : BitVec 32 := 0#32
  let c1_i32_24 : BitVec 32 := 1#32
  let arg9 : BitVec 32 := Scf.iv c0_i32_22 c1_i32_24 k0_t1
  let c8_i32_50 : BitVec 32 := 8#32
  let v63 : BitVec 32 := Scalar.muli arg9 c8_i32_50
  let c2_i32_51 : BitVec 32 := 2#32
  let v64 : BitVec 32 := Scalar.addi v63 c2_i32_51
  let v69 : BitVec 32 := Scalar.addi c0_i32_54 v64
  let c0_i32_56 : BitVec 32 := 0#32
  let c0_i32_57 : BitVec 32 := 0#32
  ![v69.toNat, 0, 0]
def k0_off9 (v67 : BitVec 32) : Fin 2 → Nat :=
  let c2_i32_53 : BitVec 32 := 2#32
  let v68 : BitVec 32 := Scalar.shrsi v67 c2_i32_53
  let c0_i32_58 : BitVec 32 := 0#32
  ![v68.toNat, 0]

def k0_chk3 (i : grid0.Coords) (v67 : BitVec 32) : Prop :=
  (∀ (k0_h1 : k0_cond1 i = 1#1), ∀ a, (k0_off9 v67) a + S1x4096.size a ≤ S6272x4096.size a)
theorem k0_off9_inb : ∀ (i : grid0.Coords) (v67 : BitVec 32) (k0_hw3 : k0_chk3 i v67), ∀ (k0_h1 : k0_cond1 i = 1#1), ∀ a, (k0_off9 v67) a + S1x4096.size a ≤ S6272x4096.size a := fun i v67 k0_hw3 k0_h1 => k0_hw3 k0_h1

def k0_off10 (k0_t1 : Fin k0_t1_loop.trips) : Fin 1 → Nat :=
  let c0_i32_60 : BitVec 32 := 0#32
  let c0_i32_22 : BitVec 32 := 0#32
  let c1_i32_24 : BitVec 32 := 1#32
  let arg9 : BitVec 32 := Scf.iv c0_i32_22 c1_i32_24 k0_t1
  let c8_i32_59 : BitVec 32 := 8#32
  let v75 : BitVec 32 := Scalar.muli arg9 c8_i32_59
  let c3_i32 : BitVec 32 := 3#32
  let v76 : BitVec 32 := Scalar.addi v75 c3_i32
  let v77 : BitVec 32 := Scalar.addi c0_i32_60 v76
  let v78 : Index := Scalar.indexCast v77
  ![v78.toNat]
def k0_off11 (k0_t1 : Fin k0_t1_loop.trips) : Fin 3 → Nat :=
  let c0_i32_62 : BitVec 32 := 0#32
  let c0_i32_22 : BitVec 32 := 0#32
  let c1_i32_24 : BitVec 32 := 1#32
  let arg9 : BitVec 32 := Scf.iv c0_i32_22 c1_i32_24 k0_t1
  let c8_i32_59 : BitVec 32 := 8#32
  let v75 : BitVec 32 := Scalar.muli arg9 c8_i32_59
  let c3_i32 : BitVec 32 := 3#32
  let v76 : BitVec 32 := Scalar.addi v75 c3_i32
  let v81 : BitVec 32 := Scalar.addi c0_i32_62 v76
  let c0_i32_64 : BitVec 32 := 0#32
  let c0_i32_65 : BitVec 32 := 0#32
  ![v81.toNat, 0, 0]
def k0_off12 (v79 : BitVec 32) : Fin 2 → Nat :=
  let c2_i32_61 : BitVec 32 := 2#32
  let v80 : BitVec 32 := Scalar.shrsi v79 c2_i32_61
  let c0_i32_66 : BitVec 32 := 0#32
  ![v80.toNat, 0]

def k0_chk4 (i : grid0.Coords) (v79 : BitVec 32) : Prop :=
  (∀ (k0_h1 : k0_cond1 i = 1#1), ∀ a, (k0_off12 v79) a + S1x4096.size a ≤ S6272x4096.size a)
theorem k0_off12_inb : ∀ (i : grid0.Coords) (v79 : BitVec 32) (k0_hw4 : k0_chk4 i v79), ∀ (k0_h1 : k0_cond1 i = 1#1), ∀ a, (k0_off12 v79) a + S1x4096.size a ≤ S6272x4096.size a := fun i v79 k0_hw4 k0_h1 => k0_hw4 k0_h1

def k0_off13 (k0_t1 : Fin k0_t1_loop.trips) : Fin 1 → Nat :=
  let c0_i32_69 : BitVec 32 := 0#32
  let c0_i32_22 : BitVec 32 := 0#32
  let c1_i32_24 : BitVec 32 := 1#32
  let arg9 : BitVec 32 := Scf.iv c0_i32_22 c1_i32_24 k0_t1
  let c8_i32_67 : BitVec 32 := 8#32
  let v87 : BitVec 32 := Scalar.muli arg9 c8_i32_67
  let c4_i32_68 : BitVec 32 := 4#32
  let v88 : BitVec 32 := Scalar.addi v87 c4_i32_68
  let v89 : BitVec 32 := Scalar.addi c0_i32_69 v88
  let v90 : Index := Scalar.indexCast v89
  ![v90.toNat]
def k0_off14 (k0_t1 : Fin k0_t1_loop.trips) : Fin 3 → Nat :=
  let c0_i32_71 : BitVec 32 := 0#32
  let c0_i32_22 : BitVec 32 := 0#32
  let c1_i32_24 : BitVec 32 := 1#32
  let arg9 : BitVec 32 := Scf.iv c0_i32_22 c1_i32_24 k0_t1
  let c8_i32_67 : BitVec 32 := 8#32
  let v87 : BitVec 32 := Scalar.muli arg9 c8_i32_67
  let c4_i32_68 : BitVec 32 := 4#32
  let v88 : BitVec 32 := Scalar.addi v87 c4_i32_68
  let v93 : BitVec 32 := Scalar.addi c0_i32_71 v88
  let c0_i32_73 : BitVec 32 := 0#32
  let c0_i32_74 : BitVec 32 := 0#32
  ![v93.toNat, 0, 0]
def k0_off15 (v91 : BitVec 32) : Fin 2 → Nat :=
  let c2_i32_70 : BitVec 32 := 2#32
  let v92 : BitVec 32 := Scalar.shrsi v91 c2_i32_70
  let c0_i32_75 : BitVec 32 := 0#32
  ![v92.toNat, 0]

def k0_chk5 (i : grid0.Coords) (v91 : BitVec 32) : Prop :=
  (∀ (k0_h1 : k0_cond1 i = 1#1), ∀ a, (k0_off15 v91) a + S1x4096.size a ≤ S6272x4096.size a)
theorem k0_off15_inb : ∀ (i : grid0.Coords) (v91 : BitVec 32) (k0_hw5 : k0_chk5 i v91), ∀ (k0_h1 : k0_cond1 i = 1#1), ∀ a, (k0_off15 v91) a + S1x4096.size a ≤ S6272x4096.size a := fun i v91 k0_hw5 k0_h1 => k0_hw5 k0_h1

def k0_off16 (k0_t1 : Fin k0_t1_loop.trips) : Fin 1 → Nat :=
  let c0_i32_77 : BitVec 32 := 0#32
  let c0_i32_22 : BitVec 32 := 0#32
  let c1_i32_24 : BitVec 32 := 1#32
  let arg9 : BitVec 32 := Scf.iv c0_i32_22 c1_i32_24 k0_t1
  let c8_i32_76 : BitVec 32 := 8#32
  let v99 : BitVec 32 := Scalar.muli arg9 c8_i32_76
  let c5_i32 : BitVec 32 := 5#32
  let v100 : BitVec 32 := Scalar.addi v99 c5_i32
  let v101 : BitVec 32 := Scalar.addi c0_i32_77 v100
  let v102 : Index := Scalar.indexCast v101
  ![v102.toNat]
def k0_off17 (k0_t1 : Fin k0_t1_loop.trips) : Fin 3 → Nat :=
  let c0_i32_79 : BitVec 32 := 0#32
  let c0_i32_22 : BitVec 32 := 0#32
  let c1_i32_24 : BitVec 32 := 1#32
  let arg9 : BitVec 32 := Scf.iv c0_i32_22 c1_i32_24 k0_t1
  let c8_i32_76 : BitVec 32 := 8#32
  let v99 : BitVec 32 := Scalar.muli arg9 c8_i32_76
  let c5_i32 : BitVec 32 := 5#32
  let v100 : BitVec 32 := Scalar.addi v99 c5_i32
  let v105 : BitVec 32 := Scalar.addi c0_i32_79 v100
  let c0_i32_81 : BitVec 32 := 0#32
  let c0_i32_82 : BitVec 32 := 0#32
  ![v105.toNat, 0, 0]
def k0_off18 (v103 : BitVec 32) : Fin 2 → Nat :=
  let c2_i32_78 : BitVec 32 := 2#32
  let v104 : BitVec 32 := Scalar.shrsi v103 c2_i32_78
  let c0_i32_83 : BitVec 32 := 0#32
  ![v104.toNat, 0]

def k0_chk6 (i : grid0.Coords) (v103 : BitVec 32) : Prop :=
  (∀ (k0_h1 : k0_cond1 i = 1#1), ∀ a, (k0_off18 v103) a + S1x4096.size a ≤ S6272x4096.size a)
theorem k0_off18_inb : ∀ (i : grid0.Coords) (v103 : BitVec 32) (k0_hw6 : k0_chk6 i v103), ∀ (k0_h1 : k0_cond1 i = 1#1), ∀ a, (k0_off18 v103) a + S1x4096.size a ≤ S6272x4096.size a := fun i v103 k0_hw6 k0_h1 => k0_hw6 k0_h1

def k0_off19 (k0_t1 : Fin k0_t1_loop.trips) : Fin 1 → Nat :=
  let c0_i32_85 : BitVec 32 := 0#32
  let c0_i32_22 : BitVec 32 := 0#32
  let c1_i32_24 : BitVec 32 := 1#32
  let arg9 : BitVec 32 := Scf.iv c0_i32_22 c1_i32_24 k0_t1
  let c8_i32_84 : BitVec 32 := 8#32
  let v111 : BitVec 32 := Scalar.muli arg9 c8_i32_84
  let c6_i32 : BitVec 32 := 6#32
  let v112 : BitVec 32 := Scalar.addi v111 c6_i32
  let v113 : BitVec 32 := Scalar.addi c0_i32_85 v112
  let v114 : Index := Scalar.indexCast v113
  ![v114.toNat]
def k0_off20 (k0_t1 : Fin k0_t1_loop.trips) : Fin 3 → Nat :=
  let c0_i32_87 : BitVec 32 := 0#32
  let c0_i32_22 : BitVec 32 := 0#32
  let c1_i32_24 : BitVec 32 := 1#32
  let arg9 : BitVec 32 := Scf.iv c0_i32_22 c1_i32_24 k0_t1
  let c8_i32_84 : BitVec 32 := 8#32
  let v111 : BitVec 32 := Scalar.muli arg9 c8_i32_84
  let c6_i32 : BitVec 32 := 6#32
  let v112 : BitVec 32 := Scalar.addi v111 c6_i32
  let v117 : BitVec 32 := Scalar.addi c0_i32_87 v112
  let c0_i32_89 : BitVec 32 := 0#32
  let c0_i32_90 : BitVec 32 := 0#32
  ![v117.toNat, 0, 0]
def k0_off21 (v115 : BitVec 32) : Fin 2 → Nat :=
  let c2_i32_86 : BitVec 32 := 2#32
  let v116 : BitVec 32 := Scalar.shrsi v115 c2_i32_86
  let c0_i32_91 : BitVec 32 := 0#32
  ![v116.toNat, 0]

def k0_chk7 (i : grid0.Coords) (v115 : BitVec 32) : Prop :=
  (∀ (k0_h1 : k0_cond1 i = 1#1), ∀ a, (k0_off21 v115) a + S1x4096.size a ≤ S6272x4096.size a)
theorem k0_off21_inb : ∀ (i : grid0.Coords) (v115 : BitVec 32) (k0_hw7 : k0_chk7 i v115), ∀ (k0_h1 : k0_cond1 i = 1#1), ∀ a, (k0_off21 v115) a + S1x4096.size a ≤ S6272x4096.size a := fun i v115 k0_hw7 k0_h1 => k0_hw7 k0_h1

def k0_off22 (k0_t1 : Fin k0_t1_loop.trips) : Fin 1 → Nat :=
  let c0_i32_93 : BitVec 32 := 0#32
  let c0_i32_22 : BitVec 32 := 0#32
  let c1_i32_24 : BitVec 32 := 1#32
  let arg9 : BitVec 32 := Scf.iv c0_i32_22 c1_i32_24 k0_t1
  let c8_i32_92 : BitVec 32 := 8#32
  let v123 : BitVec 32 := Scalar.muli arg9 c8_i32_92
  let c7_i32 : BitVec 32 := 7#32
  let v124 : BitVec 32 := Scalar.addi v123 c7_i32
  let v125 : BitVec 32 := Scalar.addi c0_i32_93 v124
  let v126 : Index := Scalar.indexCast v125
  ![v126.toNat]
def k0_off23 (k0_t1 : Fin k0_t1_loop.trips) : Fin 3 → Nat :=
  let c0_i32_95 : BitVec 32 := 0#32
  let c0_i32_22 : BitVec 32 := 0#32
  let c1_i32_24 : BitVec 32 := 1#32
  let arg9 : BitVec 32 := Scf.iv c0_i32_22 c1_i32_24 k0_t1
  let c8_i32_92 : BitVec 32 := 8#32
  let v123 : BitVec 32 := Scalar.muli arg9 c8_i32_92
  let c7_i32 : BitVec 32 := 7#32
  let v124 : BitVec 32 := Scalar.addi v123 c7_i32
  let v129 : BitVec 32 := Scalar.addi c0_i32_95 v124
  let c0_i32_97 : BitVec 32 := 0#32
  let c0_i32_98 : BitVec 32 := 0#32
  ![v129.toNat, 0, 0]
def k0_off24 (v127 : BitVec 32) : Fin 2 → Nat :=
  let c2_i32_94 : BitVec 32 := 2#32
  let v128 : BitVec 32 := Scalar.shrsi v127 c2_i32_94
  let c0_i32_99 : BitVec 32 := 0#32
  ![v128.toNat, 0]

def k0_chk8 (i : grid0.Coords) (v127 : BitVec 32) : Prop :=
  (∀ (k0_h1 : k0_cond1 i = 1#1), ∀ a, (k0_off24 v127) a + S1x4096.size a ≤ S6272x4096.size a)
theorem k0_off24_inb : ∀ (i : grid0.Coords) (v127 : BitVec 32) (k0_hw8 : k0_chk8 i v127), ∀ (k0_h1 : k0_cond1 i = 1#1), ∀ a, (k0_off24 v127) a + S1x4096.size a ≤ S6272x4096.size a := fun i v127 k0_hw8 k0_h1 => k0_hw8 k0_h1

@[reducible] def k0_t2_loop : Scf.Loop 32 :=
  let c0_i32_26 : BitVec 32 := 0#32
  let c16_i32_27 : BitVec 32 := 16#32
  let v37 : BitVec 32 := Scalar.addi c0_i32_26 c16_i32_27
  let c1_i32_28 : BitVec 32 := 1#32
  ⟨c0_i32_26, v37, c1_i32_28⟩
def k0_off25 (k0_t2 : Fin k0_t2_loop.trips) : Fin 1 → Nat :=
  let c128_i32_35 : BitVec 32 := 128#32
  let c0_i32_26 : BitVec 32 := 0#32
  let c1_i32_28 : BitVec 32 := 1#32
  let arg9 : BitVec 32 := Scf.iv c0_i32_26 c1_i32_28 k0_t2
  let c8_i32 : BitVec 32 := 8#32
  let v39 : BitVec 32 := Scalar.muli arg9 c8_i32
  let c0_i32_34 : BitVec 32 := 0#32
  let v40 : BitVec 32 := Scalar.addi v39 c0_i32_34
  let v41 : BitVec 32 := Scalar.addi c128_i32_35 v40
  let v42 : Index := Scalar.indexCast v41
  ![v42.toNat]
def k0_off26 (k0_t2 : Fin k0_t2_loop.trips) : Fin 3 → Nat :=
  let c128_i32_36 : BitVec 32 := 128#32
  let c0_i32_26 : BitVec 32 := 0#32
  let c1_i32_28 : BitVec 32 := 1#32
  let arg9 : BitVec 32 := Scf.iv c0_i32_26 c1_i32_28 k0_t2
  let c8_i32 : BitVec 32 := 8#32
  let v39 : BitVec 32 := Scalar.muli arg9 c8_i32
  let c0_i32_34 : BitVec 32 := 0#32
  let v40 : BitVec 32 := Scalar.addi v39 c0_i32_34
  let v45 : BitVec 32 := Scalar.addi c128_i32_36 v40
  let c0_i32_38 : BitVec 32 := 0#32
  let c0_i32_39 : BitVec 32 := 0#32
  ![v45.toNat, 0, 0]
def k0_off27 (v43 : BitVec 32) : Fin 2 → Nat :=
  let c2_i32 : BitVec 32 := 2#32
  let v44 : BitVec 32 := Scalar.shrsi v43 c2_i32
  let c0_i32_40 : BitVec 32 := 0#32
  ![v44.toNat, 0]

def k0_chk9 (i : grid0.Coords) (v43 : BitVec 32) : Prop :=
  (∀ (k0_h1 : k0_cond1 i = 1#1), ∀ a, (k0_off27 v43) a + S1x4096.size a ≤ S6272x4096.size a)
theorem k0_off27_inb : ∀ (i : grid0.Coords) (v43 : BitVec 32) (k0_hw9 : k0_chk9 i v43), ∀ (k0_h1 : k0_cond1 i = 1#1), ∀ a, (k0_off27 v43) a + S1x4096.size a ≤ S6272x4096.size a := fun i v43 k0_hw9 k0_h1 => k0_hw9 k0_h1

def k0_off28 (k0_t2 : Fin k0_t2_loop.trips) : Fin 1 → Nat :=
  let c128_i32_43 : BitVec 32 := 128#32
  let c0_i32_26 : BitVec 32 := 0#32
  let c1_i32_28 : BitVec 32 := 1#32
  let arg9 : BitVec 32 := Scf.iv c0_i32_26 c1_i32_28 k0_t2
  let c8_i32_41 : BitVec 32 := 8#32
  let v51 : BitVec 32 := Scalar.muli arg9 c8_i32_41
  let c1_i32_42 : BitVec 32 := 1#32
  let v52 : BitVec 32 := Scalar.addi v51 c1_i32_42
  let v53 : BitVec 32 := Scalar.addi c128_i32_43 v52
  let v54 : Index := Scalar.indexCast v53
  ![v54.toNat]
def k0_off29 (k0_t2 : Fin k0_t2_loop.trips) : Fin 3 → Nat :=
  let c128_i32_45 : BitVec 32 := 128#32
  let c0_i32_26 : BitVec 32 := 0#32
  let c1_i32_28 : BitVec 32 := 1#32
  let arg9 : BitVec 32 := Scf.iv c0_i32_26 c1_i32_28 k0_t2
  let c8_i32_41 : BitVec 32 := 8#32
  let v51 : BitVec 32 := Scalar.muli arg9 c8_i32_41
  let c1_i32_42 : BitVec 32 := 1#32
  let v52 : BitVec 32 := Scalar.addi v51 c1_i32_42
  let v57 : BitVec 32 := Scalar.addi c128_i32_45 v52
  let c0_i32_47 : BitVec 32 := 0#32
  let c0_i32_48 : BitVec 32 := 0#32
  ![v57.toNat, 0, 0]
def k0_off30 (v55 : BitVec 32) : Fin 2 → Nat :=
  let c2_i32_44 : BitVec 32 := 2#32
  let v56 : BitVec 32 := Scalar.shrsi v55 c2_i32_44
  let c0_i32_49 : BitVec 32 := 0#32
  ![v56.toNat, 0]

def k0_chk10 (i : grid0.Coords) (v55 : BitVec 32) : Prop :=
  (∀ (k0_h1 : k0_cond1 i = 1#1), ∀ a, (k0_off30 v55) a + S1x4096.size a ≤ S6272x4096.size a)
theorem k0_off30_inb : ∀ (i : grid0.Coords) (v55 : BitVec 32) (k0_hw10 : k0_chk10 i v55), ∀ (k0_h1 : k0_cond1 i = 1#1), ∀ a, (k0_off30 v55) a + S1x4096.size a ≤ S6272x4096.size a := fun i v55 k0_hw10 k0_h1 => k0_hw10 k0_h1

def k0_off31 (k0_t2 : Fin k0_t2_loop.trips) : Fin 1 → Nat :=
  let c128_i32_52 : BitVec 32 := 128#32
  let c0_i32_26 : BitVec 32 := 0#32
  let c1_i32_28 : BitVec 32 := 1#32
  let arg9 : BitVec 32 := Scf.iv c0_i32_26 c1_i32_28 k0_t2
  let c8_i32_50 : BitVec 32 := 8#32
  let v63 : BitVec 32 := Scalar.muli arg9 c8_i32_50
  let c2_i32_51 : BitVec 32 := 2#32
  let v64 : BitVec 32 := Scalar.addi v63 c2_i32_51
  let v65 : BitVec 32 := Scalar.addi c128_i32_52 v64
  let v66 : Index := Scalar.indexCast v65
  ![v66.toNat]
def k0_off32 (k0_t2 : Fin k0_t2_loop.trips) : Fin 3 → Nat :=
  let c128_i32_54 : BitVec 32 := 128#32
  let c0_i32_26 : BitVec 32 := 0#32
  let c1_i32_28 : BitVec 32 := 1#32
  let arg9 : BitVec 32 := Scf.iv c0_i32_26 c1_i32_28 k0_t2
  let c8_i32_50 : BitVec 32 := 8#32
  let v63 : BitVec 32 := Scalar.muli arg9 c8_i32_50
  let c2_i32_51 : BitVec 32 := 2#32
  let v64 : BitVec 32 := Scalar.addi v63 c2_i32_51
  let v69 : BitVec 32 := Scalar.addi c128_i32_54 v64
  let c0_i32_56 : BitVec 32 := 0#32
  let c0_i32_57 : BitVec 32 := 0#32
  ![v69.toNat, 0, 0]
def k0_off33 (v67 : BitVec 32) : Fin 2 → Nat :=
  let c2_i32_53 : BitVec 32 := 2#32
  let v68 : BitVec 32 := Scalar.shrsi v67 c2_i32_53
  let c0_i32_58 : BitVec 32 := 0#32
  ![v68.toNat, 0]

def k0_chk11 (i : grid0.Coords) (v67 : BitVec 32) : Prop :=
  (∀ (k0_h1 : k0_cond1 i = 1#1), ∀ a, (k0_off33 v67) a + S1x4096.size a ≤ S6272x4096.size a)
theorem k0_off33_inb : ∀ (i : grid0.Coords) (v67 : BitVec 32) (k0_hw11 : k0_chk11 i v67), ∀ (k0_h1 : k0_cond1 i = 1#1), ∀ a, (k0_off33 v67) a + S1x4096.size a ≤ S6272x4096.size a := fun i v67 k0_hw11 k0_h1 => k0_hw11 k0_h1

def k0_off34 (k0_t2 : Fin k0_t2_loop.trips) : Fin 1 → Nat :=
  let c128_i32_60 : BitVec 32 := 128#32
  let c0_i32_26 : BitVec 32 := 0#32
  let c1_i32_28 : BitVec 32 := 1#32
  let arg9 : BitVec 32 := Scf.iv c0_i32_26 c1_i32_28 k0_t2
  let c8_i32_59 : BitVec 32 := 8#32
  let v75 : BitVec 32 := Scalar.muli arg9 c8_i32_59
  let c3_i32 : BitVec 32 := 3#32
  let v76 : BitVec 32 := Scalar.addi v75 c3_i32
  let v77 : BitVec 32 := Scalar.addi c128_i32_60 v76
  let v78 : Index := Scalar.indexCast v77
  ![v78.toNat]
def k0_off35 (k0_t2 : Fin k0_t2_loop.trips) : Fin 3 → Nat :=
  let c128_i32_62 : BitVec 32 := 128#32
  let c0_i32_26 : BitVec 32 := 0#32
  let c1_i32_28 : BitVec 32 := 1#32
  let arg9 : BitVec 32 := Scf.iv c0_i32_26 c1_i32_28 k0_t2
  let c8_i32_59 : BitVec 32 := 8#32
  let v75 : BitVec 32 := Scalar.muli arg9 c8_i32_59
  let c3_i32 : BitVec 32 := 3#32
  let v76 : BitVec 32 := Scalar.addi v75 c3_i32
  let v81 : BitVec 32 := Scalar.addi c128_i32_62 v76
  let c0_i32_64 : BitVec 32 := 0#32
  let c0_i32_65 : BitVec 32 := 0#32
  ![v81.toNat, 0, 0]
def k0_off36 (v79 : BitVec 32) : Fin 2 → Nat :=
  let c2_i32_61 : BitVec 32 := 2#32
  let v80 : BitVec 32 := Scalar.shrsi v79 c2_i32_61
  let c0_i32_66 : BitVec 32 := 0#32
  ![v80.toNat, 0]

def k0_chk12 (i : grid0.Coords) (v79 : BitVec 32) : Prop :=
  (∀ (k0_h1 : k0_cond1 i = 1#1), ∀ a, (k0_off36 v79) a + S1x4096.size a ≤ S6272x4096.size a)
theorem k0_off36_inb : ∀ (i : grid0.Coords) (v79 : BitVec 32) (k0_hw12 : k0_chk12 i v79), ∀ (k0_h1 : k0_cond1 i = 1#1), ∀ a, (k0_off36 v79) a + S1x4096.size a ≤ S6272x4096.size a := fun i v79 k0_hw12 k0_h1 => k0_hw12 k0_h1

def k0_off37 (k0_t2 : Fin k0_t2_loop.trips) : Fin 1 → Nat :=
  let c128_i32_69 : BitVec 32 := 128#32
  let c0_i32_26 : BitVec 32 := 0#32
  let c1_i32_28 : BitVec 32 := 1#32
  let arg9 : BitVec 32 := Scf.iv c0_i32_26 c1_i32_28 k0_t2
  let c8_i32_67 : BitVec 32 := 8#32
  let v87 : BitVec 32 := Scalar.muli arg9 c8_i32_67
  let c4_i32_68 : BitVec 32 := 4#32
  let v88 : BitVec 32 := Scalar.addi v87 c4_i32_68
  let v89 : BitVec 32 := Scalar.addi c128_i32_69 v88
  let v90 : Index := Scalar.indexCast v89
  ![v90.toNat]
def k0_off38 (k0_t2 : Fin k0_t2_loop.trips) : Fin 3 → Nat :=
  let c128_i32_71 : BitVec 32 := 128#32
  let c0_i32_26 : BitVec 32 := 0#32
  let c1_i32_28 : BitVec 32 := 1#32
  let arg9 : BitVec 32 := Scf.iv c0_i32_26 c1_i32_28 k0_t2
  let c8_i32_67 : BitVec 32 := 8#32
  let v87 : BitVec 32 := Scalar.muli arg9 c8_i32_67
  let c4_i32_68 : BitVec 32 := 4#32
  let v88 : BitVec 32 := Scalar.addi v87 c4_i32_68
  let v93 : BitVec 32 := Scalar.addi c128_i32_71 v88
  let c0_i32_73 : BitVec 32 := 0#32
  let c0_i32_74 : BitVec 32 := 0#32
  ![v93.toNat, 0, 0]
def k0_off39 (v91 : BitVec 32) : Fin 2 → Nat :=
  let c2_i32_70 : BitVec 32 := 2#32
  let v92 : BitVec 32 := Scalar.shrsi v91 c2_i32_70
  let c0_i32_75 : BitVec 32 := 0#32
  ![v92.toNat, 0]

def k0_chk13 (i : grid0.Coords) (v91 : BitVec 32) : Prop :=
  (∀ (k0_h1 : k0_cond1 i = 1#1), ∀ a, (k0_off39 v91) a + S1x4096.size a ≤ S6272x4096.size a)
theorem k0_off39_inb : ∀ (i : grid0.Coords) (v91 : BitVec 32) (k0_hw13 : k0_chk13 i v91), ∀ (k0_h1 : k0_cond1 i = 1#1), ∀ a, (k0_off39 v91) a + S1x4096.size a ≤ S6272x4096.size a := fun i v91 k0_hw13 k0_h1 => k0_hw13 k0_h1

def k0_off40 (k0_t2 : Fin k0_t2_loop.trips) : Fin 1 → Nat :=
  let c128_i32_77 : BitVec 32 := 128#32
  let c0_i32_26 : BitVec 32 := 0#32
  let c1_i32_28 : BitVec 32 := 1#32
  let arg9 : BitVec 32 := Scf.iv c0_i32_26 c1_i32_28 k0_t2
  let c8_i32_76 : BitVec 32 := 8#32
  let v99 : BitVec 32 := Scalar.muli arg9 c8_i32_76
  let c5_i32 : BitVec 32 := 5#32
  let v100 : BitVec 32 := Scalar.addi v99 c5_i32
  let v101 : BitVec 32 := Scalar.addi c128_i32_77 v100
  let v102 : Index := Scalar.indexCast v101
  ![v102.toNat]
def k0_off41 (k0_t2 : Fin k0_t2_loop.trips) : Fin 3 → Nat :=
  let c128_i32_79 : BitVec 32 := 128#32
  let c0_i32_26 : BitVec 32 := 0#32
  let c1_i32_28 : BitVec 32 := 1#32
  let arg9 : BitVec 32 := Scf.iv c0_i32_26 c1_i32_28 k0_t2
  let c8_i32_76 : BitVec 32 := 8#32
  let v99 : BitVec 32 := Scalar.muli arg9 c8_i32_76
  let c5_i32 : BitVec 32 := 5#32
  let v100 : BitVec 32 := Scalar.addi v99 c5_i32
  let v105 : BitVec 32 := Scalar.addi c128_i32_79 v100
  let c0_i32_81 : BitVec 32 := 0#32
  let c0_i32_82 : BitVec 32 := 0#32
  ![v105.toNat, 0, 0]
def k0_off42 (v103 : BitVec 32) : Fin 2 → Nat :=
  let c2_i32_78 : BitVec 32 := 2#32
  let v104 : BitVec 32 := Scalar.shrsi v103 c2_i32_78
  let c0_i32_83 : BitVec 32 := 0#32
  ![v104.toNat, 0]

def k0_chk14 (i : grid0.Coords) (v103 : BitVec 32) : Prop :=
  (∀ (k0_h1 : k0_cond1 i = 1#1), ∀ a, (k0_off42 v103) a + S1x4096.size a ≤ S6272x4096.size a)
theorem k0_off42_inb : ∀ (i : grid0.Coords) (v103 : BitVec 32) (k0_hw14 : k0_chk14 i v103), ∀ (k0_h1 : k0_cond1 i = 1#1), ∀ a, (k0_off42 v103) a + S1x4096.size a ≤ S6272x4096.size a := fun i v103 k0_hw14 k0_h1 => k0_hw14 k0_h1

def k0_off43 (k0_t2 : Fin k0_t2_loop.trips) : Fin 1 → Nat :=
  let c128_i32_85 : BitVec 32 := 128#32
  let c0_i32_26 : BitVec 32 := 0#32
  let c1_i32_28 : BitVec 32 := 1#32
  let arg9 : BitVec 32 := Scf.iv c0_i32_26 c1_i32_28 k0_t2
  let c8_i32_84 : BitVec 32 := 8#32
  let v111 : BitVec 32 := Scalar.muli arg9 c8_i32_84
  let c6_i32 : BitVec 32 := 6#32
  let v112 : BitVec 32 := Scalar.addi v111 c6_i32
  let v113 : BitVec 32 := Scalar.addi c128_i32_85 v112
  let v114 : Index := Scalar.indexCast v113
  ![v114.toNat]
def k0_off44 (k0_t2 : Fin k0_t2_loop.trips) : Fin 3 → Nat :=
  let c128_i32_87 : BitVec 32 := 128#32
  let c0_i32_26 : BitVec 32 := 0#32
  let c1_i32_28 : BitVec 32 := 1#32
  let arg9 : BitVec 32 := Scf.iv c0_i32_26 c1_i32_28 k0_t2
  let c8_i32_84 : BitVec 32 := 8#32
  let v111 : BitVec 32 := Scalar.muli arg9 c8_i32_84
  let c6_i32 : BitVec 32 := 6#32
  let v112 : BitVec 32 := Scalar.addi v111 c6_i32
  let v117 : BitVec 32 := Scalar.addi c128_i32_87 v112
  let c0_i32_89 : BitVec 32 := 0#32
  let c0_i32_90 : BitVec 32 := 0#32
  ![v117.toNat, 0, 0]
def k0_off45 (v115 : BitVec 32) : Fin 2 → Nat :=
  let c2_i32_86 : BitVec 32 := 2#32
  let v116 : BitVec 32 := Scalar.shrsi v115 c2_i32_86
  let c0_i32_91 : BitVec 32 := 0#32
  ![v116.toNat, 0]

def k0_chk15 (i : grid0.Coords) (v115 : BitVec 32) : Prop :=
  (∀ (k0_h1 : k0_cond1 i = 1#1), ∀ a, (k0_off45 v115) a + S1x4096.size a ≤ S6272x4096.size a)
theorem k0_off45_inb : ∀ (i : grid0.Coords) (v115 : BitVec 32) (k0_hw15 : k0_chk15 i v115), ∀ (k0_h1 : k0_cond1 i = 1#1), ∀ a, (k0_off45 v115) a + S1x4096.size a ≤ S6272x4096.size a := fun i v115 k0_hw15 k0_h1 => k0_hw15 k0_h1

def k0_off46 (k0_t2 : Fin k0_t2_loop.trips) : Fin 1 → Nat :=
  let c128_i32_93 : BitVec 32 := 128#32
  let c0_i32_26 : BitVec 32 := 0#32
  let c1_i32_28 : BitVec 32 := 1#32
  let arg9 : BitVec 32 := Scf.iv c0_i32_26 c1_i32_28 k0_t2
  let c8_i32_92 : BitVec 32 := 8#32
  let v123 : BitVec 32 := Scalar.muli arg9 c8_i32_92
  let c7_i32 : BitVec 32 := 7#32
  let v124 : BitVec 32 := Scalar.addi v123 c7_i32
  let v125 : BitVec 32 := Scalar.addi c128_i32_93 v124
  let v126 : Index := Scalar.indexCast v125
  ![v126.toNat]
def k0_off47 (k0_t2 : Fin k0_t2_loop.trips) : Fin 3 → Nat :=
  let c128_i32_95 : BitVec 32 := 128#32
  let c0_i32_26 : BitVec 32 := 0#32
  let c1_i32_28 : BitVec 32 := 1#32
  let arg9 : BitVec 32 := Scf.iv c0_i32_26 c1_i32_28 k0_t2
  let c8_i32_92 : BitVec 32 := 8#32
  let v123 : BitVec 32 := Scalar.muli arg9 c8_i32_92
  let c7_i32 : BitVec 32 := 7#32
  let v124 : BitVec 32 := Scalar.addi v123 c7_i32
  let v129 : BitVec 32 := Scalar.addi c128_i32_95 v124
  let c0_i32_97 : BitVec 32 := 0#32
  let c0_i32_98 : BitVec 32 := 0#32
  ![v129.toNat, 0, 0]
def k0_off48 (v127 : BitVec 32) : Fin 2 → Nat :=
  let c2_i32_94 : BitVec 32 := 2#32
  let v128 : BitVec 32 := Scalar.shrsi v127 c2_i32_94
  let c0_i32_99 : BitVec 32 := 0#32
  ![v128.toNat, 0]

def k0_chk16 (i : grid0.Coords) (v127 : BitVec 32) : Prop :=
  (∀ (k0_h1 : k0_cond1 i = 1#1), ∀ a, (k0_off48 v127) a + S1x4096.size a ≤ S6272x4096.size a)
theorem k0_off48_inb : ∀ (i : grid0.Coords) (v127 : BitVec 32) (k0_hw16 : k0_chk16 i v127), ∀ (k0_h1 : k0_cond1 i = 1#1), ∀ a, (k0_off48 v127) a + S1x4096.size a ≤ S6272x4096.size a := fun i v127 k0_hw16 k0_h1 => k0_hw16 k0_h1

@[reducible] def k0_t3_loop : Scf.Loop 32 :=
  let c0_i32_30 : BitVec 32 := 0#32
  let c16_i32_31 : BitVec 32 := 16#32
  let v38 : BitVec 32 := Scalar.addi c0_i32_30 c16_i32_31
  let c1_i32_32 : BitVec 32 := 1#32
  ⟨c0_i32_30, v38, c1_i32_32⟩
def k0_off49 (k0_t3 : Fin k0_t3_loop.trips) : Fin 1 → Nat :=
  let c256_i32 : BitVec 32 := 256#32
  let c0_i32_30 : BitVec 32 := 0#32
  let c1_i32_32 : BitVec 32 := 1#32
  let arg9 : BitVec 32 := Scf.iv c0_i32_30 c1_i32_32 k0_t3
  let c8_i32 : BitVec 32 := 8#32
  let v39 : BitVec 32 := Scalar.muli arg9 c8_i32
  let c0_i32_34 : BitVec 32 := 0#32
  let v40 : BitVec 32 := Scalar.addi v39 c0_i32_34
  let v41 : BitVec 32 := Scalar.addi c256_i32 v40
  let v42 : Index := Scalar.indexCast v41
  ![v42.toNat]
def k0_off50 (k0_t3 : Fin k0_t3_loop.trips) : Fin 3 → Nat :=
  let c256_i32_35 : BitVec 32 := 256#32
  let c0_i32_30 : BitVec 32 := 0#32
  let c1_i32_32 : BitVec 32 := 1#32
  let arg9 : BitVec 32 := Scf.iv c0_i32_30 c1_i32_32 k0_t3
  let c8_i32 : BitVec 32 := 8#32
  let v39 : BitVec 32 := Scalar.muli arg9 c8_i32
  let c0_i32_34 : BitVec 32 := 0#32
  let v40 : BitVec 32 := Scalar.addi v39 c0_i32_34
  let v45 : BitVec 32 := Scalar.addi c256_i32_35 v40
  let c0_i32_37 : BitVec 32 := 0#32
  let c0_i32_38 : BitVec 32 := 0#32
  ![v45.toNat, 0, 0]
def k0_off51 (v43 : BitVec 32) : Fin 2 → Nat :=
  let c2_i32 : BitVec 32 := 2#32
  let v44 : BitVec 32 := Scalar.shrsi v43 c2_i32
  let c0_i32_39 : BitVec 32 := 0#32
  ![v44.toNat, 0]

def k0_chk17 (i : grid0.Coords) (v43 : BitVec 32) : Prop :=
  (∀ (k0_h1 : k0_cond1 i = 1#1), ∀ a, (k0_off51 v43) a + S1x4096.size a ≤ S6272x4096.size a)
theorem k0_off51_inb : ∀ (i : grid0.Coords) (v43 : BitVec 32) (k0_hw17 : k0_chk17 i v43), ∀ (k0_h1 : k0_cond1 i = 1#1), ∀ a, (k0_off51 v43) a + S1x4096.size a ≤ S6272x4096.size a := fun i v43 k0_hw17 k0_h1 => k0_hw17 k0_h1

def k0_off52 (k0_t3 : Fin k0_t3_loop.trips) : Fin 1 → Nat :=
  let c256_i32_42 : BitVec 32 := 256#32
  let c0_i32_30 : BitVec 32 := 0#32
  let c1_i32_32 : BitVec 32 := 1#32
  let arg9 : BitVec 32 := Scf.iv c0_i32_30 c1_i32_32 k0_t3
  let c8_i32_40 : BitVec 32 := 8#32
  let v51 : BitVec 32 := Scalar.muli arg9 c8_i32_40
  let c1_i32_41 : BitVec 32 := 1#32
  let v52 : BitVec 32 := Scalar.addi v51 c1_i32_41
  let v53 : BitVec 32 := Scalar.addi c256_i32_42 v52
  let v54 : Index := Scalar.indexCast v53
  ![v54.toNat]
def k0_off53 (k0_t3 : Fin k0_t3_loop.trips) : Fin 3 → Nat :=
  let c256_i32_44 : BitVec 32 := 256#32
  let c0_i32_30 : BitVec 32 := 0#32
  let c1_i32_32 : BitVec 32 := 1#32
  let arg9 : BitVec 32 := Scf.iv c0_i32_30 c1_i32_32 k0_t3
  let c8_i32_40 : BitVec 32 := 8#32
  let v51 : BitVec 32 := Scalar.muli arg9 c8_i32_40
  let c1_i32_41 : BitVec 32 := 1#32
  let v52 : BitVec 32 := Scalar.addi v51 c1_i32_41
  let v57 : BitVec 32 := Scalar.addi c256_i32_44 v52
  let c0_i32_46 : BitVec 32 := 0#32
  let c0_i32_47 : BitVec 32 := 0#32
  ![v57.toNat, 0, 0]
def k0_off54 (v55 : BitVec 32) : Fin 2 → Nat :=
  let c2_i32_43 : BitVec 32 := 2#32
  let v56 : BitVec 32 := Scalar.shrsi v55 c2_i32_43
  let c0_i32_48 : BitVec 32 := 0#32
  ![v56.toNat, 0]

def k0_chk18 (i : grid0.Coords) (v55 : BitVec 32) : Prop :=
  (∀ (k0_h1 : k0_cond1 i = 1#1), ∀ a, (k0_off54 v55) a + S1x4096.size a ≤ S6272x4096.size a)
theorem k0_off54_inb : ∀ (i : grid0.Coords) (v55 : BitVec 32) (k0_hw18 : k0_chk18 i v55), ∀ (k0_h1 : k0_cond1 i = 1#1), ∀ a, (k0_off54 v55) a + S1x4096.size a ≤ S6272x4096.size a := fun i v55 k0_hw18 k0_h1 => k0_hw18 k0_h1

def k0_off55 (k0_t3 : Fin k0_t3_loop.trips) : Fin 1 → Nat :=
  let c256_i32_51 : BitVec 32 := 256#32
  let c0_i32_30 : BitVec 32 := 0#32
  let c1_i32_32 : BitVec 32 := 1#32
  let arg9 : BitVec 32 := Scf.iv c0_i32_30 c1_i32_32 k0_t3
  let c8_i32_49 : BitVec 32 := 8#32
  let v63 : BitVec 32 := Scalar.muli arg9 c8_i32_49
  let c2_i32_50 : BitVec 32 := 2#32
  let v64 : BitVec 32 := Scalar.addi v63 c2_i32_50
  let v65 : BitVec 32 := Scalar.addi c256_i32_51 v64
  let v66 : Index := Scalar.indexCast v65
  ![v66.toNat]
def k0_off56 (k0_t3 : Fin k0_t3_loop.trips) : Fin 3 → Nat :=
  let c256_i32_53 : BitVec 32 := 256#32
  let c0_i32_30 : BitVec 32 := 0#32
  let c1_i32_32 : BitVec 32 := 1#32
  let arg9 : BitVec 32 := Scf.iv c0_i32_30 c1_i32_32 k0_t3
  let c8_i32_49 : BitVec 32 := 8#32
  let v63 : BitVec 32 := Scalar.muli arg9 c8_i32_49
  let c2_i32_50 : BitVec 32 := 2#32
  let v64 : BitVec 32 := Scalar.addi v63 c2_i32_50
  let v69 : BitVec 32 := Scalar.addi c256_i32_53 v64
  let c0_i32_55 : BitVec 32 := 0#32
  let c0_i32_56 : BitVec 32 := 0#32
  ![v69.toNat, 0, 0]
def k0_off57 (v67 : BitVec 32) : Fin 2 → Nat :=
  let c2_i32_52 : BitVec 32 := 2#32
  let v68 : BitVec 32 := Scalar.shrsi v67 c2_i32_52
  let c0_i32_57 : BitVec 32 := 0#32
  ![v68.toNat, 0]

def k0_chk19 (i : grid0.Coords) (v67 : BitVec 32) : Prop :=
  (∀ (k0_h1 : k0_cond1 i = 1#1), ∀ a, (k0_off57 v67) a + S1x4096.size a ≤ S6272x4096.size a)
theorem k0_off57_inb : ∀ (i : grid0.Coords) (v67 : BitVec 32) (k0_hw19 : k0_chk19 i v67), ∀ (k0_h1 : k0_cond1 i = 1#1), ∀ a, (k0_off57 v67) a + S1x4096.size a ≤ S6272x4096.size a := fun i v67 k0_hw19 k0_h1 => k0_hw19 k0_h1

def k0_off58 (k0_t3 : Fin k0_t3_loop.trips) : Fin 1 → Nat :=
  let c256_i32_59 : BitVec 32 := 256#32
  let c0_i32_30 : BitVec 32 := 0#32
  let c1_i32_32 : BitVec 32 := 1#32
  let arg9 : BitVec 32 := Scf.iv c0_i32_30 c1_i32_32 k0_t3
  let c8_i32_58 : BitVec 32 := 8#32
  let v75 : BitVec 32 := Scalar.muli arg9 c8_i32_58
  let c3_i32 : BitVec 32 := 3#32
  let v76 : BitVec 32 := Scalar.addi v75 c3_i32
  let v77 : BitVec 32 := Scalar.addi c256_i32_59 v76
  let v78 : Index := Scalar.indexCast v77
  ![v78.toNat]
def k0_off59 (k0_t3 : Fin k0_t3_loop.trips) : Fin 3 → Nat :=
  let c256_i32_61 : BitVec 32 := 256#32
  let c0_i32_30 : BitVec 32 := 0#32
  let c1_i32_32 : BitVec 32 := 1#32
  let arg9 : BitVec 32 := Scf.iv c0_i32_30 c1_i32_32 k0_t3
  let c8_i32_58 : BitVec 32 := 8#32
  let v75 : BitVec 32 := Scalar.muli arg9 c8_i32_58
  let c3_i32 : BitVec 32 := 3#32
  let v76 : BitVec 32 := Scalar.addi v75 c3_i32
  let v81 : BitVec 32 := Scalar.addi c256_i32_61 v76
  let c0_i32_63 : BitVec 32 := 0#32
  let c0_i32_64 : BitVec 32 := 0#32
  ![v81.toNat, 0, 0]
def k0_off60 (v79 : BitVec 32) : Fin 2 → Nat :=
  let c2_i32_60 : BitVec 32 := 2#32
  let v80 : BitVec 32 := Scalar.shrsi v79 c2_i32_60
  let c0_i32_65 : BitVec 32 := 0#32
  ![v80.toNat, 0]

def k0_chk20 (i : grid0.Coords) (v79 : BitVec 32) : Prop :=
  (∀ (k0_h1 : k0_cond1 i = 1#1), ∀ a, (k0_off60 v79) a + S1x4096.size a ≤ S6272x4096.size a)
theorem k0_off60_inb : ∀ (i : grid0.Coords) (v79 : BitVec 32) (k0_hw20 : k0_chk20 i v79), ∀ (k0_h1 : k0_cond1 i = 1#1), ∀ a, (k0_off60 v79) a + S1x4096.size a ≤ S6272x4096.size a := fun i v79 k0_hw20 k0_h1 => k0_hw20 k0_h1

def k0_off61 (k0_t3 : Fin k0_t3_loop.trips) : Fin 1 → Nat :=
  let c256_i32_68 : BitVec 32 := 256#32
  let c0_i32_30 : BitVec 32 := 0#32
  let c1_i32_32 : BitVec 32 := 1#32
  let arg9 : BitVec 32 := Scf.iv c0_i32_30 c1_i32_32 k0_t3
  let c8_i32_66 : BitVec 32 := 8#32
  let v87 : BitVec 32 := Scalar.muli arg9 c8_i32_66
  let c4_i32_67 : BitVec 32 := 4#32
  let v88 : BitVec 32 := Scalar.addi v87 c4_i32_67
  let v89 : BitVec 32 := Scalar.addi c256_i32_68 v88
  let v90 : Index := Scalar.indexCast v89
  ![v90.toNat]
def k0_off62 (k0_t3 : Fin k0_t3_loop.trips) : Fin 3 → Nat :=
  let c256_i32_70 : BitVec 32 := 256#32
  let c0_i32_30 : BitVec 32 := 0#32
  let c1_i32_32 : BitVec 32 := 1#32
  let arg9 : BitVec 32 := Scf.iv c0_i32_30 c1_i32_32 k0_t3
  let c8_i32_66 : BitVec 32 := 8#32
  let v87 : BitVec 32 := Scalar.muli arg9 c8_i32_66
  let c4_i32_67 : BitVec 32 := 4#32
  let v88 : BitVec 32 := Scalar.addi v87 c4_i32_67
  let v93 : BitVec 32 := Scalar.addi c256_i32_70 v88
  let c0_i32_72 : BitVec 32 := 0#32
  let c0_i32_73 : BitVec 32 := 0#32
  ![v93.toNat, 0, 0]
def k0_off63 (v91 : BitVec 32) : Fin 2 → Nat :=
  let c2_i32_69 : BitVec 32 := 2#32
  let v92 : BitVec 32 := Scalar.shrsi v91 c2_i32_69
  let c0_i32_74 : BitVec 32 := 0#32
  ![v92.toNat, 0]

def k0_chk21 (i : grid0.Coords) (v91 : BitVec 32) : Prop :=
  (∀ (k0_h1 : k0_cond1 i = 1#1), ∀ a, (k0_off63 v91) a + S1x4096.size a ≤ S6272x4096.size a)
theorem k0_off63_inb : ∀ (i : grid0.Coords) (v91 : BitVec 32) (k0_hw21 : k0_chk21 i v91), ∀ (k0_h1 : k0_cond1 i = 1#1), ∀ a, (k0_off63 v91) a + S1x4096.size a ≤ S6272x4096.size a := fun i v91 k0_hw21 k0_h1 => k0_hw21 k0_h1

def k0_off64 (k0_t3 : Fin k0_t3_loop.trips) : Fin 1 → Nat :=
  let c256_i32_76 : BitVec 32 := 256#32
  let c0_i32_30 : BitVec 32 := 0#32
  let c1_i32_32 : BitVec 32 := 1#32
  let arg9 : BitVec 32 := Scf.iv c0_i32_30 c1_i32_32 k0_t3
  let c8_i32_75 : BitVec 32 := 8#32
  let v99 : BitVec 32 := Scalar.muli arg9 c8_i32_75
  let c5_i32 : BitVec 32 := 5#32
  let v100 : BitVec 32 := Scalar.addi v99 c5_i32
  let v101 : BitVec 32 := Scalar.addi c256_i32_76 v100
  let v102 : Index := Scalar.indexCast v101
  ![v102.toNat]
def k0_off65 (k0_t3 : Fin k0_t3_loop.trips) : Fin 3 → Nat :=
  let c256_i32_78 : BitVec 32 := 256#32
  let c0_i32_30 : BitVec 32 := 0#32
  let c1_i32_32 : BitVec 32 := 1#32
  let arg9 : BitVec 32 := Scf.iv c0_i32_30 c1_i32_32 k0_t3
  let c8_i32_75 : BitVec 32 := 8#32
  let v99 : BitVec 32 := Scalar.muli arg9 c8_i32_75
  let c5_i32 : BitVec 32 := 5#32
  let v100 : BitVec 32 := Scalar.addi v99 c5_i32
  let v105 : BitVec 32 := Scalar.addi c256_i32_78 v100
  let c0_i32_80 : BitVec 32 := 0#32
  let c0_i32_81 : BitVec 32 := 0#32
  ![v105.toNat, 0, 0]
def k0_off66 (v103 : BitVec 32) : Fin 2 → Nat :=
  let c2_i32_77 : BitVec 32 := 2#32
  let v104 : BitVec 32 := Scalar.shrsi v103 c2_i32_77
  let c0_i32_82 : BitVec 32 := 0#32
  ![v104.toNat, 0]

def k0_chk22 (i : grid0.Coords) (v103 : BitVec 32) : Prop :=
  (∀ (k0_h1 : k0_cond1 i = 1#1), ∀ a, (k0_off66 v103) a + S1x4096.size a ≤ S6272x4096.size a)
theorem k0_off66_inb : ∀ (i : grid0.Coords) (v103 : BitVec 32) (k0_hw22 : k0_chk22 i v103), ∀ (k0_h1 : k0_cond1 i = 1#1), ∀ a, (k0_off66 v103) a + S1x4096.size a ≤ S6272x4096.size a := fun i v103 k0_hw22 k0_h1 => k0_hw22 k0_h1

def k0_off67 (k0_t3 : Fin k0_t3_loop.trips) : Fin 1 → Nat :=
  let c256_i32_84 : BitVec 32 := 256#32
  let c0_i32_30 : BitVec 32 := 0#32
  let c1_i32_32 : BitVec 32 := 1#32
  let arg9 : BitVec 32 := Scf.iv c0_i32_30 c1_i32_32 k0_t3
  let c8_i32_83 : BitVec 32 := 8#32
  let v111 : BitVec 32 := Scalar.muli arg9 c8_i32_83
  let c6_i32 : BitVec 32 := 6#32
  let v112 : BitVec 32 := Scalar.addi v111 c6_i32
  let v113 : BitVec 32 := Scalar.addi c256_i32_84 v112
  let v114 : Index := Scalar.indexCast v113
  ![v114.toNat]
def k0_off68 (k0_t3 : Fin k0_t3_loop.trips) : Fin 3 → Nat :=
  let c256_i32_86 : BitVec 32 := 256#32
  let c0_i32_30 : BitVec 32 := 0#32
  let c1_i32_32 : BitVec 32 := 1#32
  let arg9 : BitVec 32 := Scf.iv c0_i32_30 c1_i32_32 k0_t3
  let c8_i32_83 : BitVec 32 := 8#32
  let v111 : BitVec 32 := Scalar.muli arg9 c8_i32_83
  let c6_i32 : BitVec 32 := 6#32
  let v112 : BitVec 32 := Scalar.addi v111 c6_i32
  let v117 : BitVec 32 := Scalar.addi c256_i32_86 v112
  let c0_i32_88 : BitVec 32 := 0#32
  let c0_i32_89 : BitVec 32 := 0#32
  ![v117.toNat, 0, 0]
def k0_off69 (v115 : BitVec 32) : Fin 2 → Nat :=
  let c2_i32_85 : BitVec 32 := 2#32
  let v116 : BitVec 32 := Scalar.shrsi v115 c2_i32_85
  let c0_i32_90 : BitVec 32 := 0#32
  ![v116.toNat, 0]

def k0_chk23 (i : grid0.Coords) (v115 : BitVec 32) : Prop :=
  (∀ (k0_h1 : k0_cond1 i = 1#1), ∀ a, (k0_off69 v115) a + S1x4096.size a ≤ S6272x4096.size a)
theorem k0_off69_inb : ∀ (i : grid0.Coords) (v115 : BitVec 32) (k0_hw23 : k0_chk23 i v115), ∀ (k0_h1 : k0_cond1 i = 1#1), ∀ a, (k0_off69 v115) a + S1x4096.size a ≤ S6272x4096.size a := fun i v115 k0_hw23 k0_h1 => k0_hw23 k0_h1

def k0_off70 (k0_t3 : Fin k0_t3_loop.trips) : Fin 1 → Nat :=
  let c256_i32_92 : BitVec 32 := 256#32
  let c0_i32_30 : BitVec 32 := 0#32
  let c1_i32_32 : BitVec 32 := 1#32
  let arg9 : BitVec 32 := Scf.iv c0_i32_30 c1_i32_32 k0_t3
  let c8_i32_91 : BitVec 32 := 8#32
  let v123 : BitVec 32 := Scalar.muli arg9 c8_i32_91
  let c7_i32 : BitVec 32 := 7#32
  let v124 : BitVec 32 := Scalar.addi v123 c7_i32
  let v125 : BitVec 32 := Scalar.addi c256_i32_92 v124
  let v126 : Index := Scalar.indexCast v125
  ![v126.toNat]
def k0_off71 (k0_t3 : Fin k0_t3_loop.trips) : Fin 3 → Nat :=
  let c256_i32_94 : BitVec 32 := 256#32
  let c0_i32_30 : BitVec 32 := 0#32
  let c1_i32_32 : BitVec 32 := 1#32
  let arg9 : BitVec 32 := Scf.iv c0_i32_30 c1_i32_32 k0_t3
  let c8_i32_91 : BitVec 32 := 8#32
  let v123 : BitVec 32 := Scalar.muli arg9 c8_i32_91
  let c7_i32 : BitVec 32 := 7#32
  let v124 : BitVec 32 := Scalar.addi v123 c7_i32
  let v129 : BitVec 32 := Scalar.addi c256_i32_94 v124
  let c0_i32_96 : BitVec 32 := 0#32
  let c0_i32_97 : BitVec 32 := 0#32
  ![v129.toNat, 0, 0]
def k0_off72 (v127 : BitVec 32) : Fin 2 → Nat :=
  let c2_i32_93 : BitVec 32 := 2#32
  let v128 : BitVec 32 := Scalar.shrsi v127 c2_i32_93
  let c0_i32_98 : BitVec 32 := 0#32
  ![v128.toNat, 0]

def k0_chk24 (i : grid0.Coords) (v127 : BitVec 32) : Prop :=
  (∀ (k0_h1 : k0_cond1 i = 1#1), ∀ a, (k0_off72 v127) a + S1x4096.size a ≤ S6272x4096.size a)
theorem k0_off72_inb : ∀ (i : grid0.Coords) (v127 : BitVec 32) (k0_hw24 : k0_chk24 i v127), ∀ (k0_h1 : k0_cond1 i = 1#1), ∀ a, (k0_off72 v127) a + S1x4096.size a ≤ S6272x4096.size a := fun i v127 k0_hw24 k0_h1 => k0_hw24 k0_h1

def k0_cond2 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

@[reducible] def k0_t4_loop : Scf.Loop 32 :=
  let c0_i32_31 : BitVec 32 := 0#32
  let c16_i32_32 : BitVec 32 := 16#32
  let v49 : BitVec 32 := Scalar.addi c0_i32_31 c16_i32_32
  let c1_i32_33 : BitVec 32 := 1#32
  ⟨c0_i32_31, v49, c1_i32_33⟩
def k0_off73 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_36 : BitVec 32 := 128#32
  let v52 : BitVec 32 := Scalar.muli v37 c128_i32_36
  let c0_i32_31 : BitVec 32 := 0#32
  let c1_i32_33 : BitVec 32 := 1#32
  let arg9 : BitVec 32 := Scf.iv c0_i32_31 c1_i32_33 k0_t4
  let c8_i32 : BitVec 32 := 8#32
  let v50 : BitVec 32 := Scalar.muli arg9 c8_i32
  let c0_i32_35 : BitVec 32 := 0#32
  let v51 : BitVec 32 := Scalar.addi v50 c0_i32_35
  let v53 : BitVec 32 := Scalar.addi v52 v51
  let v54 : Index := Scalar.indexCast v53
  ![v54.toNat]
def k0_off74 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_37 : BitVec 32 := 4#32
  let c0_i32_38 : BitVec 32 := 0#32
  let v58 : BitVec 1 := Scalar.cmpi .eq c4_i32_37 c0_i32_38
  let c1_i32_39 : BitVec 32 := 1#32
  let v59 : BitVec 32 := Scalar.select v58 c1_i32_39 c4_i32_37
  let v60 : BitVec 32 := Scalar.remsi v37 v59
  let c0_i32_41 : BitVec 32 := 0#32
  let v62 : BitVec 1 := Scalar.cmpi .slt v60 c0_i32_41
  let c0_i32_42 : BitVec 32 := 0#32
  let v63 : BitVec 1 := Scalar.cmpi .slt v59 c0_i32_42
  let v64 : BitVec 1 := Scalar.xori v62 v63
  let c0_i32_40 : BitVec 32 := 0#32
  let v61 : BitVec 1 := Scalar.cmpi .ne v60 c0_i32_40
  let v65 : BitVec 1 := Scalar.andi v64 v61
  let v66 : BitVec 32 := Scalar.addi v60 v59
  let v67 : BitVec 32 := Scalar.select v65 v66 v60
  ![v67.toNat]
def k0_off75 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32 : BitVec 32 := 8#32
  let v50 : BitVec 32 := Scalar.muli arg9 c8_i32
  let c0_i32_35 : BitVec 32 := 0#32
  let v51 : BitVec 32 := Scalar.addi v50 c0_i32_35
  let v57 : BitVec 32 := Scalar.addi v48 v51
  let c0_i32_43 : BitVec 32 := 0#32
  let c0_i32_44 : BitVec 32 := 0#32
  ![v57.toNat, 0, 0]
def k0_off76 (v55 : BitVec 32) : Fin 2 → Nat :=
  let c2_i32 : BitVec 32 := 2#32
  let v56 : BitVec 32 := Scalar.shrsi v55 c2_i32
  let c0_i32_45 : BitVec 32 := 0#32
  ![v56.toNat, 0]

def k0_chk25 (i : grid0.Coords) (v55 : BitVec 32) : Prop :=
  (∀ (k0_h2 : k0_cond2 i = 1#1), ∀ a, (k0_off76 v55) a + S1x4096.size a ≤ S6272x4096.size a)
theorem k0_off76_inb : ∀ (i : grid0.Coords) (v55 : BitVec 32) (k0_hw25 : k0_chk25 i v55), ∀ (k0_h2 : k0_cond2 i = 1#1), ∀ a, (k0_off76 v55) a + S1x4096.size a ≤ S6272x4096.size a := fun i v55 k0_hw25 k0_h2 => k0_hw25 k0_h2

def k0_off77 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_48 : BitVec 32 := 128#32
  let v75 : BitVec 32 := Scalar.muli v37 c128_i32_48
  let c0_i32_31 : BitVec 32 := 0#32
  let c1_i32_33 : BitVec 32 := 1#32
  let arg9 : BitVec 32 := Scf.iv c0_i32_31 c1_i32_33 k0_t4
  let c8_i32_46 : BitVec 32 := 8#32
  let v73 : BitVec 32 := Scalar.muli arg9 c8_i32_46
  let c1_i32_47 : BitVec 32 := 1#32
  let v74 : BitVec 32 := Scalar.addi v73 c1_i32_47
  let v76 : BitVec 32 := Scalar.addi v75 v74
  let v77 : Index := Scalar.indexCast v76
  ![v77.toNat]
def k0_off78 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_50 : BitVec 32 := 4#32
  let c0_i32_51 : BitVec 32 := 0#32
  let v81 : BitVec 1 := Scalar.cmpi .eq c4_i32_50 c0_i32_51
  let c1_i32_52 : BitVec 32 := 1#32
  let v82 : BitVec 32 := Scalar.select v81 c1_i32_52 c4_i32_50
  let v83 : BitVec 32 := Scalar.remsi v37 v82
  let c0_i32_54 : BitVec 32 := 0#32
  let v85 : BitVec 1 := Scalar.cmpi .slt v83 c0_i32_54
  let c0_i32_55 : BitVec 32 := 0#32
  let v86 : BitVec 1 := Scalar.cmpi .slt v82 c0_i32_55
  let v87 : BitVec 1 := Scalar.xori v85 v86
  let c0_i32_53 : BitVec 32 := 0#32
  let v84 : BitVec 1 := Scalar.cmpi .ne v83 c0_i32_53
  let v88 : BitVec 1 := Scalar.andi v87 v84
  let v89 : BitVec 32 := Scalar.addi v83 v82
  let v90 : BitVec 32 := Scalar.select v88 v89 v83
  ![v90.toNat]
def k0_off79 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_46 : BitVec 32 := 8#32
  let v73 : BitVec 32 := Scalar.muli arg9 c8_i32_46
  let c1_i32_47 : BitVec 32 := 1#32
  let v74 : BitVec 32 := Scalar.addi v73 c1_i32_47
  let v80 : BitVec 32 := Scalar.addi v48 v74
  let c0_i32_56 : BitVec 32 := 0#32
  let c0_i32_57 : BitVec 32 := 0#32
  ![v80.toNat, 0, 0]
def k0_off80 (v78 : BitVec 32) : Fin 2 → Nat :=
  let c2_i32_49 : BitVec 32 := 2#32
  let v79 : BitVec 32 := Scalar.shrsi v78 c2_i32_49
  let c0_i32_58 : BitVec 32 := 0#32
  ![v79.toNat, 0]

def k0_chk26 (i : grid0.Coords) (v78 : BitVec 32) : Prop :=
  (∀ (k0_h2 : k0_cond2 i = 1#1), ∀ a, (k0_off80 v78) a + S1x4096.size a ≤ S6272x4096.size a)
theorem k0_off80_inb : ∀ (i : grid0.Coords) (v78 : BitVec 32) (k0_hw26 : k0_chk26 i v78), ∀ (k0_h2 : k0_cond2 i = 1#1), ∀ a, (k0_off80 v78) a + S1x4096.size a ≤ S6272x4096.size a := fun i v78 k0_hw26 k0_h2 => k0_hw26 k0_h2

def k0_off81 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_61 : BitVec 32 := 128#32
  let v98 : BitVec 32 := Scalar.muli v37 c128_i32_61
  let c0_i32_31 : BitVec 32 := 0#32
  let c1_i32_33 : BitVec 32 := 1#32
  let arg9 : BitVec 32 := Scf.iv c0_i32_31 c1_i32_33 k0_t4
  let c8_i32_59 : BitVec 32 := 8#32
  let v96 : BitVec 32 := Scalar.muli arg9 c8_i32_59
  let c2_i32_60 : BitVec 32 := 2#32
  let v97 : BitVec 32 := Scalar.addi v96 c2_i32_60
  let v99 : BitVec 32 := Scalar.addi v98 v97
  let v100 : Index := Scalar.indexCast v99
  ![v100.toNat]
def k0_off82 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_63 : BitVec 32 := 4#32
  let c0_i32_64 : BitVec 32 := 0#32
  let v104 : BitVec 1 := Scalar.cmpi .eq c4_i32_63 c0_i32_64
  let c1_i32_65 : BitVec 32 := 1#32
  let v105 : BitVec 32 := Scalar.select v104 c1_i32_65 c4_i32_63
  let v106 : BitVec 32 := Scalar.remsi v37 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  ![v113.toNat]
def k0_off83 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_59 : BitVec 32 := 8#32
  let v96 : BitVec 32 := Scalar.muli arg9 c8_i32_59
  let c2_i32_60 : BitVec 32 := 2#32
  let v97 : BitVec 32 := Scalar.addi v96 c2_i32_60
  let v103 : BitVec 32 := Scalar.addi v48 v97
  let c0_i32_69 : BitVec 32 := 0#32
  let c0_i32_70 : BitVec 32 := 0#32
  ![v103.toNat, 0, 0]
def k0_off84 (v101 : BitVec 32) : Fin 2 → Nat :=
  let c2_i32_62 : BitVec 32 := 2#32
  let v102 : BitVec 32 := Scalar.shrsi v101 c2_i32_62
  let c0_i32_71 : BitVec 32 := 0#32
  ![v102.toNat, 0]

def k0_chk27 (i : grid0.Coords) (v101 : BitVec 32) : Prop :=
  (∀ (k0_h2 : k0_cond2 i = 1#1), ∀ a, (k0_off84 v101) a + S1x4096.size a ≤ S6272x4096.size a)
theorem k0_off84_inb : ∀ (i : grid0.Coords) (v101 : BitVec 32) (k0_hw27 : k0_chk27 i v101), ∀ (k0_h2 : k0_cond2 i = 1#1), ∀ a, (k0_off84 v101) a + S1x4096.size a ≤ S6272x4096.size a := fun i v101 k0_hw27 k0_h2 => k0_hw27 k0_h2

def k0_off85 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_73 : BitVec 32 := 128#32
  let v121 : BitVec 32 := Scalar.muli v37 c128_i32_73
  let c0_i32_31 : BitVec 32 := 0#32
  let c1_i32_33 : BitVec 32 := 1#32
  let arg9 : BitVec 32 := Scf.iv c0_i32_31 c1_i32_33 k0_t4
  let c8_i32_72 : BitVec 32 := 8#32
  let v119 : BitVec 32 := Scalar.muli arg9 c8_i32_72
  let c3_i32 : BitVec 32 := 3#32
  let v120 : BitVec 32 := Scalar.addi v119 c3_i32
  let v122 : BitVec 32 := Scalar.addi v121 v120
  let v123 : Index := Scalar.indexCast v122
  ![v123.toNat]
def k0_off86 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_75 : BitVec 32 := 4#32
  let c0_i32_76 : BitVec 32 := 0#32
  let v127 : BitVec 1 := Scalar.cmpi .eq c4_i32_75 c0_i32_76
  let c1_i32_77 : BitVec 32 := 1#32
  let v128 : BitVec 32 := Scalar.select v127 c1_i32_77 c4_i32_75
  let v129 : BitVec 32 := Scalar.remsi v37 v128
  let c0_i32_79 : BitVec 32 := 0#32
  let v131 : BitVec 1 := Scalar.cmpi .slt v129 c0_i32_79
  let c0_i32_80 : BitVec 32 := 0#32
  let v132 : BitVec 1 := Scalar.cmpi .slt v128 c0_i32_80
  let v133 : BitVec 1 := Scalar.xori v131 v132
  let c0_i32_78 : BitVec 32 := 0#32
  let v130 : BitVec 1 := Scalar.cmpi .ne v129 c0_i32_78
  let v134 : BitVec 1 := Scalar.andi v133 v130
  let v135 : BitVec 32 := Scalar.addi v129 v128
  let v136 : BitVec 32 := Scalar.select v134 v135 v129
  ![v136.toNat]
def k0_off87 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_72 : BitVec 32 := 8#32
  let v119 : BitVec 32 := Scalar.muli arg9 c8_i32_72
  let c3_i32 : BitVec 32 := 3#32
  let v120 : BitVec 32 := Scalar.addi v119 c3_i32
  let v126 : BitVec 32 := Scalar.addi v48 v120
  let c0_i32_81 : BitVec 32 := 0#32
  let c0_i32_82 : BitVec 32 := 0#32
  ![v126.toNat, 0, 0]
def k0_off88 (v124 : BitVec 32) : Fin 2 → Nat :=
  let c2_i32_74 : BitVec 32 := 2#32
  let v125 : BitVec 32 := Scalar.shrsi v124 c2_i32_74
  let c0_i32_83 : BitVec 32 := 0#32
  ![v125.toNat, 0]

def k0_chk28 (i : grid0.Coords) (v124 : BitVec 32) : Prop :=
  (∀ (k0_h2 : k0_cond2 i = 1#1), ∀ a, (k0_off88 v124) a + S1x4096.size a ≤ S6272x4096.size a)
theorem k0_off88_inb : ∀ (i : grid0.Coords) (v124 : BitVec 32) (k0_hw28 : k0_chk28 i v124), ∀ (k0_h2 : k0_cond2 i = 1#1), ∀ a, (k0_off88 v124) a + S1x4096.size a ≤ S6272x4096.size a := fun i v124 k0_hw28 k0_h2 => k0_hw28 k0_h2

def k0_off89 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_86 : BitVec 32 := 128#32
  let v144 : BitVec 32 := Scalar.muli v37 c128_i32_86
  let c0_i32_31 : BitVec 32 := 0#32
  let c1_i32_33 : BitVec 32 := 1#32
  let arg9 : BitVec 32 := Scf.iv c0_i32_31 c1_i32_33 k0_t4
  let c8_i32_84 : BitVec 32 := 8#32
  let v142 : BitVec 32 := Scalar.muli arg9 c8_i32_84
  let c4_i32_85 : BitVec 32 := 4#32
  let v143 : BitVec 32 := Scalar.addi v142 c4_i32_85
  let v145 : BitVec 32 := Scalar.addi v144 v143
  let v146 : Index := Scalar.indexCast v145
  ![v146.toNat]
def k0_off90 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_88 : BitVec 32 := 4#32
  let c0_i32_89 : BitVec 32 := 0#32
  let v150 : BitVec 1 := Scalar.cmpi .eq c4_i32_88 c0_i32_89
  let c1_i32_90 : BitVec 32 := 1#32
  let v151 : BitVec 32 := Scalar.select v150 c1_i32_90 c4_i32_88
  let v152 : BitVec 32 := Scalar.remsi v37 v151
  let c0_i32_92 : BitVec 32 := 0#32
  let v154 : BitVec 1 := Scalar.cmpi .slt v152 c0_i32_92
  let c0_i32_93 : BitVec 32 := 0#32
  let v155 : BitVec 1 := Scalar.cmpi .slt v151 c0_i32_93
  let v156 : BitVec 1 := Scalar.xori v154 v155
  let c0_i32_91 : BitVec 32 := 0#32
  let v153 : BitVec 1 := Scalar.cmpi .ne v152 c0_i32_91
  let v157 : BitVec 1 := Scalar.andi v156 v153
  let v158 : BitVec 32 := Scalar.addi v152 v151
  let v159 : BitVec 32 := Scalar.select v157 v158 v152
  ![v159.toNat]
def k0_off91 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_84 : BitVec 32 := 8#32
  let v142 : BitVec 32 := Scalar.muli arg9 c8_i32_84
  let c4_i32_85 : BitVec 32 := 4#32
  let v143 : BitVec 32 := Scalar.addi v142 c4_i32_85
  let v149 : BitVec 32 := Scalar.addi v48 v143
  let c0_i32_94 : BitVec 32 := 0#32
  let c0_i32_95 : BitVec 32 := 0#32
  ![v149.toNat, 0, 0]
def k0_off92 (v147 : BitVec 32) : Fin 2 → Nat :=
  let c2_i32_87 : BitVec 32 := 2#32
  let v148 : BitVec 32 := Scalar.shrsi v147 c2_i32_87
  let c0_i32_96 : BitVec 32 := 0#32
  ![v148.toNat, 0]

def k0_chk29 (i : grid0.Coords) (v147 : BitVec 32) : Prop :=
  (∀ (k0_h2 : k0_cond2 i = 1#1), ∀ a, (k0_off92 v147) a + S1x4096.size a ≤ S6272x4096.size a)
theorem k0_off92_inb : ∀ (i : grid0.Coords) (v147 : BitVec 32) (k0_hw29 : k0_chk29 i v147), ∀ (k0_h2 : k0_cond2 i = 1#1), ∀ a, (k0_off92 v147) a + S1x4096.size a ≤ S6272x4096.size a := fun i v147 k0_hw29 k0_h2 => k0_hw29 k0_h2

def k0_off93 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_98 : BitVec 32 := 128#32
  let v167 : BitVec 32 := Scalar.muli v37 c128_i32_98
  let c0_i32_31 : BitVec 32 := 0#32
  let c1_i32_33 : BitVec 32 := 1#32
  let arg9 : BitVec 32 := Scf.iv c0_i32_31 c1_i32_33 k0_t4
  let c8_i32_97 : BitVec 32 := 8#32
  let v165 : BitVec 32 := Scalar.muli arg9 c8_i32_97
  let c5_i32 : BitVec 32 := 5#32
  let v166 : BitVec 32 := Scalar.addi v165 c5_i32
  let v168 : BitVec 32 := Scalar.addi v167 v166
  let v169 : Index := Scalar.indexCast v168
  ![v169.toNat]
def k0_off94 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_100 : BitVec 32 := 4#32
  let c0_i32_101 : BitVec 32 := 0#32
  let v173 : BitVec 1 := Scalar.cmpi .eq c4_i32_100 c0_i32_101
  let c1_i32_102 : BitVec 32 := 1#32
  let v174 : BitVec 32 := Scalar.select v173 c1_i32_102 c4_i32_100
  let v175 : BitVec 32 := Scalar.remsi v37 v174
  let c0_i32_104 : BitVec 32 := 0#32
  let v177 : BitVec 1 := Scalar.cmpi .slt v175 c0_i32_104
  let c0_i32_105 : BitVec 32 := 0#32
  let v178 : BitVec 1 := Scalar.cmpi .slt v174 c0_i32_105
  let v179 : BitVec 1 := Scalar.xori v177 v178
  let c0_i32_103 : BitVec 32 := 0#32
  let v176 : BitVec 1 := Scalar.cmpi .ne v175 c0_i32_103
  let v180 : BitVec 1 := Scalar.andi v179 v176
  let v181 : BitVec 32 := Scalar.addi v175 v174
  let v182 : BitVec 32 := Scalar.select v180 v181 v175
  ![v182.toNat]
def k0_off95 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_97 : BitVec 32 := 8#32
  let v165 : BitVec 32 := Scalar.muli arg9 c8_i32_97
  let c5_i32 : BitVec 32 := 5#32
  let v166 : BitVec 32 := Scalar.addi v165 c5_i32
  let v172 : BitVec 32 := Scalar.addi v48 v166
  let c0_i32_106 : BitVec 32 := 0#32
  let c0_i32_107 : BitVec 32 := 0#32
  ![v172.toNat, 0, 0]
def k0_off96 (v170 : BitVec 32) : Fin 2 → Nat :=
  let c2_i32_99 : BitVec 32 := 2#32
  let v171 : BitVec 32 := Scalar.shrsi v170 c2_i32_99
  let c0_i32_108 : BitVec 32 := 0#32
  ![v171.toNat, 0]

def k0_chk30 (i : grid0.Coords) (v170 : BitVec 32) : Prop :=
  (∀ (k0_h2 : k0_cond2 i = 1#1), ∀ a, (k0_off96 v170) a + S1x4096.size a ≤ S6272x4096.size a)
theorem k0_off96_inb : ∀ (i : grid0.Coords) (v170 : BitVec 32) (k0_hw30 : k0_chk30 i v170), ∀ (k0_h2 : k0_cond2 i = 1#1), ∀ a, (k0_off96 v170) a + S1x4096.size a ≤ S6272x4096.size a := fun i v170 k0_hw30 k0_h2 => k0_hw30 k0_h2

def k0_off97 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_110 : BitVec 32 := 128#32
  let v190 : BitVec 32 := Scalar.muli v37 c128_i32_110
  let c0_i32_31 : BitVec 32 := 0#32
  let c1_i32_33 : BitVec 32 := 1#32
  let arg9 : BitVec 32 := Scf.iv c0_i32_31 c1_i32_33 k0_t4
  let c8_i32_109 : BitVec 32 := 8#32
  let v188 : BitVec 32 := Scalar.muli arg9 c8_i32_109
  let c6_i32 : BitVec 32 := 6#32
  let v189 : BitVec 32 := Scalar.addi v188 c6_i32
  let v191 : BitVec 32 := Scalar.addi v190 v189
  let v192 : Index := Scalar.indexCast v191
  ![v192.toNat]
def k0_off98 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_112 : BitVec 32 := 4#32
  let c0_i32_113 : BitVec 32 := 0#32
  let v196 : BitVec 1 := Scalar.cmpi .eq c4_i32_112 c0_i32_113
  let c1_i32_114 : BitVec 32 := 1#32
  let v197 : BitVec 32 := Scalar.select v196 c1_i32_114 c4_i32_112
  let v198 : BitVec 32 := Scalar.remsi v37 v197
  let c0_i32_116 : BitVec 32 := 0#32
  let v200 : BitVec 1 := Scalar.cmpi .slt v198 c0_i32_116
  let c0_i32_117 : BitVec 32 := 0#32
  let v201 : BitVec 1 := Scalar.cmpi .slt v197 c0_i32_117
  let v202 : BitVec 1 := Scalar.xori v200 v201
  let c0_i32_115 : BitVec 32 := 0#32
  let v199 : BitVec 1 := Scalar.cmpi .ne v198 c0_i32_115
  let v203 : BitVec 1 := Scalar.andi v202 v199
  let v204 : BitVec 32 := Scalar.addi v198 v197
  let v205 : BitVec 32 := Scalar.select v203 v204 v198
  ![v205.toNat]
def k0_off99 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_109 : BitVec 32 := 8#32
  let v188 : BitVec 32 := Scalar.muli arg9 c8_i32_109
  let c6_i32 : BitVec 32 := 6#32
  let v189 : BitVec 32 := Scalar.addi v188 c6_i32
  let v195 : BitVec 32 := Scalar.addi v48 v189
  let c0_i32_118 : BitVec 32 := 0#32
  let c0_i32_119 : BitVec 32 := 0#32
  ![v195.toNat, 0, 0]
def k0_off100 (v193 : BitVec 32) : Fin 2 → Nat :=
  let c2_i32_111 : BitVec 32 := 2#32
  let v194 : BitVec 32 := Scalar.shrsi v193 c2_i32_111
  let c0_i32_120 : BitVec 32 := 0#32
  ![v194.toNat, 0]

def k0_chk31 (i : grid0.Coords) (v193 : BitVec 32) : Prop :=
  (∀ (k0_h2 : k0_cond2 i = 1#1), ∀ a, (k0_off100 v193) a + S1x4096.size a ≤ S6272x4096.size a)
theorem k0_off100_inb : ∀ (i : grid0.Coords) (v193 : BitVec 32) (k0_hw31 : k0_chk31 i v193), ∀ (k0_h2 : k0_cond2 i = 1#1), ∀ a, (k0_off100 v193) a + S1x4096.size a ≤ S6272x4096.size a := fun i v193 k0_hw31 k0_h2 => k0_hw31 k0_h2

def k0_off101 (i : grid0.Coords) (k0_t4 : Fin k0_t4_loop.trips) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c128_i32_122 : BitVec 32 := 128#32
  let v213 : BitVec 32 := Scalar.muli v37 c128_i32_122
  let c0_i32_31 : BitVec 32 := 0#32
  let c1_i32_33 : BitVec 32 := 1#32
  let arg9 : BitVec 32 := Scf.iv c0_i32_31 c1_i32_33 k0_t4
  let c8_i32_121 : BitVec 32 := 8#32
  let v211 : BitVec 32 := Scalar.muli arg9 c8_i32_121
  let c7_i32 : BitVec 32 := 7#32
  let v212 : BitVec 32 := Scalar.addi v211 c7_i32
  let v214 : BitVec 32 := Scalar.addi v213 v212
  let v215 : Index := Scalar.indexCast v214
  ![v215.toNat]
def k0_off102 (i : grid0.Coords) : Fin 1 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_124 : BitVec 32 := 4#32
  let c0_i32_125 : BitVec 32 := 0#32
  let v219 : BitVec 1 := Scalar.cmpi .eq c4_i32_124 c0_i32_125
  let c1_i32_126 : BitVec 32 := 1#32
  let v220 : BitVec 32 := Scalar.select v219 c1_i32_126 c4_i32_124
  let v221 : BitVec 32 := Scalar.remsi v37 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  ![v228.toNat]
def k0_off103 (i : grid0.Coords) (k0_t4 : Fin k0_t4_loop.trips) : Fin 3 → Nat :=
  let arg0 : BitVec 32 := BitVec.ofNat 32 (i 0).val
  let c4_i32_22 : BitVec 32 := 4#32
  let v36 : BitVec 32 := Scalar.addi arg0 c4_i32_22
  let c1_i32_23 : BitVec 32 := 1#32
  let v37 : BitVec 32 := Scalar.subi v36 c1_i32_23
  let c4_i32_24 : BitVec 32 := 4#32
  let c0_i32_25 : BitVec 32 := 0#32
  let v38 : BitVec 1 := Scalar.cmpi .eq c4_i32_24 c0_i32_25
  let c1_i32_26 : BitVec 32 := 1#32
  let v39 : BitVec 32 := Scalar.select v38 c1_i32_26 c4_i32_24
  let v40 : BitVec 32 := Scalar.remsi v37 v39
  let c0_i32_28 : BitVec 32 := 0#32
  let v42 : BitVec 1 := Scalar.cmpi .slt v40 c0_i32_28
  let c0_i32_29 : BitVec 32 := 0#32
  let v43 : BitVec 1 := Scalar.cmpi .slt v39 c0_i32_29
  let v44 : BitVec 1 := Scalar.xori v42 v43
  let c0_i32_27 : BitVec 32 := 0#32
  let v41 : BitVec 1 := Scalar.cmpi .ne v40 c0_i32_27
  let v45 : BitVec 1 := Scalar.andi v44 v41
  let v46 : BitVec 32 := Scalar.addi v40 v39
  let v47 : BitVec 32 := Scalar.select v45 v46 v40
  let c128_i32_30 : BitVec 32 := 128#32
  let v48 : BitVec 32 := Scalar.muli v47 c128_i32_30
  let c0_i32_31 : BitVec 32 := 0#32
  let c1_i32_33 : BitVec 32 := 1#32
  let arg9 : BitVec 32 := Scf.iv c0_i32_31 c1_i32_33 k0_t4
  let c8_i32_121 : BitVec 32 := 8#32
  let v211 : BitVec 32 := Scalar.muli arg9 c8_i32_121
  let c7_i32 : BitVec 32 := 7#32
  let v212 : BitVec 32 := Scalar.addi v211 c7_i32
  let v218 : BitVec 32 := Scalar.addi v48 v212
  let c0_i32_130 : BitVec 32 := 0#32
  let c0_i32_131 : BitVec 32 := 0#32
  ![v218.toNat, 0, 0]
def k0_off104 (v216 : BitVec 32) : Fin 2 → Nat :=
  let c2_i32_123 : BitVec 32 := 2#32
  let v217 : BitVec 32 := Scalar.shrsi v216 c2_i32_123
  let c0_i32_132 : BitVec 32 := 0#32
  ![v217.toNat, 0]

def k0_chk32 (i : grid0.Coords) (v216 : BitVec 32) : Prop :=
  (∀ (k0_h2 : k0_cond2 i = 1#1), ∀ a, (k0_off104 v216) a + S1x4096.size a ≤ S6272x4096.size a)
theorem k0_off104_inb : ∀ (i : grid0.Coords) (v216 : BitVec 32) (k0_hw32 : k0_chk32 i v216), ∀ (k0_h2 : k0_cond2 i = 1#1), ∀ a, (k0_off104 v216) a + S1x4096.size a ≤ S6272x4096.size a := fun i v216 k0_hw32 k0_h2 => k0_hw32 k0_h2

def k0_off105 (i : grid0.Coords) : Fin 1 → Nat :=
  let arg0 : BitVec 32 := BitVec.ofNat 32 (i 0).val
  let c4_i32_8 : BitVec 32 := 4#32
  let c0_i32_9 : BitVec 32 := 0#32
  let v19 : BitVec 1 := Scalar.cmpi .eq c4_i32_8 c0_i32_9
  let c1_i32_10 : BitVec 32 := 1#32
  let v20 : BitVec 32 := Scalar.select v19 c1_i32_10 c4_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  ![v28.toNat]
def k0_off106 (i : grid0.Coords) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_14 : BitVec 32 := 0#32
  let c0_i32_15 : BitVec 32 := 0#32
  ![v18.toNat, 0, 0]
@[reducible] def k0_t5_loop : Scf.Loop 32 :=
  let c0_i32_19 : BitVec 32 := 0#32
  let c16_i32 : BitVec 32 := 16#32
  let v35 : BitVec 32 := Scalar.addi c0_i32_19 c16_i32
  let c1_i32_20 : BitVec 32 := 1#32
  ⟨c0_i32_19, v35, c1_i32_20⟩
def k0_off107 (i : grid0.Coords) (k0_t5 : Fin k0_t5_loop.trips) : Fin 1 → Nat :=
  let arg0 : BitVec 32 := BitVec.ofNat 32 (i 0).val
  let c128_i32_24 : BitVec 32 := 128#32
  let v39 : BitVec 32 := Scalar.muli arg0 c128_i32_24
  let c0_i32_19 : BitVec 32 := 0#32
  let c1_i32_20 : BitVec 32 := 1#32
  let arg9 : BitVec 32 := Scf.iv c0_i32_19 c1_i32_20 k0_t5
  let c8_i32 : BitVec 32 := 8#32
  let v36 : BitVec 32 := Scalar.muli arg9 c8_i32
  let c0_i32_22 : BitVec 32 := 0#32
  let v37 : BitVec 32 := Scalar.addi v36 c0_i32_22
  let c0_i32_23 : BitVec 32 := 0#32
  let v38 : BitVec 32 := Scalar.addi v37 c0_i32_23
  let v40 : BitVec 32 := Scalar.addi v39 v38
  let v41 : Index := Scalar.indexCast v40
  ![v41.toNat]
def k0_off108 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32 : BitVec 32 := 8#32
  let v36 : BitVec 32 := Scalar.muli arg9 c8_i32
  let c0_i32_22 : BitVec 32 := 0#32
  let v37 : BitVec 32 := Scalar.addi v36 c0_i32_22
  let c0_i32_23 : BitVec 32 := 0#32
  let v38 : BitVec 32 := Scalar.addi v37 c0_i32_23
  let v43 : BitVec 32 := Scalar.addi v18 v38
  let v44 : Index := Scalar.indexCast v43
  let c0_25 : Index := 0#32
  let c0_26 : Index := 0#32
  ![v44.toNat, 0, 0]
def k0_off109 (v42 : BitVec 32) : Fin 1 → Nat :=
  let v55 : Index := Scalar.indexCast v42
  ![v55.toNat]

def k0_chk33 (v42 : BitVec 32) : Prop :=
  (∀ a, (k0_off109 v42) a + S1.size a ≤ S25088.size a)
theorem k0_off109_inb : ∀ (v42 : BitVec 32) (k0_hw33 : k0_chk33 v42), ∀ a, (k0_off109 v42) a + S1.size a ≤ S25088.size a := fun v42 k0_hw33 => k0_hw33

def k0_off110 (i : grid0.Coords) (k0_t5 : Fin k0_t5_loop.trips) : Fin 1 → Nat :=
  let arg0 : BitVec 32 := BitVec.ofNat 32 (i 0).val
  let c128_i32_32 : BitVec 32 := 128#32
  let v61 : BitVec 32 := Scalar.muli arg0 c128_i32_32
  let c0_i32_19 : BitVec 32 := 0#32
  let c1_i32_20 : BitVec 32 := 1#32
  let arg9 : BitVec 32 := Scf.iv c0_i32_19 c1_i32_20 k0_t5
  let c8_i32_29 : BitVec 32 := 8#32
  let v58 : BitVec 32 := Scalar.muli arg9 c8_i32_29
  let c0_i32_30 : BitVec 32 := 0#32
  let v59 : BitVec 32 := Scalar.addi v58 c0_i32_30
  let c1_i32_31 : BitVec 32 := 1#32
  let v60 : BitVec 32 := Scalar.addi v59 c1_i32_31
  let v62 : BitVec 32 := Scalar.addi v61 v60
  let v63 : Index := Scalar.indexCast v62
  ![v63.toNat]
def k0_off111 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_29 : BitVec 32 := 8#32
  let v58 : BitVec 32 := Scalar.muli arg9 c8_i32_29
  let c0_i32_30 : BitVec 32 := 0#32
  let v59 : BitVec 32 := Scalar.addi v58 c0_i32_30
  let c1_i32_31 : BitVec 32 := 1#32
  let v60 : BitVec 32 := Scalar.addi v59 c1_i32_31
  let v65 : BitVec 32 := Scalar.addi v18 v60
  let v66 : Index := Scalar.indexCast v65
  let c0_33 : Index := 0#32
  let c0_34 : Index := 0#32
  ![v66.toNat, 0, 0]
def k0_off112 (v64 : BitVec 32) : Fin 1 → Nat :=
  let v77 : Index := Scalar.indexCast v64
  ![v77.toNat]

def k0_chk34 (v64 : BitVec 32) : Prop :=
  (∀ a, (k0_off112 v64) a + S1.size a ≤ S25088.size a)
theorem k0_off112_inb : ∀ (v64 : BitVec 32) (k0_hw34 : k0_chk34 v64), ∀ a, (k0_off112 v64) a + S1.size a ≤ S25088.size a := fun v64 k0_hw34 => k0_hw34

def k0_off113 (k0_t5 : Fin k0_t5_loop.trips) : Fin 2 → Nat :=
  let c0_i32_19 : BitVec 32 := 0#32
  let c1_i32_20 : BitVec 32 := 1#32
  let arg9 : BitVec 32 := Scf.iv c0_i32_19 c1_i32_20 k0_t5
  let c4_i32_39 : BitVec 32 := 4#32
  let v86 : BitVec 32 := Scalar.muli arg9 c4_i32_39
  let c0_i32_40 : BitVec 32 := 0#32
  let v87 : BitVec 32 := Scalar.addi v86 c0_i32_40
  let v89 : Index := Scalar.indexCast v87
  let c0_41 : Index := 0#32
  ![Nat.mul 2 v89.toNat, 0]
def k0_off114 (i : grid0.Coords) (k0_t5 : Fin k0_t5_loop.trips) : Fin 1 → Nat :=
  let arg0 : BitVec 32 := BitVec.ofNat 32 (i 0).val
  let c128_i32_53 : BitVec 32 := 128#32
  let v134 : BitVec 32 := Scalar.muli arg0 c128_i32_53
  let c0_i32_19 : BitVec 32 := 0#32
  let c1_i32_20 : BitVec 32 := 1#32
  let arg9 : BitVec 32 := Scf.iv c0_i32_19 c1_i32_20 k0_t5
  let c8_i32_51 : BitVec 32 := 8#32
  let v131 : BitVec 32 := Scalar.muli arg9 c8_i32_51
  let c2_i32 : BitVec 32 := 2#32
  let v132 : BitVec 32 := Scalar.addi v131 c2_i32
  let c0_i32_52 : BitVec 32 := 0#32
  let v133 : BitVec 32 := Scalar.addi v132 c0_i32_52
  let v135 : BitVec 32 := Scalar.addi v134 v133
  let v136 : Index := Scalar.indexCast v135
  ![v136.toNat]
def k0_off115 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_51 : BitVec 32 := 8#32
  let v131 : BitVec 32 := Scalar.muli arg9 c8_i32_51
  let c2_i32 : BitVec 32 := 2#32
  let v132 : BitVec 32 := Scalar.addi v131 c2_i32
  let c0_i32_52 : BitVec 32 := 0#32
  let v133 : BitVec 32 := Scalar.addi v132 c0_i32_52
  let v138 : BitVec 32 := Scalar.addi v18 v133
  let v139 : Index := Scalar.indexCast v138
  let c0_54 : Index := 0#32
  let c0_55 : Index := 0#32
  ![v139.toNat, 0, 0]
def k0_off116 (v137 : BitVec 32) : Fin 1 → Nat :=
  let v150 : Index := Scalar.indexCast v137
  ![v150.toNat]

def k0_chk35 (v137 : BitVec 32) : Prop :=
  (∀ a, (k0_off116 v137) a + S1.size a ≤ S25088.size a)
theorem k0_off116_inb : ∀ (v137 : BitVec 32) (k0_hw35 : k0_chk35 v137), ∀ a, (k0_off116 v137) a + S1.size a ≤ S25088.size a := fun v137 k0_hw35 => k0_hw35

def k0_off117 (i : grid0.Coords) (k0_t5 : Fin k0_t5_loop.trips) : Fin 1 → Nat :=
  let arg0 : BitVec 32 := BitVec.ofNat 32 (i 0).val
  let c128_i32_63 : BitVec 32 := 128#32
  let v156 : BitVec 32 := Scalar.muli arg0 c128_i32_63
  let c0_i32_19 : BitVec 32 := 0#32
  let c1_i32_20 : BitVec 32 := 1#32
  let arg9 : BitVec 32 := Scf.iv c0_i32_19 c1_i32_20 k0_t5
  let c8_i32_60 : BitVec 32 := 8#32
  let v153 : BitVec 32 := Scalar.muli arg9 c8_i32_60
  let c2_i32_61 : BitVec 32 := 2#32
  let v154 : BitVec 32 := Scalar.addi v153 c2_i32_61
  let c1_i32_62 : BitVec 32 := 1#32
  let v155 : BitVec 32 := Scalar.addi v154 c1_i32_62
  let v157 : BitVec 32 := Scalar.addi v156 v155
  let v158 : Index := Scalar.indexCast v157
  ![v158.toNat]
def k0_off118 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_60 : BitVec 32 := 8#32
  let v153 : BitVec 32 := Scalar.muli arg9 c8_i32_60
  let c2_i32_61 : BitVec 32 := 2#32
  let v154 : BitVec 32 := Scalar.addi v153 c2_i32_61
  let c1_i32_62 : BitVec 32 := 1#32
  let v155 : BitVec 32 := Scalar.addi v154 c1_i32_62
  let v160 : BitVec 32 := Scalar.addi v18 v155
  let v161 : Index := Scalar.indexCast v160
  let c0_64 : Index := 0#32
  let c0_65 : Index := 0#32
  ![v161.toNat, 0, 0]
def k0_off119 (v159 : BitVec 32) : Fin 1 → Nat :=
  let v172 : Index := Scalar.indexCast v159
  ![v172.toNat]

def k0_chk36 (v159 : BitVec 32) : Prop :=
  (∀ a, (k0_off119 v159) a + S1.size a ≤ S25088.size a)
theorem k0_off119_inb : ∀ (v159 : BitVec 32) (k0_hw36 : k0_chk36 v159), ∀ a, (k0_off119 v159) a + S1.size a ≤ S25088.size a := fun v159 k0_hw36 => k0_hw36

def k0_off120 (k0_t5 : Fin k0_t5_loop.trips) : Fin 2 → Nat :=
  let c0_i32_19 : BitVec 32 := 0#32
  let c1_i32_20 : BitVec 32 := 1#32
  let arg9 : BitVec 32 := Scf.iv c0_i32_19 c1_i32_20 k0_t5
  let c4_i32_70 : BitVec 32 := 4#32
  let v181 : BitVec 32 := Scalar.muli arg9 c4_i32_70
  let c1_i32_71 : BitVec 32 := 1#32
  let v182 : BitVec 32 := Scalar.addi v181 c1_i32_71
  let v184 : Index := Scalar.indexCast v182
  let c0_72 : Index := 0#32
  ![Nat.mul 2 v184.toNat, 0]
def k0_off121 (i : grid0.Coords) (k0_t5 : Fin k0_t5_loop.trips) : Fin 1 → Nat :=
  let arg0 : BitVec 32 := BitVec.ofNat 32 (i 0).val
  let c128_i32_87 : BitVec 32 := 128#32
  let v229 : BitVec 32 := Scalar.muli arg0 c128_i32_87
  let c0_i32_19 : BitVec 32 := 0#32
  let c1_i32_20 : BitVec 32 := 1#32
  let arg9 : BitVec 32 := Scf.iv c0_i32_19 c1_i32_20 k0_t5
  let c8_i32_84 : BitVec 32 := 8#32
  let v226 : BitVec 32 := Scalar.muli arg9 c8_i32_84
  let c4_i32_85 : BitVec 32 := 4#32
  let v227 : BitVec 32 := Scalar.addi v226 c4_i32_85
  let c0_i32_86 : BitVec 32 := 0#32
  let v228 : BitVec 32 := Scalar.addi v227 c0_i32_86
  let v230 : BitVec 32 := Scalar.addi v229 v228
  let v231 : Index := Scalar.indexCast v230
  ![v231.toNat]
def k0_off122 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_84 : BitVec 32 := 8#32
  let v226 : BitVec 32 := Scalar.muli arg9 c8_i32_84
  let c4_i32_85 : BitVec 32 := 4#32
  let v227 : BitVec 32 := Scalar.addi v226 c4_i32_85
  let c0_i32_86 : BitVec 32 := 0#32
  let v228 : BitVec 32 := Scalar.addi v227 c0_i32_86
  let v233 : BitVec 32 := Scalar.addi v18 v228
  let v234 : Index := Scalar.indexCast v233
  let c0_88 : Index := 0#32
  let c0_89 : Index := 0#32
  ![v234.toNat, 0, 0]
def k0_off123 (v232 : BitVec 32) : Fin 1 → Nat :=
  let v245 : Index := Scalar.indexCast v232
  ![v245.toNat]

def k0_chk37 (v232 : BitVec 32) : Prop :=
  (∀ a, (k0_off123 v232) a + S1.size a ≤ S25088.size a)
theorem k0_off123_inb : ∀ (v232 : BitVec 32) (k0_hw37 : k0_chk37 v232), ∀ a, (k0_off123 v232) a + S1.size a ≤ S25088.size a := fun v232 k0_hw37 => k0_hw37

def k0_off124 (i : grid0.Coords) (k0_t5 : Fin k0_t5_loop.trips) : Fin 1 → Nat :=
  let arg0 : BitVec 32 := BitVec.ofNat 32 (i 0).val
  let c128_i32_97 : BitVec 32 := 128#32
  let v251 : BitVec 32 := Scalar.muli arg0 c128_i32_97
  let c0_i32_19 : BitVec 32 := 0#32
  let c1_i32_20 : BitVec 32 := 1#32
  let arg9 : BitVec 32 := Scf.iv c0_i32_19 c1_i32_20 k0_t5
  let c8_i32_94 : BitVec 32 := 8#32
  let v248 : BitVec 32 := Scalar.muli arg9 c8_i32_94
  let c4_i32_95 : BitVec 32 := 4#32
  let v249 : BitVec 32 := Scalar.addi v248 c4_i32_95
  let c1_i32_96 : BitVec 32 := 1#32
  let v250 : BitVec 32 := Scalar.addi v249 c1_i32_96
  let v252 : BitVec 32 := Scalar.addi v251 v250
  let v253 : Index := Scalar.indexCast v252
  ![v253.toNat]
def k0_off125 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_94 : BitVec 32 := 8#32
  let v248 : BitVec 32 := Scalar.muli arg9 c8_i32_94
  let c4_i32_95 : BitVec 32 := 4#32
  let v249 : BitVec 32 := Scalar.addi v248 c4_i32_95
  let c1_i32_96 : BitVec 32 := 1#32
  let v250 : BitVec 32 := Scalar.addi v249 c1_i32_96
  let v255 : BitVec 32 := Scalar.addi v18 v250
  let v256 : Index := Scalar.indexCast v255
  let c0_98 : Index := 0#32
  let c0_99 : Index := 0#32
  ![v256.toNat, 0, 0]
def k0_off126 (v254 : BitVec 32) : Fin 1 → Nat :=
  let v267 : Index := Scalar.indexCast v254
  ![v267.toNat]

def k0_chk38 (v254 : BitVec 32) : Prop :=
  (∀ a, (k0_off126 v254) a + S1.size a ≤ S25088.size a)
theorem k0_off126_inb : ∀ (v254 : BitVec 32) (k0_hw38 : k0_chk38 v254), ∀ a, (k0_off126 v254) a + S1.size a ≤ S25088.size a := fun v254 k0_hw38 => k0_hw38

def k0_off127 (k0_t5 : Fin k0_t5_loop.trips) : Fin 2 → Nat :=
  let c0_i32_19 : BitVec 32 := 0#32
  let c1_i32_20 : BitVec 32 := 1#32
  let arg9 : BitVec 32 := Scf.iv c0_i32_19 c1_i32_20 k0_t5
  let c4_i32_104 : BitVec 32 := 4#32
  let v276 : BitVec 32 := Scalar.muli arg9 c4_i32_104
  let c2_i32_105 : BitVec 32 := 2#32
  let v277 : BitVec 32 := Scalar.addi v276 c2_i32_105
  let v279 : Index := Scalar.indexCast v277
  let c0_106 : Index := 0#32
  ![Nat.mul 2 v279.toNat, 0]
def k0_off128 (i : grid0.Coords) (k0_t5 : Fin k0_t5_loop.trips) : Fin 1 → Nat :=
  let arg0 : BitVec 32 := BitVec.ofNat 32 (i 0).val
  let c128_i32_120 : BitVec 32 := 128#32
  let v324 : BitVec 32 := Scalar.muli arg0 c128_i32_120
  let c0_i32_19 : BitVec 32 := 0#32
  let c1_i32_20 : BitVec 32 := 1#32
  let arg9 : BitVec 32 := Scf.iv c0_i32_19 c1_i32_20 k0_t5
  let c8_i32_118 : BitVec 32 := 8#32
  let v321 : BitVec 32 := Scalar.muli arg9 c8_i32_118
  let c6_i32 : BitVec 32 := 6#32
  let v322 : BitVec 32 := Scalar.addi v321 c6_i32
  let c0_i32_119 : BitVec 32 := 0#32
  let v323 : BitVec 32 := Scalar.addi v322 c0_i32_119
  let v325 : BitVec 32 := Scalar.addi v324 v323
  let v326 : Index := Scalar.indexCast v325
  ![v326.toNat]
def k0_off129 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_118 : BitVec 32 := 8#32
  let v321 : BitVec 32 := Scalar.muli arg9 c8_i32_118
  let c6_i32 : BitVec 32 := 6#32
  let v322 : BitVec 32 := Scalar.addi v321 c6_i32
  let c0_i32_119 : BitVec 32 := 0#32
  let v323 : BitVec 32 := Scalar.addi v322 c0_i32_119
  let v328 : BitVec 32 := Scalar.addi v18 v323
  let v329 : Index := Scalar.indexCast v328
  let c0_121 : Index := 0#32
  let c0_122 : Index := 0#32
  ![v329.toNat, 0, 0]
def k0_off130 (v327 : BitVec 32) : Fin 1 → Nat :=
  let v340 : Index := Scalar.indexCast v327
  ![v340.toNat]

def k0_chk39 (v327 : BitVec 32) : Prop :=
  (∀ a, (k0_off130 v327) a + S1.size a ≤ S25088.size a)
theorem k0_off130_inb : ∀ (v327 : BitVec 32) (k0_hw39 : k0_chk39 v327), ∀ a, (k0_off130 v327) a + S1.size a ≤ S25088.size a := fun v327 k0_hw39 => k0_hw39

def k0_off131 (i : grid0.Coords) (k0_t5 : Fin k0_t5_loop.trips) : Fin 1 → Nat :=
  let arg0 : BitVec 32 := BitVec.ofNat 32 (i 0).val
  let c128_i32_130 : BitVec 32 := 128#32
  let v346 : BitVec 32 := Scalar.muli arg0 c128_i32_130
  let c0_i32_19 : BitVec 32 := 0#32
  let c1_i32_20 : BitVec 32 := 1#32
  let arg9 : BitVec 32 := Scf.iv c0_i32_19 c1_i32_20 k0_t5
  let c8_i32_127 : BitVec 32 := 8#32
  let v343 : BitVec 32 := Scalar.muli arg9 c8_i32_127
  let c6_i32_128 : BitVec 32 := 6#32
  let v344 : BitVec 32 := Scalar.addi v343 c6_i32_128
  let c1_i32_129 : BitVec 32 := 1#32
  let v345 : BitVec 32 := Scalar.addi v344 c1_i32_129
  let v347 : BitVec 32 := Scalar.addi v346 v345
  let v348 : Index := Scalar.indexCast v347
  ![v348.toNat]
def k0_off132 (i : grid0.Coords) (k0_t5 : Fin k0_t5_loop.trips) : Fin 3 → Nat :=
  let arg0 : BitVec 32 := BitVec.ofNat 32 (i 0).val
  let c4_i32_2 : BitVec 32 := 4#32
  let c0_i32_3 : BitVec 32 := 0#32
  let v8 : BitVec 1 := Scalar.cmpi .eq c4_i32_2 c0_i32_3
  let c1_i32_4 : BitVec 32 := 1#32
  let v9 : BitVec 32 := Scalar.select v8 c1_i32_4 c4_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_19 : BitVec 32 := 0#32
  let c1_i32_20 : BitVec 32 := 1#32
  let arg9 : BitVec 32 := Scf.iv c0_i32_19 c1_i32_20 k0_t5
  let c8_i32_127 : BitVec 32 := 8#32
  let v343 : BitVec 32 := Scalar.muli arg9 c8_i32_127
  let c6_i32_128 : BitVec 32 := 6#32
  let v344 : BitVec 32 := Scalar.addi v343 c6_i32_128
  let c1_i32_129 : BitVec 32 := 1#32
  let v345 : BitVec 32 := Scalar.addi v344 c1_i32_129
  let v350 : BitVec 32 := Scalar.addi v18 v345
  let v351 : Index := Scalar.indexCast v350
  let c0_131 : Index := 0#32
  let c0_132 : Index := 0#32
  ![v351.toNat, 0, 0]
def k0_off133 (v349 : BitVec 32) : Fin 1 → Nat :=
  let v362 : Index := Scalar.indexCast v349
  ![v362.toNat]

def k0_chk40 (v349 : BitVec 32) : Prop :=
  (∀ a, (k0_off133 v349) a + S1.size a ≤ S25088.size a)
theorem k0_off133_inb : ∀ (v349 : BitVec 32) (k0_hw40 : k0_chk40 v349), ∀ a, (k0_off133 v349) a + S1.size a ≤ S25088.size a := fun v349 k0_hw40 => k0_hw40

def k0_off134 (k0_t5 : Fin k0_t5_loop.trips) : Fin 2 → Nat :=
  let c0_i32_19 : BitVec 32 := 0#32
  let c1_i32_20 : BitVec 32 := 1#32
  let arg9 : BitVec 32 := Scf.iv c0_i32_19 c1_i32_20 k0_t5
  let c4_i32_137 : BitVec 32 := 4#32
  let v371 : BitVec 32 := Scalar.muli arg9 c4_i32_137
  let c3_i32_138 : BitVec 32 := 3#32
  let v372 : BitVec 32 := Scalar.addi v371 c3_i32_138
  let v374 : Index := Scalar.indexCast v372
  let c0_139 : Index := 0#32
  ![Nat.mul 2 v374.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S25088 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S1x8192 : Shape := ⟨2, ![1, 8192]⟩
abbrev S25088x4096 : Shape := ⟨2, ![25088, 4096]⟩
abbrev S25088 : Shape := ⟨1, ![25088]⟩
abbrev S4096 : Shape := ⟨1, ![4096]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x4096 : Shape := ⟨3, ![1, 8192, 4096]⟩
abbrev S1x1x4096 : Shape := ⟨3, ![1, 1, 4096]⟩
abbrev S8192x4096 : Shape := ⟨2, ![8192, 4096]⟩

abbrev nBuf : Space → Nat
  | .hbm => 76
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S25088x4096, .i8⟩
  | .hbm, ⟨2, _⟩ => ⟨S25088, .f32⟩
  | .hbm, ⟨3, _⟩ => ⟨S4096, .bf16⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x4096, .i8⟩
  | .hbm, ⟨23, _⟩ => ⟨S1x8192x4096, .i1⟩
  | .hbm, ⟨24, _⟩ => ⟨S_, .i8⟩
  | .hbm, ⟨25, _⟩ => ⟨S1x8192x4096, .i8⟩
  | .hbm, ⟨26, _⟩ => ⟨S1x8192x4096, .i8⟩
  | .hbm, ⟨27, _⟩ => ⟨S_, .i32⟩
  | .hbm, ⟨28, _⟩ => ⟨S1x8192, .i32⟩
  | .hbm, ⟨29, _⟩ => ⟨S1x8192, .i1⟩
  | .hbm, ⟨30, _⟩ => ⟨S_, .i32⟩
  | .hbm, ⟨31, _⟩ => ⟨S1x8192, .i32⟩
  | .hbm, ⟨32, _⟩ => ⟨S1x8192, .i32⟩
  | .hbm, ⟨33, _⟩ => ⟨S1x8192, .i32⟩
  | .hbm, ⟨34, _⟩ => ⟨S1x8192x1, .i32⟩
  | .hbm, ⟨35, _⟩ => ⟨S1, .i32⟩
  | .hbm, ⟨36, _⟩ => ⟨S_, .i32⟩
  | .hbm, ⟨37, _⟩ => ⟨S1x8192x1, .i32⟩
  | .hbm, ⟨38, _⟩ => ⟨S1x8192x1, .i1⟩
  | .hbm, ⟨39, _⟩ => ⟨S1x1x1, .i32⟩
  | .hbm, ⟨40, _⟩ => ⟨S1x8192x1, .i32⟩
  | .hbm, ⟨41, _⟩ => ⟨S1x8192x1, .i1⟩
  | .hbm, ⟨42, _⟩ => ⟨S1x8192x1, .i1⟩
  | .hbm, ⟨43, _⟩ => ⟨S_, .i1⟩
  | .hbm, ⟨44, _⟩ => ⟨S1x8192, .i1⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192x4096, .i32⟩
  | .hbm, ⟨50, _⟩ => ⟨S1x8192x4096, .bf16⟩
  | .hbm, ⟨51, _⟩ => ⟨S1x8192, .bf16⟩
  | .hbm, ⟨52, _⟩ => ⟨S1x8192x1, .bf16⟩
  | .hbm, ⟨53, _⟩ => ⟨S1x8192x4096, .bf16⟩
  | .hbm, ⟨54, _⟩ => ⟨S1x8192x4096, .bf16⟩
  | .hbm, ⟨55, _⟩ => ⟨S1x8192x4096, .f32⟩
  | .hbm, ⟨56, _⟩ => ⟨S1x8192x4096, .f32⟩
  | .hbm, ⟨57, _⟩ => ⟨S_, .f32⟩
  | .hbm, ⟨58, _⟩ => ⟨S1x8192, .f32⟩
  | .hbm, ⟨59, _⟩ => ⟨S1x8192x1, .f32⟩
  | .hbm, ⟨60, _⟩ => ⟨S_, .f32⟩
  | .hbm, ⟨61, _⟩ => ⟨S1x8192x1, .f32⟩
  | .hbm, ⟨62, _⟩ => ⟨S1x8192x1, .f32⟩
  | .hbm, ⟨63, _⟩ => ⟨S_, .f32⟩
  | .hbm, ⟨64, _⟩ => ⟨S1x8192x1, .f32⟩
  | .hbm, ⟨65, _⟩ => ⟨S1x8192x1, .f32⟩
  | .hbm, ⟨66, _⟩ => ⟨S1x8192x1, .f32⟩
  | .hbm, ⟨67, _⟩ => ⟨S1x8192x4096, .f32⟩
  | .hbm, ⟨68, _⟩ => ⟨S1x8192x4096, .f32⟩
  | .hbm, ⟨69, _⟩ => ⟨S4096, .f32⟩
  | .hbm, ⟨70, _⟩ => ⟨S1x1x4096, .f32⟩
  | .hbm, ⟨71, _⟩ => ⟨S1x8192x4096, .f32⟩
  | .hbm, ⟨72, _⟩ => ⟨S1x8192x4096, .f32⟩
  | .hbm, ⟨73, _⟩ => ⟨S1x8192x4096, .bf16⟩
  | .hbm, ⟨74, _⟩ => ⟨S8192x4096, .bf16⟩
  | .hbm, ⟨75, _⟩ => ⟨S8192x4096, .bf16⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_cst : Ref sig .tc := ⟨.hbm, 57, rfl⟩
abbrev main_v10 : Ref sig .tc := ⟨.hbm, 58, rfl⟩
abbrev main_v11 : Ref sig .tc := ⟨.hbm, 59, rfl⟩
abbrev main_cst_0 : Ref sig .tc := ⟨.hbm, 60, rfl⟩
abbrev main_v12 : Ref sig .tc := ⟨.hbm, 61, rfl⟩
abbrev main_v13 : Ref sig .tc := ⟨.hbm, 62, rfl⟩
abbrev main_cst_1 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩

abbrev nD : Nat := 1
abbrev τ : Topo := Topo.v7x

variable {F : FTy → Type} [FloatOps F]
-- ==== Proof.Kernel.Ring.lean ====
module

public import proofs.«01_k».proof.Proof.Gen.Kernel.Launch
public import proofs.«01_k».proof.Proof.Gen.Kernel.Points
public import proofs.«01_k».proof.Proof.Gen.Kernel.Loops
public import proofs.«01_k».proof.Proof.Gen.Kernel.Skeleton
public import Idealize.ShloMosaic.Lib.Pipeline.FrameBody
public import Idealize.ShloMosaic.Lib.Ring
public import Idealize.ShloMosaic.Lib.Batch
public import Idealize.ShloMosaic.Lib.Tactic

/-! The row ring: 512 rows of the scratch buffer in four slots of 128, filled by row copies of the
    table, one semaphore per slot, up to four blocks in flight. -/

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- The token ids as the kernel reads them, each a row of the vocabulary. -/
structure Ids where
  /-- the id at a position (zero past the last) -/
  tok : ℕ → BitVec 32
  /-- every id names a row of the vocabulary -/
  lt : ∀ j, (tok j).toNat < 25088

/-- The packed table's row that holds the code row of the `j`-th id. -/
def Ids.row (I : Ids) (j : ℕ) : ℕ := (I.tok j).toNat / 4

theorem Ids.row_lt (I : Ids) (j : ℕ) : I.row j < 6272 := by
  have := I.lt j; unfold Ids.row; omega

/-- The packed table. -/
abbrev Tab : Memref sig .tc .hbm S6272x4096 .i32 := Memref.whole main_v2
/-- The ring's rows. -/
abbrev Buf7 : Memref sig .tc .vmem S512x1x4096 .i32 := Memref.whole cc0_scratch0

/-- The elements of the scratch buffer's row `r`. -/
def bset (r : ℕ) : Finset S512x1x4096.Idx := Finset.univ.filter fun y => (y 0).val = r
/-- The elements of the table's row `r`. -/
def tset (r : ℕ) : Finset S6272x4096.Idx := Finset.univ.filter fun y => (y 0).val = r

theorem mem_bset {r : ℕ} {y : S512x1x4096.Idx} : y ∈ bset r ↔ (y 0).val = r := by simp [bset]
theorem mem_tset {r : ℕ} {y : S6272x4096.Idx} : y ∈ tset r ↔ (y 0).val = r := by simp [tset]

/-- A table index from a row and a column. -/
def tix (r : Fin 6272) (j : Fin 4096) : S6272x4096.Idx := fun a => match a with | ⟨0, _⟩ => r | ⟨1, _⟩ => j

/-- What the ring holds of block `b`: row `t` of a slot is the packed row of the block's `t`-th id. -/
def landed (I : Ids) (tb : S6272x4096.Idx → Elt F .i32) (b : ℕ) : S512x1x4096.Idx → Elt F .i32 :=
  fun y => tb (tix ⟨I.row (128 * b + (y 0).val % 128), I.row_lt _⟩ (y 2))

section Names
variable (c : Dev nD)

/-- Row `r` of the ring at contents `g`. -/
def rowPt (r : ℕ) (g : S512x1x4096.Idx → Elt F .i32) : sProp 𝕄 := Buf7.view.loc (c : Thread nD τ) ↦[bset r]{fullShare} g
/-- Read token `n` of the whole table. -/
def tokPt (tb : S6272x4096.Idx → Elt F .i32) (n : ℕ) : sProp 𝕄 := Tab.view.loc (c : Thread nD τ) ↦{Transfers.shareTokN fullShare n} tb
/-- Read token `n` of the table's row `r`. -/
def piecePt (tb : S6272x4096.Idx → Elt F .i32) (n r : ℕ) : sProp 𝕄 := Tab.view.loc (c : Thread nD τ) ↦[tset r]{Transfers.shareTokN fullShare n} tb
/-- Read token `n` of the table without row `r`. -/
def remPt (tb : S6272x4096.Idx → Elt F .i32) (n r : ℕ) : sProp 𝕄 := Tab.view.loc (c : Thread nD τ) ↦[Finset.univ \ tset r]{Transfers.shareTokN fullShare n} tb

instance rowPt_storable (r : ℕ) (g : S512x1x4096.Idx → Elt F .i32) : BI.Storable (upEmb : UEmb _ 𝕄) (rowPt c r g) := by
  unfold rowPt; infer_instance
instance piecePt_storable (tb : S6272x4096.Idx → Elt F .i32) (n r : ℕ) : BI.Storable (upEmb : UEmb _ 𝕄) (piecePt c tb n r) := by
  unfold piecePt; infer_instance

/-- The elements one row copy moves. -/
abbrev NN : ℕ := ((Buf7.slice (Rect.unit (s := S512x1x4096) ![0, 0, 0] S1x1x4096.size (by decide)) (fun _ => rfl)).squeeze S1x4096 squeezes_S1x1x4096_S1x4096).view.dmaCredit

/-- The four semaphores. -/
def cell (s : Fin 4) : DmaSem sig := ⟨7 + s.val, by show 7 + s.val < 11; omega⟩

/-- What the `t`-th copy of block `b` into slot `s` delivers: the row, and the piece of the table it read. -/
def dlv (I : Ids) (tb : S6272x4096.Idx → Elt F .i32) (s : Fin 4) (b : ℕ) (t : Fin 128) : sProp 𝕄 :=
  iprop(rowPt c (128 * s.val + t.val) (landed I tb b) ∗ piecePt c tb (128 * s.val + t.val) (I.row (128 * b + t.val)))

instance dlv_storable (I : Ids) (tb : S6272x4096.Idx → Elt F .i32) (s : Fin 4) (b : ℕ) (t : Fin 128) :
    BI.Storable (upEmb : UEmb _ 𝕄) (dlv c I tb s b t) := by unfold dlv; infer_instance

/-- A row of the ring at some contents, with its read token of the table. -/
def rest (tb : S6272x4096.Idx → Elt F .i32) (s : Fin 4) (t : Fin 128) : sProp 𝕄 :=
  iprop((∃ g, rowPt c (128 * s.val + t.val) g) ∗ tokPt c tb (128 * s.val + t.val))
/-- What stays in hand of the read token of a copy under way. -/
def kept (I : Ids) (tb : S6272x4096.Idx → Elt F .i32) (s : Fin 4) (b : ℕ) (t : Fin 128) : sProp 𝕄 :=
  remPt c tb (128 * s.val + t.val) (I.row (128 * b + t.val))

/-- The batch of copies of block `b` into slot `s`, `k` of them started. -/
def batch (I : Ids) (tb : S6272x4096.Idx → Elt F .i32) (s : Fin 4) (b k : ℕ) : sProp 𝕄 :=
  Transfers.Batch (countersEmb (U := Pipeline.UD sig nD τ)) (c : Thread nD τ) (.dma (cell s)) () NN (dlv c I tb s b) k 0

/-- Slot `s` with `k` copies of block `b` started. -/
def started (I : Ids) (tb : S6272x4096.Idx → Elt F .i32) (s : Fin 4) (b k : ℕ) : sProp 𝕄 :=
  iprop(batch c I tb s b k ∗ bigSep (Ring.rangeSet 128 k 128) (rest c tb s) ∗ bigSep (Ring.rangeSet 128 0 k) (kept c I tb s b))

/-- Slot `s` at rest. -/
def idle (tb : S6272x4096.Idx → Elt F .i32) (s : Fin 4) : sProp 𝕄 :=
  iprop(semVal ((c : Thread nD τ), SemLoc.dma (cell s)) 0 ∗ bigSep Finset.univ (rest c tb s))

end Names

theorem rangeSet_full : Ring.rangeSet 128 0 128 = Finset.univ := Ring.rangeSet_univ

/-- A slot at rest may start any block. -/
theorem start (c : Dev nD) (I : Ids) (tb : S6272x4096.Idx → Elt F .i32) (s : Fin 4) (b : ℕ) :
    (idle c tb s : sProp 𝕄) ⊢ |={Set.univ}=> started c I tb s b 0 := by
  unfold idle started batch
  iintro ⟨Hc, Hr⟩
  imod (Transfers.batch_alloc' (Lvl := ℕ) (countersEmb (U := Pipeline.UD sig nD τ)) (c : Thread nD τ) () NN (dlv c I tb s b) (sm := .dma (cell s)) (E := Set.univ)) $$ Hc with HB
  imodintro
  isplitl [HB]; · iexact HB
  rw [rangeSet_full, Ring.bigSep_rangeSet_empty (le_refl 0)]
  isplitl [Hr]; · iexact Hr
  iempintro

/-- The table's index under a one-row slice. -/
theorem tab_set {off : Fin 2 → ℕ} (inb) (r : ℕ) (h : off = ![r, 0]) :
    (Tab.slice (Rect.unit (s := S6272x4096) off S1x4096.size inb) (fun _ => rfl)).view.set = tset r := by
  subst h
  refine (View.set_slice_whole _ _).trans ?_
  ext y
  rw [Rect.mem_set_unit, mem_tset]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega

theorem buf_set {off : Fin 3 → ℕ} (inb) (r : ℕ) (h : off = ![r, 0, 0]) :
    ((Buf7.slice (Rect.unit (s := S512x1x4096) off S1x1x4096.size inb) (fun _ => rfl)).squeeze S1x4096 squeezes_S1x1x4096_S1x4096).view.set = bset r := by
  subst h
  refine ((View.set_reshape _ _).trans (View.set_slice_whole _ _)).trans ?_
  ext y
  rw [Rect.mem_set_unit, mem_bset]
  have h1 : (y 1).val < 1 := (y 1).isLt
  have h2 : (y 2).val < 4096 := (y 2).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1; omega
    · show 0 ≤ (y 2).val ∧ (y 2).val < 0 + 4096; omega

/-- One row of the table, as the kernel slices it. -/
abbrev src (off : Fin 2 → ℕ) (inb : ∀ a, off a + S1x4096.size a ≤ S6272x4096.size a) : Memref sig .tc .hbm S1x4096 .i32 :=
  Tab.slice (Rect.unit (s := S6272x4096) off S1x4096.size inb) (fun _ => rfl)
/-- One row of the ring, as the kernel slices it. -/
abbrev dst (off : Fin 3 → ℕ) (inb : ∀ a, off a + S1x1x4096.size a ≤ S512x1x4096.size a) : Memref sig .tc .vmem S1x4096 .i32 :=
  (Buf7.slice (Rect.unit (s := S512x1x4096) off S1x1x4096.size inb) (fun _ => rfl)).squeeze S1x4096 squeezes_S1x1x4096_S1x4096

theorem dst_emb {off : Fin 3 → ℕ} (inb) (r : ℕ) (h : off = ![r, 0, 0]) (x : S1x4096.Idx) :
    (((dst off inb).view.emb x : S512x1x4096.Idx) 0).val = r ∧ (((dst off inb).view.emb x : S512x1x4096.Idx) 2).val = (x 1).val := by
  subst h
  have e := Shape.reshapeEquiv_cons_one (d := ![1, 4096]) (squeezes_S1x1x4096_S1x4096.numel_eq) x
  constructor
  · show r + 1 * ((Shape.reshapeEquiv (squeezes_S1x1x4096_S1x4096.numel_eq) x : S1x1x4096.Idx) 0).val = r
    rw [show ((Shape.reshapeEquiv (squeezes_S1x1x4096_S1x4096.numel_eq) x : S1x1x4096.Idx) 0).val = 0 from by
      have := ((Shape.reshapeEquiv (squeezes_S1x1x4096_S1x4096.numel_eq) x : S1x1x4096.Idx) 0).isLt
      have h1 : S1x1x4096.size 0 = 1 := rfl
      omega]
    omega
  · show 0 + 1 * ((Shape.reshapeEquiv (squeezes_S1x1x4096_S1x4096.numel_eq) x : S1x1x4096.Idx) 2).val = (x 1).val
    rw [show ((Shape.reshapeEquiv (squeezes_S1x1x4096_S1x4096.numel_eq) x : S1x1x4096.Idx) 2) = x 1 from congrFun e 2]
    omega

/-- A row copy lands the packed row it was asked for. -/
theorem lands (I : Ids) (tb : S6272x4096.Idx → Elt F .i32) {off2 : Fin 3 → ℕ} {off3 : Fin 2 → ℕ} (inb2) (inb3) (s b t : ℕ) (ht : t < 128)
    (h2 : off2 = ![128 * s + t, 0, 0]) (h3 : off3 = ![I.row (128 * b + t), 0]) (g : S512x1x4096.Idx → Elt F .i32) :
    ∀ y ∈ bset (128 * s + t), (dst off2 inb2).view.write (Elt F) g ((src off3 inb3).view.read (Elt F) tb) Finset.univ y = landed I tb b y := by
  intro y hy
  have hy' : y ∈ (dst off2 inb2).view.set := by rw [buf_set inb2 _ h2]; exact hy
  obtain ⟨x, -, rfl⟩ := Finset.mem_map.mp hy'
  obtain ⟨e0, e2⟩ := dst_emb inb2 _ h2 x
  refine ((dst off2 inb2).view.write_emb_of_mem (Val := Elt F) g _ (Finset.mem_univ x)).trans ?_
  show tb ((src off3 inb3).view.emb x) = tb _
  congr 1
  subst h3
  funext a
  have hm : (128 * s + t) % 128 = t := by omega
  fin_cases a
  · apply Fin.ext
    have hx : (x 0).val < 1 := (x 0).isLt
    show I.row (128 * b + t) + 1 * (x 0).val = I.row (128 * b + _ % 128)
    rw [e0, hm]; omega
  · apply Fin.ext
    show 0 + 1 * (x 1).val = _
    rw [← e2]; simp [tix]

theorem credit (off : Fin 3 → ℕ) (inb) : (dst off inb).view.dmaCredit = NN := rfl
theorem NN_pos : 0 < NN := View.dmaCredit_pos _ (by decide)

/-- Starting the next copy of a block. -/
theorem issue (c : Dev nD) (I : Ids) (tb : S6272x4096.Idx → Elt F .i32) (s : Fin 4) (b t : ℕ) (ht : t < 128)
    {off2 : Fin 3 → ℕ} {off3 : Fin 2 → ℕ} {inb2 inb3} {sem : DmaSem sig} {a1 a2 a3}
    (h2 : off2 = ![128 * s.val + t, 0, 0]) (h3 : off3 = ![I.row (128 * b + t), 0]) (hs : sem = cell s)
    {α : Type} {k : PUnit → Prog (TpuEff nD τ sig (Elt F) Λ₀ .tc) α} {Q : α → sProp 𝕄} :
    (started c I tb s b t : sProp 𝕄) ⊢ iprop((started c I tb s b (t + 1) -∗ wp frame (wpE (defs₀ (F := F)) Variants.none (c : Thread nD τ) none) Set.univ (k ⟨⟩) Q)
      -∗ wp frame (wpE (defs₀ (F := F)) Variants.none (c : Thread nD τ) none) Set.univ (.op (.enqueueDma (src off3 inb3) (.here (dst off2 inb2)) (.dma sem) a1 a2 a3) k) Q) := by
  subst hs
  unfold started
  rw [Ring.bigSep_rangeSet_head (NB := 128) (lo := t) (hi := 128) ht ht,
    Ring.bigSep_rangeSet_last (NB := 128) (lo := 0) (hi := t + 1) (by omega) (by omega)]
  unfold rest
  iintro ⟨HB, ⟨⟨⟨%g, Hg⟩, Ht⟩, Hr⟩, Hk⟩ HK
  ihave Ht' := (show tokPt c tb (128 * s.val + t) ⊢ (iprop(piecePt c tb (128 * s.val + t) (I.row (128 * b + t)) ∗ remPt c tb (128 * s.val + t) (I.row (128 * b + t))) : sProp 𝕄) from
    (pointsTo_split_subset (Finset.subset_univ _)).1) $$ Ht
  icases Ht' with ⟨Hp, Hm⟩
  iapply (Transfers.wp_dmaBatch (countersEmb (U := Pipeline.UD sig nD τ)) Variants.none (c : Thread nD τ) none
    (src := src off3 inb3) (dst := dst off2 inb2) (via := .same) (sm := .dma (cell s)) () NN (credit off2 inb2)
    (Sd := bset (128 * s.val + t)) (fd := g) (fs := tb) (q := Transfers.shareTokN fullShare (128 * s.val + t))
    (D := dlv c I tb s b) (j := t) (u := 0) (by rw [buf_set inb2 _ h2]) ht (Nat.zero_le _) ?_) $$ [Hp Hg HB]
  · unfold dlv rowPt piecePt
    iintro ⟨H1, H2⟩
    isplitl [H1]
    · iapply (Entails.of_eq (pointsTo_congr (lands I tb inb2 inb3 s.val b t ht h2 h3 g))); iexact H1
    · rw [tab_set inb3 _ h3]; iexact H2
  · isplitl [Hp]
    · unfold piecePt; rw [tab_set inb3 _ h3]; iexact Hp
    isplitl [Hg]
    · unfold rowPt; iexact Hg
    · unfold batch; iexact HB
  · iintro HB
    iapply HK
    isplitl [HB]
    · unfold batch; iexact HB
    isplitl [Hr]
    · iexact Hr
    isplitl [Hm]
    · unfold kept; iexact Hm
    iexact Hk

end Cert.Kernel.Rows
-- ==== Proof.Kernel.Issue.lean ====
module

public import proofs.«01_k».proof.Proof.Kernel.Ring

/-! The four loops that start a block's copies. -/

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- A memref's elements, at contents `f`. -/
def held (c : Dev nD) {sp : Space} {s : Shape} {e : EltTy} (M : Memref sig .tc sp s e) (f : M.view.ty.Contents (Elt F)) : sProp 𝕄 :=
  M.view.loc (c : Thread nD τ) ↦[M.view.set]{fullShare} f

/-- The contents of the ids' window are the ids. -/
def IsIds (I : Ids) (M : Memref sig .tc .smem S8192 .i32) (f : M.view.ty.Contents (Elt F)) : Prop :=
  ∀ y : S8192.Idx, M.view.read (Elt F) f y = I.tok (y 0).val

/-- Reading one id. -/
theorem ld_id (c : Dev nD) (I : Ids) (M : Memref sig .tc .smem S8192 .i32) (f : M.view.ty.Contents (Elt F)) (hf : IsIds I M f) (j : ℕ)
    {off : Fin 1 → ℕ} {inb hl} (h : off = ![j])
    {α : Type} {k : (S1.Idx → Elt F .i32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k fun _ => I.tok j) Q)
      -∗ wp frame (wpE (defs₀ (F := F)) Variants.none (c : Thread nD τ) none) Set.univ (.op (.load M (Rect.unit (s := S8192) off S1.size inb).toLoadRect hl) k) Q) := by
  have e : M.view.readAt (Elt F) (Rect.unit (s := S8192) off S1.size inb).toLoadRect f = fun _ => I.tok j := by
    funext x
    refine (hf _).trans ?_
    congr 1
    subst h
    have hx : (x 0).val < 1 := (x 0).isLt
    show j + 1 * (x 0).val = j
    omega
  unfold held
  rw [show (k fun _ => I.tok j) = k (M.view.readAt (Elt F) (Rect.unit (s := S8192) off S1.size inb).toLoadRect f) from congrArg k e.symm]
  exact wp_load Variants.none (c : Thread nD τ) none Set.univ (View.setOn_subset_set _ _)

theorem shr2 (v : BitVec 32) (h : v.toNat < 25088) : (Scalar.shrsi v 2#32).toNat = v.toNat / 4 := by
  have hm : v.msb = false := by
    rw [BitVec.msb_eq_false_iff_two_mul_lt]; omega
  show (BitVec.sshiftRight v 2).toNat = _
  rw [BitVec.sshiftRight_eq_of_msb_false hm, BitVec.toNat_ushiftRight, Nat.shiftRight_eq_div_pow]

theorem off3_eq (I : Ids) (j : ℕ) : (![(Scalar.shrsi (I.tok j) 2#32).toNat, 0] : Fin 2 → ℕ) = ![I.row j, 0] := by
  rw [shr2 _ (I.lt j)]; rfl

theorem chk_src (I : Ids) (j : ℕ) : ∀ a, (![(Scalar.shrsi (I.tok j) 2#32).toNat, 0] : Fin 2 → ℕ) a + S1x4096.size a ≤ S6272x4096.size a := by
  rw [off3_eq]
  have := I.row_lt j
  intro a; fin_cases a
  · show I.row j + 1 ≤ 6272; omega
  · show 0 + 4096 ≤ 4096; omega

section T1
variable (c : Dev nD) (I : Ids) (tb : S6272x4096.Idx → Elt F .i32)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf : IsIds I M1 f1)

/-- Before trip `k` of a loop that starts block `b` in slot `s`. -/
def issuing (s : Fin 4) (b k : ℕ) : sProp 𝕄 := iprop(started c I tb s b (8 * k) ∗ held c M1 f1)

include hf in
/-- One trip of loop 1: eight copies started. -/
theorem t1_step (hc : k0_cond1 i = 1#1) (k : Fin k0_t1_loop.trips) (acc : Unit) :
    issuing c I tb M1 f1 0 0 k.val ⊢ wp frame (wpE (defs₀ (F := F)) Variants.none (c : Thread nD τ) none) Set.univ
      (k0_t1_body i M1 h1 M2 h2 M3 h3 (Memref.whole main_v2) h4 M5 h5 M6 h6 (Memref.whole cc0_scratch0) h7 cc0_scratch1 hc k acc)
      (fun _ => issuing c I tb M1 f1 0 0 (k.val + 1)) := by
  unfold issuing
  have hk : k.val < 16 := k.isLt
  iintro ⟨HS, HM⟩
  sl_unfold [k0_t1_body]
  sl_exec
  iapply (ld_id c I M1 f1 hf (128 * 0 + (8 * k.val + 0)) (by rw [k0_off1_eq]; congr 1; omega)) $$ HM
  iintro HM
  sl_exec
  iapply (wp_assume _ _ _ _ (fun _ => chk_src I (128 * 0 + (8 * k.val + 0))))
  sl_exec
  iapply (issue c I tb 0 0 (8 * k.val + 0) (by omega) (by rw [k0_off2_eq]; funext a; fin_cases a <;> simp <;> omega) (off3_eq I _) (by decide)) $$ HS
  iintro HS
  sl_exec
  iapply (ld_id c I M1 f1 hf (128 * 0 + (8 * k.val + 1)) (by rw [k0_off4_eq]; congr 1; omega)) $$ HM
  iintro HM
  sl_exec
  iapply (wp_assume _ _ _ _ (fun _ => chk_src I (128 * 0 + (8 * k.val + 1))))
  sl_exec
  iapply (issue c I tb 0 0 (8 * k.val + 1) (by omega) (by rw [k0_off5_eq]; funext a; fin_cases a <;> simp <;> omega) (off3_eq I _) (by decide)) $$ HS
  iintro HS
  sl_exec
  iapply (ld_id c I M1 f1 hf (128 * 0 + (8 * k.val + 2)) (by rw [k0_off7_eq]; congr 1; omega)) $$ HM
  iintro HM
  sl_exec
  iapply (wp_assume _ _ _ _ (fun _ => chk_src I (128 * 0 + (8 * k.val + 2))))
  sl_exec
  iapply (issue c I tb 0 0 (8 * k.val + 2) (by omega) (by rw [k0_off8_eq]; funext a; fin_cases a <;> simp <;> omega) (off3_eq I _) (by decide)) $$ HS
  iintro HS
  sl_exec
  iapply (ld_id c I M1 f1 hf (128 * 0 + (8 * k.val + 3)) (by rw [k0_off10_eq]; congr 1; omega)) $$ HM
  iintro HM
  sl_exec
  iapply (wp_assume _ _ _ _ (fun _ => chk_src I (128 * 0 + (8 * k.val + 3))))
  sl_exec
  iapply (issue c I tb 0 0 (8 * k.val + 3) (by omega) (by rw [k0_off11_eq]; funext a; fin_cases a <;> simp <;> omega) (off3_eq I _) (by decide)) $$ HS
  iintro HS
  sl_exec
  iapply (ld_id c I M1 f1 hf (128 * 0 + (8 * k.val + 4)) (by rw [k0_off13_eq]; congr 1; omega)) $$ HM
  iintro HM
  sl_exec
  iapply (wp_assume _ _ _ _ (fun _ => chk_src I (128 * 0 + (8 * k.val + 4))))
  sl_exec
  iapply (issue c I tb 0 0 (8 * k.val + 4) (by omega) (by rw [k0_off14_eq]; funext a; fin_cases a <;> simp <;> omega) (off3_eq I _) (by decide)) $$ HS
  iintro HS
  sl_exec
  iapply (ld_id c I M1 f1 hf (128 * 0 + (8 * k.val + 5)) (by rw [k0_off16_eq]; congr 1; omega)) $$ HM
  iintro HM
  sl_exec
  iapply (wp_assume _ _ _ _ (fun _ => chk_src I (128 * 0 + (8 * k.val + 5))))
  sl_exec
  iapply (issue c I tb 0 0 (8 * k.val + 5) (by omega) (by rw [k0_off17_eq]; funext a; fin_cases a <;> simp <;> omega) (off3_eq I _) (by decide)) $$ HS
  iintro HS
  sl_exec
  iapply (ld_id c I M1 f1 hf (128 * 0 + (8 * k.val + 6)) (by rw [k0_off19_eq]; congr 1; omega)) $$ HM
  iintro HM
  sl_exec
  iapply (wp_assume _ _ _ _ (fun _ => chk_src I (128 * 0 + (8 * k.val + 6))))
  sl_exec
  iapply (issue c I tb 0 0 (8 * k.val + 6) (by omega) (by rw [k0_off20_eq]; funext a; fin_cases a <;> simp <;> omega) (off3_eq I _) (by decide)) $$ HS
  iintro HS
  sl_exec
  iapply (ld_id c I M1 f1 hf (128 * 0 + (8 * k.val + 7)) (by rw [k0_off22_eq]; congr 1; omega)) $$ HM
  iintro HM
  sl_exec
  iapply (wp_assume _ _ _ _ (fun _ => chk_src I (128 * 0 + (8 * k.val + 7))))
  sl_exec
  iapply (issue c I tb 0 0 (8 * k.val + 7) (by omega) (by rw [k0_off23_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

include hf in
/-- One trip of loop 2: eight copies started. -/
theorem t2_step (hc : k0_cond1 i = 1#1) (k : Fin k0_t2_loop.trips) (acc : Unit) :
    issuing c I tb M1 f1 1 1 k.val ⊢ wp frame (wpE (defs₀ (F := F)) Variants.none (c : Thread nD τ) none) Set.univ
      (k0_t2_body i M1 h1 M2 h2 M3 h3 (Memref.whole main_v2) h4 M5 h5 M6 h6 (Memref.whole cc0_scratch0) h7 cc0_scratch1 hc k acc)
      (fun _ => issuing c I tb M1 f1 1 1 (k.val + 1)) := by
  unfold issuing
  have hk : k.val < 16 := k.isLt
  iintro ⟨HS, HM⟩
  sl_unfold [k0_t2_body]
  sl_exec
  iapply (ld_id c I M1 f1 hf (128 * 1 + (8 * k.val + 0)) (by rw [k0_off25_eq]; congr 1; omega)) $$ HM
  iintro HM
  sl_exec
  iapply (wp_assume _ _ _ _ (fun _ => chk_src I (128 * 1 + (8 * k.val + 0))))
  sl_exec
  iapply (issue c I tb 1 1 (8 * k.val + 0) (by omega) (by rw [k0_off26_eq]; funext a; fin_cases a <;> simp <;> omega) (off3_eq I _) (by decide)) $$ HS
  iintro HS
  sl_exec
  iapply (ld_id c I M1 f1 hf (128 * 1 + (8 * k.val + 1)) (by rw [k0_off28_eq]; congr 1; omega)) $$ HM
  iintro HM
  sl_exec
  iapply (wp_assume _ _ _ _ (fun _ => chk_src I (128 * 1 + (8 * k.val + 1))))
  sl_exec
  iapply (issue c I tb 1 1 (8 * k.val + 1) (by omega) (by rw [k0_off29_eq]; funext a; fin_cases a <;> simp <;> omega) (off3_eq I _) (by decide)) $$ HS
  iintro HS
  sl_exec
  iapply (ld_id c I M1 f1 hf (128 * 1 + (8 * k.val + 2)) (by rw [k0_off31_eq]; congr 1; omega)) $$ HM
  iintro HM
  sl_exec
  iapply (wp_assume _ _ _ _ (fun _ => chk_src I (128 * 1 + (8 * k.val + 2))))
  sl_exec
  iapply (issue c I tb 1 1 (8 * k.val + 2) (by omega) (by rw [k0_off32_eq]; funext a; fin_cases a <;> simp <;> omega) (off3_eq I _) (by decide)) $$ HS
  iintro HS
  sl_exec
  iapply (ld_id c I M1 f1 hf (128 * 1 + (8 * k.val + 3)) (by rw [k0_off34_eq]; congr 1; omega)) $$ HM
  iintro HM
  sl_exec
  iapply (wp_assume _ _ _ _ (fun _ => chk_src I (128 * 1 + (8 * k.val + 3))))
  sl_exec
  iapply (issue c I tb 1 1 (8 * k.val + 3) (by omega) (by rw [k0_off35_eq]; funext a; fin_cases a <;> simp <;> omega) (off3_eq I _) (by decide)) $$ HS
  iintro HS
  sl_exec
  iapply (ld_id c I M1 f1 hf (128 * 1 + (8 * k.val + 4)) (by rw [k0_off37_eq]; congr 1; omega)) $$ HM
  iintro HM
  sl_exec
  iapply (wp_assume _ _ _ _ (fun _ => chk_src I (128 * 1 + (8 * k.val + 4))))
  sl_exec
  iapply (issue c I tb 1 1 (8 * k.val + 4) (by omega) (by rw [k0_off38_eq]; funext a; fin_cases a <;> simp <;> omega) (off3_eq I _) (by decide)) $$ HS
  iintro HS
  sl_exec
  iapply (ld_id c I M1 f1 hf (128 * 1 + (8 * k.val + 5)) (by rw [k0_off40_eq]; congr 1; omega)) $$ HM
  iintro HM
  sl_exec
  iapply (wp_assume _ _ _ _ (fun _ => chk_src I (128 * 1 + (8 * k.val + 5))))
  sl_exec
  iapply (issue c I tb 1 1 (8 * k.val + 5) (by omega) (by rw [k0_off41_eq]; funext a; fin_cases a <;> simp <;> omega) (off3_eq I _) (by decide)) $$ HS
  iintro HS
  sl_exec
  iapply (ld_id c I M1 f1 hf (128 * 1 + (8 * k.val + 6)) (by rw [k0_off43_eq]; congr 1; omega)) $$ HM
  iintro HM
  sl_exec
  iapply (wp_assume _ _ _ _ (fun _ => chk_src I (128 * 1 + (8 * k.val + 6))))
  sl_exec
  iapply (issue c I tb 1 1 (8 * k.val + 6) (by omega) (by rw [k0_off44_eq]; funext a; fin_cases a <;> simp <;> omega) (off3_eq I _) (by decide)) $$ HS
  iintro HS
  sl_exec
  iapply (ld_id c I M1 f1 hf (128 * 1 + (8 * k.val + 7)) (by rw [k0_off46_eq]; congr 1; omega)) $$ HM
  iintro HM
  sl_exec
  iapply (wp_assume _ _ _ _ (fun _ => chk_src I (128 * 1 + (8 * k.val + 7))))
  sl_exec
  iapply (issue c I tb 1 1 (8 * k.val + 7) (by omega) (by rw [k0_off47_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

include hf in
/-- One trip of loop 3: eight copies started. -/
theorem t3_step (hc : k0_cond1 i = 1#1) (k : Fin k0_t3_loop.trips) (acc : Unit) :
    issuing c I tb M1 f1 2 2 k.val ⊢ wp frame (wpE (defs₀ (F := F)) Variants.none (c : Thread nD τ) none) Set.univ
      (k0_t3_body i M1 h1 M2 h2 M3 h3 (Memref.whole main_v2) h4 M5 h5 M6 h6 (Memref.whole cc0_scratch0) h7 cc0_scratch1 hc k acc)
      (fun _ => issuing c I tb M1 f1 2 2 (k.val + 1)) := by
  unfold issuing
  have hk : k.val < 16 := k.isLt
  iintro ⟨HS, HM⟩
  sl_unfold [k0_t3_body]
  sl_exec
  iapply (ld_id c I M1 f1 hf (128 * 2 + (8 * k.val + 0)) (by rw [k0_off49_eq]; congr 1; omega)) $$ HM
  iintro HM
  sl_exec
  iapply (wp_assume _ _ _ _ (fun _ => chk_src I (128 * 2 + (8 * k.val + 0))))
  sl_exec
  iapply (issue c I tb 2 2 (8 * k.val + 0) (by omega) (by rw [k0_off50_eq]; funext a; fin_cases a <;> simp <;> omega) (off3_eq I _) (by decide)) $$ HS
  iintro HS
  sl_exec
  iapply (ld_id c I M1 f1 hf (128 * 2 + (8 * k.val + 1)) (by rw [k0_off52_eq]; congr 1; omega)) $$ HM
  iintro HM
  sl_exec
  iapply (wp_assume _ _ _ _ (fun _ => chk_src I (128 * 2 + (8 * k.val + 1))))
  sl_exec
  iapply (issue c I tb 2 2 (8 * k.val + 1) (by omega) (by rw [k0_off53_eq]; funext a; fin_cases a <;> simp <;> omega) (off3_eq I _) (by decide)) $$ HS
  iintro HS
  sl_exec
  iapply (ld_id c I M1 f1 hf (128 * 2 + (8 * k.val + 2)) (by rw [k0_off55_eq]; congr 1; omega)) $$ HM
  iintro HM
  sl_exec
  iapply (wp_assume _ _ _ _ (fun _ => chk_src I (128 * 2 + (8 * k.val + 2))))
  sl_exec
  iapply (issue c I tb 2 2 (8 * k.val + 2) (by omega) (by rw [k0_off56_eq]; funext a; fin_cases a <;> simp <;> omega) (off3_eq I _) (by decide)) $$ HS
  iintro HS
  sl_exec
  iapply (ld_id c I M1 f1 hf (128 * 2 + (8 * k.val + 3)) (by rw [k0_off58_eq]; congr 1; omega)) $$ HM
  iintro HM
  sl_exec
  iapply (wp_assume _ _ _ _ (fun _ => chk_src I (128 * 2 + (8 * k.val + 3))))
  sl_exec
  iapply (issue c I tb 2 2 (8 * k.val + 3) (by omega) (by rw [k0_off59_eq]; funext a; fin_cases a <;> simp <;> omega) (off3_eq I _) (by decide)) $$ HS
  iintro HS
  sl_exec
  iapply (ld_id c I M1 f1 hf (128 * 2 + (8 * k.val + 4)) (by rw [k0_off61_eq]; congr 1; omega)) $$ HM
  iintro HM
  sl_exec
  iapply (wp_assume _ _ _ _ (fun _ => chk_src I (128 * 2 + (8 * k.val + 4))))
  sl_exec
  iapply (issue c I tb 2 2 (8 * k.val + 4) (by omega) (by rw [k0_off62_eq]; funext a; fin_cases a <;> simp <;> omega) (off3_eq I _) (by decide)) $$ HS
  iintro HS
  sl_exec
  iapply (ld_id c I M1 f1 hf (128 * 2 + (8 * k.val + 5)) (by rw [k0_off64_eq]; congr 1; omega)) $$ HM
  iintro HM
  sl_exec
  iapply (wp_assume _ _ _ _ (fun _ => chk_src I (128 * 2 + (8 * k.val + 5))))
  sl_exec
  iapply (issue c I tb 2 2 (8 * k.val + 5) (by omega) (by rw [k0_off65_eq]; funext a; fin_cases a <;> simp <;> omega) (off3_eq I _) (by decide)) $$ HS
  iintro HS
  sl_exec
  iapply (ld_id c I M1 f1 hf (128 * 2 + (8 * k.val + 6)) (by rw [k0_off67_eq]; congr 1; omega)) $$ HM
  iintro HM
  sl_exec
  iapply (wp_assume _ _ _ _ (fun _ => chk_src I (128 * 2 + (8 * k.val + 6))))
  sl_exec
  iapply (issue c I tb 2 2 (8 * k.val + 6) (by omega) (by rw [k0_off68_eq]; funext a; fin_cases a <;> simp <;> omega) (off3_eq I _) (by decide)) $$ HS
  iintro HS
  sl_exec
  iapply (ld_id c I M1 f1 hf (128 * 2 + (8 * k.val + 7)) (by rw [k0_off70_eq]; congr 1; omega)) $$ HM
  iintro HM
  sl_exec
  iapply (wp_assume _ _ _ _ (fun _ => chk_src I (128 * 2 + (8 * k.val + 7))))
  sl_exec
  iapply (issue c I tb 2 2 (8 * k.val + 7) (by omega) (by rw [k0_off71_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

/-- The slot of block `i + 3`. -/
abbrev slot3 (i : grid0.Coords) : Fin 4 := ⟨((i 0).val + 3) % 4, Nat.mod_lt _ (by decide)⟩
theorem sem_eq {off : Fin 1 → ℕ} {inb} {s : Fin 4} (h : off = ![s.val]) :
    ((cc0_scratch1.slice (Rect.unit (s := S4) off S1.size inb)).squeeze S_ squeezes_S1_S_).sem = cell s := by
  subst h
  match s with
  | 0 => exact (show ((cc0_scratch1.slice (Rect.unit (s := S4) ![0] S1.size (by decide))).squeeze S_ squeezes_S1_S_).sem = cell 0 by decide)
  | 1 => exact (show ((cc0_scratch1.slice (Rect.unit (s := S4) ![1] S1.size (by decide))).squeeze S_ squeezes_S1_S_).sem = cell 1 by decide)
  | 2 => exact (show ((cc0_scratch1.slice (Rect.unit (s := S4) ![2] S1.size (by decide))).squeeze S_ squeezes_S1_S_).sem = cell 2 by decide)
  | 3 => exact (show ((cc0_scratch1.slice (Rect.unit (s := S4) ![3] S1.size (by decide))).squeeze S_ squeezes_S1_S_).sem = cell 3 by decide)
theorem k0_off74_eq' : ∀ i : grid0.Coords, k0_off74 i = ![((i 0).val + 3) % 4] := by decide +kernel
theorem k0_off75_eq' : ∀ (i : grid0.Coords) (k : Fin k0_t4_loop.trips), k0_off75 i k = ![128 * (((i 0).val + 3) % 4) + (8 * k.val + 0), 0, 0] := by decide +kernel
theorem k0_off78_eq' : ∀ i : grid0.Coords, k0_off78 i = ![((i 0).val + 3) % 4] := by decide +kernel
theorem k0_off79_eq' : ∀ (i : grid0.Coords) (k : Fin k0_t4_loop.trips), k0_off79 i k = ![128 * (((i 0).val + 3) % 4) + (8 * k.val + 1), 0, 0] := by decide +kernel
theorem k0_off82_eq' : ∀ i : grid0.Coords, k0_off82 i = ![((i 0).val + 3) % 4] := by decide +kernel
theorem k0_off83_eq' : ∀ (i : grid0.Coords) (k : Fin k0_t4_loop.trips), k0_off83 i k = ![128 * (((i 0).val + 3) % 4) + (8 * k.val + 2), 0, 0] := by decide +kernel
theorem k0_off86_eq' : ∀ i : grid0.Coords, k0_off86 i = ![((i 0).val + 3) % 4] := by decide +kernel
theorem k0_off87_eq' : ∀ (i : grid0.Coords) (k : Fin k0_t4_loop.trips), k0_off87 i k = ![128 * (((i 0).val + 3) % 4) + (8 * k.val + 3), 0, 0] := by decide +kernel
theorem k0_off90_eq' : ∀ i : grid0.Coords, k0_off90 i = ![((i 0).val + 3) % 4] := by decide +kernel
theorem k0_off91_eq' : ∀ (i : grid0.Coords) (k : Fin k0_t4_loop.trips), k0_off91 i k = ![128 * (((i 0).val + 3) % 4) + (8 * k.val + 4), 0, 0] := by decide +kernel
theorem k0_off94_eq' : ∀ i : grid0.Coords, k0_off94 i = ![((i 0).val + 3) % 4] := by decide +kernel
theorem k0_off95_eq' : ∀ (i : grid0.Coords) (k : Fin k0_t4_loop.trips), k0_off95 i k = ![128 * (((i 0).val + 3) % 4) + (8 * k.val + 5), 0, 0] := by decide +kernel
theorem k0_off98_eq' : ∀ i : grid0.Coords, k0_off98 i = ![((i 0).val + 3) % 4] := by decide +kernel
theorem k0_off99_eq' : ∀ (i : grid0.Coords) (k : Fin k0_t4_loop.trips), k0_off99 i k = ![128 * (((i 0).val + 3) % 4) + (8 * k.val + 6), 0, 0] := by decide +kernel
theorem k0_off102_eq' : ∀ i : grid0.Coords, k0_off102 i = ![((i 0).val + 3) % 4] := by decide +kernel
theorem k0_off103_eq' : ∀ (i : grid0.Coords) (k : Fin k0_t4_loop.trips), k0_off103 i k = ![128 * (((i 0).val + 3) % 4) + (8 * k.val + 7), 0, 0] := by decide +kernel

include hf in
/-- One trip of loop 4: eight copies started. -/
theorem t4_step (hc : k0_cond2 i = 1#1) (v37 v48 : BitVec 32) (k : Fin k0_t4_loop.trips) (acc : Unit) :
    issuing c I tb M1 f1 (slot3 i) ((i 0).val + 3) k.val ⊢ wp frame (wpE (defs₀ (F := F)) Variants.none (c : Thread nD τ) none) Set.univ
      (k0_t4_body i M1 h1 M2 h2 M3 h3 (Memref.whole main_v2) h4 M5 h5 M6 h6 (Memref.whole cc0_scratch0) h7 cc0_scratch1 hc v37 v48 k acc)
      (fun _ => issuing c I tb M1 f1 (slot3 i) ((i 0).val + 3) (k.val + 1)) := by
  unfold issuing
  have hk : k.val < 16 := k.isLt
  iintro ⟨HS, HM⟩
  sl_unfold [k0_t4_body]
  sl_exec
  iapply (ld_id c I M1 f1 hf (128 * ((i 0).val + 3) + (8 * k.val + 0)) (by rw [k0_off73_eq]; congr 1; omega)) $$ HM
  iintro HM
  sl_exec
  iapply (wp_assume _ _ _ _ (fun _ => chk_src I (128 * ((i 0).val + 3) + (8 * k.val + 0))))
  sl_exec
  iapply (issue c I tb (slot3 i) ((i 0).val + 3) (8 * k.val + 0) (by omega) (k0_off75_eq' i k) (off3_eq I _) (sem_eq (k0_off74_eq' i))) $$ HS
  iintro HS
  sl_exec
  iapply (ld_id c I M1 f1 hf (128 * ((i 0).val + 3) + (8 * k.val + 1)) (by rw [k0_off77_eq]; congr 1; omega)) $$ HM
  iintro HM
  sl_exec
  iapply (wp_assume _ _ _ _ (fun _ => chk_src I (128 * ((i 0).val + 3) + (8 * k.val + 1))))
  sl_exec
  iapply (issue c I tb (slot3 i) ((i 0).val + 3) (8 * k.val + 1) (by omega) (k0_off79_eq' i k) (off3_eq I _) (sem_eq (k0_off78_eq' i))) $$ HS
  iintro HS
  sl_exec
  iapply (ld_id c I M1 f1 hf (128 * ((i 0).val + 3) + (8 * k.val + 2)) (by rw [k0_off81_eq]; congr 1; omega)) $$ HM
  iintro HM
  sl_exec
  iapply (wp_assume _ _ _ _ (fun _ => chk_src I (128 * ((i 0).val + 3) + (8 * k.val + 2))))
  sl_exec
  iapply (issue c I tb (slot3 i) ((i 0).val + 3) (8 * k.val + 2) (by omega) (k0_off83_eq' i k) (off3_eq I _) (sem_eq (k0_off82_eq' i))) $$ HS
  iintro HS
  sl_exec
  iapply (ld_id c I M1 f1 hf (128 * ((i 0).val + 3) + (8 * k.val + 3)) (by rw [k0_off85_eq]; congr 1; omega)) $$ HM
  iintro HM
  sl_exec
  iapply (wp_assume _ _ _ _ (fun _ => chk_src I (128 * ((i 0).val + 3) + (8 * k.val + 3))))
  sl_exec
  iapply (issue c I tb (slot3 i) ((i 0).val + 3) (8 * k.val + 3) (by omega) (k0_off87_eq' i k) (off3_eq I _) (sem_eq (k0_off86_eq' i))) $$ HS
  iintro HS
  sl_exec
  iapply (ld_id c I M1 f1 hf (128 * ((i 0).val + 3) + (8 * k.val + 4)) (by rw [k0_off89_eq]; congr 1; omega)) $$ HM
  iintro HM
  sl_exec
  iapply (wp_assume _ _ _ _ (fun _ => chk_src I (128 * ((i 0).val + 3) + (8 * k.val + 4))))
  sl_exec
  iapply (issue c I tb (slot3 i) ((i 0).val + 3) (8 * k.val + 4) (by omega) (k0_off91_eq' i k) (off3_eq I _) (sem_eq (k0_off90_eq' i))) $$ HS
  iintro HS
  sl_exec
  iapply (ld_id c I M1 f1 hf (128 * ((i 0).val + 3) + (8 * k.val + 5)) (by rw [k0_off93_eq]; congr 1; omega)) $$ HM
  iintro HM
  sl_exec
  iapply (wp_assume _ _ _ _ (fun _ => chk_src I (128 * ((i 0).val + 3) + (8 * k.val + 5))))
  sl_exec
  iapply (issue c I tb (slot3 i) ((i 0).val + 3) (8 * k.val + 5) (by omega) (k0_off95_eq' i k) (off3_eq I _) (sem_eq (k0_off94_eq' i))) $$ HS
  iintro HS
  sl_exec
  iapply (ld_id c I M1 f1 hf (128 * ((i 0).val + 3) + (8 * k.val + 6)) (by rw [k0_off97_eq]; congr 1; omega)) $$ HM
  iintro HM
  sl_exec
  iapply (wp_assume _ _ _ _ (fun _ => chk_src I (128 * ((i 0).val + 3) + (8 * k.val + 6))))
  sl_exec
  iapply (issue c I tb (slot3 i) ((i 0).val + 3) (8 * k.val + 6) (by omega) (k0_off99_eq' i k) (off3_eq I _) (sem_eq (k0_off98_eq' i))) $$ HS
  iintro HS
  sl_exec
  iapply (ld_id c I M1 f1 hf (128 * ((i 0).val + 3) + (8 * k.val + 7)) (by rw [k0_off101_eq]; congr 1; omega)) $$ HM
  iintro HM
  sl_exec
  iapply (wp_assume _ _ _ _ (fun _ => chk_src I (128 * ((i 0).val + 3) + (8 * k.val + 7))))
  sl_exec
  iapply (issue c I tb (slot3 i) ((i 0).val + 3) (8 * k.val + 7) (by omega) (k0_off103_eq' i k) (off3_eq I _) (sem_eq (k0_off102_eq' i))) $$ HS
  iintro HS
  sl_exec
  sl_step
  isplitl [HS]; · rw [show 8 * (k.val + 1) = 8 * k.val + 7 + 1 by omega]; iexact HS
  iexact HM

end T1
end Cert.Kernel.Rows
-- ==== Proof.Kernel.Compute.lean ====
module

public import proofs.«01_k».proof.Proof.Kernel.Issue
public import Idealize.ShloMosaic.Lib.WritesUnit

/-! The loop that computes a block's rows from the landed words. -/

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- What the kernel reads: the ids, the packed table, the scales and the norm's weight. -/
structure Env (F : FTy → Type) where
  /-- the ids -/
  I : Ids
  /-- the packed table -/
  tb : S6272x4096.Idx → Elt F .i32
  /-- the scales -/
  sc : S25088.Idx → Elt F .f32
  /-- the weight -/
  wv : S1x4096.Idx → Elt F .f32

/-- The packed words of the `j`-th id's table row. -/
def Env.word (E : Env F) (j : ℕ) : S1x1x4096.Idx → Elt F .i32 := fun y => E.tb (tix ⟨E.I.row j, E.I.row_lt j⟩ (y 2))
/-- The `j`-th id's scale. -/
def Env.scale (E : Env F) (j : ℕ) : Elt F .f32 := E.sc (fun a => match a with | ⟨0, _⟩ => ⟨(E.I.tok j).toNat, E.I.lt j⟩)

/-- The embedding rows of ids `j` and `j + 1`, as the kernel computes them. -/
def Env.embPair (E : Env F) (j : ℕ) : S2x4096.Idx → Elt F .bf16 :=
  k0_pay6 (k0_pay2 (E.I.tok j) (E.word j)) (k0_pay3 (E.scale j)) (k0_pay4 (E.I.tok (j + 1)) (E.word (j + 1))) (E.scale (j + 1))
/-- The normalised rows of ids `j` and `j + 1`, as the kernel computes them. -/
def Env.outPair (E : Env F) (j : ℕ) : S2x4096.Idx → Elt F .bf16 :=
  k0_pay11 (k0_pay1 E.wv) (k0_pay7 (k0_pay1 E.wv) (k0_pay2 (E.I.tok j) (E.word j)) (k0_pay3 (E.scale j)) (k0_pay4 (E.I.tok (j + 1)) (E.word (j + 1))) (E.scale (j + 1)))
    (k0_pay8 (k0_pay2 (E.I.tok j) (E.word j)) (k0_pay3 (E.scale j)) (k0_pay4 (E.I.tok (j + 1)) (E.word (j + 1))) (E.scale (j + 1)))
    (k0_pay9 (k0_pay2 (E.I.tok j) (E.word j)) (k0_pay3 (E.scale j)) (k0_pay4 (E.I.tok (j + 1)) (E.word (j + 1))) (E.scale (j + 1))) k0_pay10

/-- A block of 128 rows from its pairs. -/
def pairBlk (f : ℕ → S2x4096.Idx → Elt F .bf16) (b : ℕ) : S128x4096.Idx → Elt F .bf16 :=
  fun y => f (128 * b + 2 * ((y 0).val / 2)) (fun a => match a with | ⟨0, _⟩ => ⟨(y 0).val % 2, Nat.mod_lt _ (by decide)⟩ | ⟨1, _⟩ => y 1)

/-- Block `b` of the embedding result. -/
def Env.embBlk (E : Env F) (b : ℕ) : S128x4096.Idx → Elt F .bf16 := pairBlk E.embPair b
/-- Block `b` of the normalised result. -/
def Env.outBlk (E : Env F) (b : ℕ) : S128x4096.Idx → Elt F .bf16 := pairBlk E.outPair b

/-- The contents of the scales' window are the scales. -/
def IsSc (E : Env F) (M : Memref sig .tc .smem S25088 .f32) (f : M.view.ty.Contents (Elt F)) : Prop :=
  ∀ y : S25088.Idx, M.view.read (Elt F) f y = E.sc y
/-- The contents of the weight's window are the weight. -/
def IsW (E : Env F) (M : Memref sig .tc .vmem S1x4096 .f32) (f : M.view.ty.Contents (Elt F)) : Prop :=
  ∀ y : S1x4096.Idx, M.view.read (Elt F) f y = E.wv y

/-- The elements of slot `s` of the ring. -/
def wset (s : ℕ) : Finset S512x1x4096.Idx := Finset.univ.filter fun y => (y 0).val / 128 = s
theorem mem_wset {s : ℕ} {y : S512x1x4096.Idx} : y ∈ wset s ↔ (y 0).val / 128 = s := by simp [wset]

/-- Slot `s` of the ring, holding block `b`. -/
def slotPt (c : Dev nD) (E : Env F) (s b : ℕ) : sProp 𝕄 := Buf7.view.loc (c : Thread nD τ) ↦[wset s]{fullShare} landed E.I E.tb b

/-- An output window whose first `n` rows are done. -/
def outAt (c : Dev nD) (M : Memref sig .tc .vmem S128x4096 .bf16) (P : S128x4096.Idx → Elt F .bf16) (n : ℕ) : sProp 𝕄 :=
  iprop(∃ g : M.view.ty.Contents (Elt F), ⌜∀ y : S128x4096.Idx, (y 0).val < n → M.view.read (Elt F) g y = P y⌝ ∗ held c M g)

/-- Reading one scale. -/
theorem ld_sc (c : Dev nD) (E : Env F) (M : Memref sig .tc .smem S25088 .f32) (f : M.view.ty.Contents (Elt F)) (hf : IsSc E M f) (j : ℕ)
    {off : Fin 1 → ℕ} {inb hl} (h : off = ![(E.I.tok j).toNat])
    {α : Type} {k : (S1.Idx → Elt F .f32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k fun _ => E.scale j) Q)
      -∗ wp frame (wpE (defs₀ (F := F)) Variants.none (c : Thread nD τ) none) Set.univ (.op (.load M (Rect.unit (s := S25088) off S1.size inb).toLoadRect hl) k) Q) := by
  have e : M.view.readAt (Elt F) (Rect.unit (s := S25088) off S1.size inb).toLoadRect f = fun _ => E.scale j := by
    funext x
    refine (hf _).trans ?_
    unfold Env.scale
    congr 1
    subst h
    have hx : (x 0).val < 1 := (x 0).isLt
    funext a
    fin_cases a
    apply Fin.ext
    show (E.I.tok j).toNat + 1 * (x 0).val = (E.I.tok j).toNat
    omega
  unfold held
  rw [show (k fun _ => E.scale j) = k (M.view.readAt (Elt F) (Rect.unit (s := S25088) off S1.size inb).toLoadRect f) from congrArg k e.symm]
  exact wp_load Variants.none (c : Thread nD τ) none Set.univ (View.setOn_subset_set _ _)

/-- Reading the weight. -/
theorem ld_w (c : Dev nD) (E : Env F) (M : Memref sig .tc .vmem S1x4096 .f32) (f : M.view.ty.Contents (Elt F)) (hf : IsW E M f)
    {inb hl} {α : Type} {k : (S1x4096.Idx → Elt F .f32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k E.wv) Q)
      -∗ wp frame (wpE (defs₀ (F := F)) Variants.none (c : Thread nD τ) none) Set.univ (.op (.load M (Rect.unit (s := S1x4096) ![0, 0] S1x4096.size inb).toLoadRect hl) k) Q) := by
  have e : M.view.readAt (Elt F) (Rect.unit (s := S1x4096) ![0, 0] S1x4096.size inb).toLoadRect f = E.wv := by
    funext x
    refine (hf _).trans ?_
    congr 1
    funext a
    fin_cases a
    · apply Fin.ext; show 0 + 1 * (x 0).val = (x 0).val; omega
    · apply Fin.ext; show 0 + 1 * (x 1).val = (x 1).val; omega
  unfold held
  rw [show (k E.wv) = k (M.view.readAt (Elt F) (Rect.unit (s := S1x4096) ![0, 0] S1x4096.size inb).toLoadRect f) from congrArg k e.symm]
  exact wp_load Variants.none (c : Thread nD τ) none Set.univ (View.setOn_subset_set _ _)

/-- Reading one landed row. -/
theorem ld_row (c : Dev nD) (E : Env F) (s b t : ℕ) (ht : t < 128) {off : Fin 3 → ℕ} {inb hl} (h : off = ![128 * s + t, 0, 0])
    {α : Type} {k : (S1x1x4096.Idx → Elt F .i32) → Prog (TpuEff nD τ sig (Elt F) Λ₀ .tc) α} {Q : α → sProp 𝕄} :
    (slotPt c E s b : sProp 𝕄) ⊢ iprop((slotPt c E s b -∗ wp frame (wpE (defs₀ (F := F)) Variants.none (c : Thread nD τ) none) Set.univ (k (E.word (128 * b + t))) Q)
      -∗ wp frame (wpE (defs₀ (F := F)) Variants.none (c : Thread nD τ) none) Set.univ (.op (.load Buf7 (Rect.unit (s := S512x1x4096) off S1x1x4096.size inb).toLoadRect hl) k) Q) := by
  subst h
  have hm : (128 * s + t) % 128 = t := by omega
  have e : Buf7.view.readAt (Elt F) (Rect.unit (s := S512x1x4096) ![128 * s + t, 0, 0] S1x1x4096.size inb).toLoadRect (landed E.I E.tb b) = E.word (128 * b + t) := by
    funext x
    show E.tb _ = E.tb _
    congr 1
    have hx : (x 0).val < 1 := (x 0).isLt
    funext a
    fin_cases a
    · apply Fin.ext
      show E.I.row (128 * b + (128 * s + t + 1 * (x 0).val) % 128) = E.I.row (128 * b + t)
      rw [show (128 * s + t + 1 * (x 0).val) % 128 = t by omega]
    · apply Fin.ext
      show 0 + 1 * (x 2).val = (x 2).val; omega
  unfold slotPt
  rw [show (k (E.word (128 * b + t))) = k (Buf7.view.readAt (Elt F) (Rect.unit (s := S512x1x4096) ![128 * s + t, 0, 0] S1x1x4096.size inb).toLoadRect (landed E.I E.tb b)) from congrArg k e.symm]
  refine wp_load Variants.none (c : Thread nD τ) none Set.univ ?_
  intro y hy
  obtain ⟨x, hx, rfl⟩ := Finset.mem_map.mp hy
  have hx' := (Rect.mem_set_unit (s := S512x1x4096)).mp hx
  have a0 : 128 * s + t ≤ (x 0).val ∧ (x 0).val < 128 * s + t + 1 := hx' 0
  refine mem_wset.mpr ?_
  show (x 0).val / 128 = s
  omega

/-- A load of an output window whose value is not used. -/
theorem ld_out (c : Dev nD) (M : Memref sig .tc .vmem S128x4096 .bf16) (P : S128x4096.Idx → Elt F .bf16) (n : ℕ) {off : Fin 2 → ℕ} {inb hl}
    {α : Type} {k : (S2x4096.Idx → Elt F .bf16) → Prog (TpuEff nD τ sig (Elt F) Λ₀ .tc) α} {Q : α → sProp 𝕄} :
    (outAt c M P n : sProp 𝕄) ⊢ iprop((∀ v, outAt c M P n -∗ wp frame (wpE (defs₀ (F := F)) Variants.none (c : Thread nD τ) none) Set.univ (k v) Q)
      -∗ wp frame (wpE (defs₀ (F := F)) Variants.none (c : Thread nD τ) none) Set.univ (.op (.load M (Rect.unit (s := S128x4096) off S2x4096.size inb).toLoadRect hl) k) Q) := by
  unfold outAt held
  iintro ⟨%g, %hg, Hg⟩ HK
  iapply (wp_load Variants.none (c : Thread nD τ) none Set.univ (m := M) (f := g) (q := fullShare) (S := M.view.set) (View.setOn_subset_set _ _)) $$ Hg
  iintro Hg
  iapply HK
  iexists g
  isplitr; · ipureintro; exact hg
  iexact Hg

/-- A bind on a returned value is the continuation at that value. -/
theorem ret_bind (c : Dev nD) {α β : Type} {a : α} {k : α → Prog (TpuEff nD τ sig (Elt F) Λ₀ .tc) β} {Q : β → sProp 𝕄} :
    wp frame (wpE (defs₀ (F := F)) Variants.none (c : Thread nD τ) none) Set.univ (k a) Q
      ⊢ wp frame (wpE (defs₀ (F := F)) Variants.none (c : Thread nD τ) none) Set.univ ((Prog.ret a).bind k) Q := .rfl

/-- Storing a pair of rows. -/
theorem st_pair (c : Dev nD) (M : Memref sig .tc .vmem S128x4096 .bf16) (f : ℕ → S2x4096.Idx → Elt F .bf16) (b n : ℕ) (hn : n % 2 = 0)
    {off : Fin 2 → ℕ} {inb} {v : S2x4096.Idx → Elt F .bf16} {hx hm} (h : off = ![n, 0]) (hv : v = f (128 * b + n))
    {α : Type} {k : PUnit → Prog (TpuEff nD τ sig (Elt F) Λ₀ .tc) α} {Q : α → sProp 𝕄} :
    (outAt c M (pairBlk f b) n : sProp 𝕄) ⊢ iprop((outAt c M (pairBlk f b) (n + 2) -∗ wp frame (wpE (defs₀ (F := F)) Variants.none (c : Thread nD τ) none) Set.univ (k ⟨⟩) Q)
      -∗ wp frame (wpE (defs₀ (F := F)) Variants.none (c : Thread nD τ) none) Set.univ (.op (.store M (Rect.unit (s := S128x4096) off S2x4096.size inb) v Finset.univ hx hm) k) Q) := by
  subst h hv
  unfold outAt held
  iintro ⟨%g, %hg, Hg⟩ HK
  have hw := wp_store (nD := nD) (τ := τ) (defs := defs₀ (F := F)) Variants.none (c : Thread nD τ) none Set.univ (Γ := .empty) (m := M)
    (r := Rect.unit (s := S128x4096) ![n, 0] S2x4096.size inb) (w := f (128 * b + n)) (Mk := Finset.univ) (hx := hx) (hm := hm) (k := k) (Q := Q) (f := g)
    (S := M.view.set) ((View.setOn_subset_set _ _).trans (View.set_slice_subset _ _))
  iapply hw $$ Hg
  iintro Hg
  iapply HK
  iexists (M.view.writes (Elt F) g [⟨Rect.unit (s := S128x4096) ![n, 0] S2x4096.size inb, f (128 * b + n)⟩])
  isplitr
  · ipureintro
    intro y hy
    by_cases hlt : (y 0).val < n
    · refine (View.read_writes_cons_rows_of_not_mem M.view g inb _ [] y (o := n) (W := 2) rfl rfl (Or.inl hlt)).trans ?_
      exact hg y hlt
    · have h0 : 128 * b + 2 * ((y 0).val / 2) = 128 * b + n := by omega
      refine (View.read_writes_cons_rows_of_mem M.view g inb _ [] y (o := n)
        (fun a => match a with | ⟨0, _⟩ => ⟨(y 0).val % 2, Nat.mod_lt _ (by decide)⟩ | ⟨1, _⟩ => y 1) rfl ?_ rfl).trans ?_
      · show (y 0).val = n + (y 0).val % 2
        omega
      · unfold pairBlk
        rw [h0]
        congr 1
        funext a
        match a with
        | ⟨0, _⟩ => rfl
        | ⟨1, _⟩ => rfl
  iexact Hg

theorem k0_off108_eq' : ∀ (i : grid0.Coords) (k : Fin k0_t5_loop.trips), k0_off108 i k = ![128 * ((i 0).val % 4) + (8 * k.val + 0), 0, 0] := by decide +kernel
theorem k0_off111_eq' : ∀ (i : grid0.Coords) (k : Fin k0_t5_loop.trips), k0_off111 i k = ![128 * ((i 0).val % 4) + (8 * k.val + 1), 0, 0] := by decide +kernel
theorem k0_off115_eq' : ∀ (i : grid0.Coords) (k : Fin k0_t5_loop.trips), k0_off115 i k = ![128 * ((i 0).val % 4) + (8 * k.val + 2), 0, 0] := by decide +kernel
theorem k0_off118_eq' : ∀ (i : grid0.Coords) (k : Fin k0_t5_loop.trips), k0_off118 i k = ![128 * ((i 0).val % 4) + (8 * k.val + 3), 0, 0] := by decide +kernel
theorem k0_off122_eq' : ∀ (i : grid0.Coords) (k : Fin k0_t5_loop.trips), k0_off122 i k = ![128 * ((i 0).val % 4) + (8 * k.val + 4), 0, 0] := by decide +kernel
theorem k0_off125_eq' : ∀ (i : grid0.Coords) (k : Fin k0_t5_loop.trips), k0_off125 i k = ![128 * ((i 0).val % 4) + (8 * k.val + 5), 0, 0] := by decide +kernel
theorem k0_off129_eq' : ∀ (i : grid0.Coords) (k : Fin k0_t5_loop.trips), k0_off129 i k = ![128 * ((i 0).val % 4) + (8 * k.val + 6), 0, 0] := by decide +kernel
theorem k0_off132_eq' : ∀ (i : grid0.Coords) (k : Fin k0_t5_loop.trips), k0_off132 i k = ![128 * ((i 0).val % 4) + (8 * k.val + 7), 0, 0] := by decide +kernel

theorem chk_sc (I : Ids) (j : ℕ) : ∀ a, (![(I.tok j).toNat] : Fin 1 → ℕ) a + S1.size a ≤ S25088.size a := by
  have := I.lt j
  intro a; fin_cases a
  show (I.tok j).toNat + 1 ≤ 25088; omega

section T5
variable (c : Dev nD) (E : Env F)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf1 : IsIds E.I M1 f1)
  (f2 : M2.view.ty.Contents (Elt F)) (hf2 : IsSc E M2 f2)

/-- Before trip `k` of the compute loop: the first `8 k` rows of both results are done. -/
def computing (k : ℕ) : sProp 𝕄 :=
  iprop(slotPt c E ((i 0).val % 4) (i 0).val ∗ held c M1 f1 ∗ held c M2 f2
    ∗ outAt c M5 (pairBlk E.outPair (i 0).val) (8 * k) ∗ outAt c M6 (pairBlk E.embPair (i 0).val) (8 * k))

set_option maxHeartbeats 4000000 in
include hf1 hf2 in
/-- One trip of the compute loop: four pairs of rows. -/
theorem t5_step (a0 v18 : BitVec 32) (k : Fin k0_t5_loop.trips) (acc : Unit) :
    computing c E i M1 M2 M5 M6 f1 f2 k.val ⊢ wp frame (wpE (defs₀ (F := F)) Variants.none (c : Thread nD τ) none) Set.univ
      (k0_t5_body i M1 h1 M2 h2 M3 h3 (Memref.whole main_v2) h4 M5 h5 M6 h6 (Memref.whole cc0_scratch0) h7 cc0_scratch1 a0 v18 E.wv k acc)
      (fun _ => computing c E i M1 M2 M5 M6 f1 f2 (k.val + 1)) := by
  unfold computing
  have hk : k.val < 16 := k.isLt
  iintro ⟨HR, HM, HC, HO, HE⟩
  sl_unfold [k0_t5_body]
  sl_exec
  iapply (ld_id c E.I M1 f1 hf1 (128 * (i 0).val + (8 * k.val + 0)) (by rw [k0_off107_eq, Nat.add_zero])) $$ HM
  iintro HM
  sl_exec
  iapply (wp_assume _ _ _ _ (chk_sc E.I (128 * (i 0).val + (8 * k.val + 0))))
  sl_exec
  iapply (ld_row c E _ _ (8 * k.val + 0) (by omega) (k0_off108_eq' i k)) $$ HR
  iintro HR
  sl_exec
  iapply (ld_sc c E M2 f2 hf2 (128 * (i 0).val + (8 * k.val + 0)) rfl) $$ HC
  iintro HC
  sl_exec
  iapply (ld_id c E.I M1 f1 hf1 (128 * (i 0).val + (8 * k.val + 1)) (by rw [k0_off110_eq, Nat.add_assoc])) $$ HM
  iintro HM
  sl_exec
  iapply (wp_assume _ _ _ _ (chk_sc E.I (128 * (i 0).val + (8 * k.val + 1))))
  sl_exec
  iapply (ld_row c E _ _ (8 * k.val + 1) (by omega) (k0_off111_eq' i k)) $$ HR
  iintro HR
  sl_exec
  iapply (ld_sc c E M2 f2 hf2 (128 * (i 0).val + (8 * k.val + 1)) rfl) $$ HC
  iintro HC
  try sl_exec
  iapply (ld_out c M6 _ _) $$ HE
  iintro %_ HE
  iapply (st_pair c M6 E.embPair _ (8 * k.val + 0) (by omega) (by rw [k0_off113_eq]; try rfl) rfl) $$ HE
  iintro HE
  try iapply (ret_bind c)
  try sl_exec
  iapply (ld_out c M5 _ _) $$ HO
  iintro %_ HO
  iapply (st_pair c M5 E.outPair _ (8 * k.val + 0) (by omega) (by rw [k0_off113_eq]; try rfl) rfl) $$ HO
  iintro HO
  try iapply (ret_bind c)
  sl_exec
  iapply (ld_id c E.I M1 f1 hf1 (128 * (i 0).val + (8 * k.val + 2)) (by rw [k0_off114_eq, Nat.add_assoc])) $$ HM
  iintro HM
  sl_exec
  iapply (wp_assume _ _ _ _ (chk_sc E.I (128 * (i 0).val + (8 * k.val + 2))))
  sl_exec
  iapply (ld_row c E _ _ (8 * k.val + 2) (by omega) (k0_off115_eq' i k)) $$ HR
  iintro HR
  sl_exec
  iapply (ld_sc c E M2 f2 hf2 (128 * (i 0).val + (8 * k.val + 2)) rfl) $$ HC
  iintro HC
  sl_exec
  iapply (ld_id c E.I M1 f1 hf1 (128 * (i 0).val + (8 * k.val + 3)) (by rw [k0_off117_eq, Nat.add_assoc])) $$ HM
  iintro HM
  sl_exec
  iapply (wp_assume _ _ _ _ (chk_sc E.I (128 * (i 0).val + (8 * k.val + 3))))
  sl_exec
  iapply (ld_row c E _ _ (8 * k.val + 3) (by omega) (k0_off118_eq' i k)) $$ HR
  iintro HR
  sl_exec
  iapply (ld_sc c E M2 f2 hf2 (128 * (i 0).val + (8 * k.val + 3)) rfl) $$ HC
  iintro HC
  try sl_exec
  iapply (ld_out c M6 _ _) $$ HE
  iintro %_ HE
  iapply (st_pair c M6 E.embPair _ (8 * k.val + 2) (by omega) (by rw [k0_off120_eq]; try rfl) rfl) $$ HE
  iintro HE
  try iapply (ret_bind c)
  try sl_exec
  iapply (ld_out c M5 _ _) $$ HO
  iintro %_ HO
  iapply (st_pair c M5 E.outPair _ (8 * k.val + 2) (by omega) (by rw [k0_off120_eq]; try rfl) rfl) $$ HO
  iintro HO
  try iapply (ret_bind c)
  sl_exec
  iapply (ld_id c E.I M1 f1 hf1 (128 * (i 0).val + (8 * k.val + 4)) (by rw [k0_off121_eq, Nat.add_assoc])) $$ HM
  iintro HM
  sl_exec
  iapply (wp_assume _ _ _ _ (chk_sc E.I (128 * (i 0).val + (8 * k.val + 4))))
  sl_exec
  iapply (ld_row c E _ _ (8 * k.val + 4) (by omega) (k0_off122_eq' i k)) $$ HR
  iintro HR
  sl_exec
  iapply (ld_sc c E M2 f2 hf2 (128 * (i 0).val + (8 * k.val + 4)) rfl) $$ HC
  iintro HC
  sl_exec
  iapply (ld_id c E.I M1 f1 hf1 (128 * (i 0).val + (8 * k.val + 5)) (by rw [k0_off124_eq, Nat.add_assoc])) $$ HM
  iintro HM
  sl_exec
  iapply (wp_assume _ _ _ _ (chk_sc E.I (128 * (i 0).val + (8 * k.val + 5))))
  sl_exec
  iapply (ld_row c E _ _ (8 * k.val + 5) (by omega) (k0_off125_eq' i k)) $$ HR
  iintro HR
  sl_exec
  iapply (ld_sc c E M2 f2 hf2 (128 * (i 0).val + (8 * k.val + 5)) rfl) $$ HC
  iintro HC
  try sl_exec
  iapply (ld_out c M6 _ _) $$ HE
  iintro %_ HE
  iapply (st_pair c M6 E.embPair _ (8 * k.val + 4) (by omega) (by rw [k0_off127_eq]; try rfl) rfl) $$ HE
  iintro HE
  try iapply (ret_bind c)
  try sl_exec
  iapply (ld_out c M5 _ _) $$ HO
  iintro %_ HO
  iapply (st_pair c M5 E.outPair _ (8 * k.val + 4) (by omega) (by rw [k0_off127_eq]; try rfl) rfl) $$ HO
  iintro HO
  try iapply (ret_bind c)
  sl_exec
  iapply (ld_id c E.I M1 f1 hf1 (128 * (i 0).val + (8 * k.val + 6)) (by rw [k0_off128_eq, Nat.add_assoc])) $$ HM
  iintro HM
  sl_exec
  iapply (wp_assume _ _ _ _ (chk_sc E.I (128 * (i 0).val + (8 * k.val + 6))))
  sl_exec
  iapply (ld_row c E _ _ (8 * k.val + 6) (by omega) (k0_off129_eq' i k)) $$ HR
  iintro HR
  sl_exec
  iapply (ld_sc c E M2 f2 hf2 (128 * (i 0).val + (8 * k.val + 6)) rfl) $$ HC
  iintro HC
  sl_exec
  iapply (ld_id c E.I M1 f1 hf1 (128 * (i 0).val + (8 * k.val + 7)) (by rw [k0_off131_eq, Nat.add_assoc])) $$ HM
  iintro HM
  sl_exec
  iapply (wp_assume _ _ _ _ (chk_sc E.I (128 * (i 0).val + (8 * k.val + 7))))
  sl_exec
  iapply (ld_row c E _ _ (8 * k.val + 7) (by omega) (k0_off132_eq' i k)) $$ HR
  iintro HR
  sl_exec
  iapply (ld_sc c E M2 f2 hf2 (128 * (i 0).val + (8 * k.val + 7)) rfl) $$ HC
  iintro HC
  try sl_exec
  iapply (ld_out c M6 _ _) $$ HE
  iintro %_ HE
  iapply (st_pair c M6 E.embPair _ (8 * k.val + 6) (by omega) (by rw [k0_off134_eq]; try rfl) rfl) $$ HE
  iintro HE
  try iapply (ret_bind c)
  try sl_exec
  iapply (ld_out c M5 _ _) $$ HO
  iintro %_ HO
  iapply (ret_bind c)
  sl_exec
  iapply (st_pair c M5 E.outPair _ (8 * k.val + 6) (by omega) (by rw [k0_off134_eq]; try rfl) rfl) $$ HO
  iintro HO
  try iapply (ret_bind c)
  sl_exec
  sl_step
  isplitl [HR]; · iexact HR
  isplitl [HM]; · iexact HM
  isplitl [HC]; · iexact HC
  rw [show 8 * (k.val + 1) = 8 * k.val + 6 + 2 by omega]
  isplitl [HO]; · iexact HO
  iexact HE

end T5
end Cert.Kernel.Rows
-- ==== Proof.Kernel.Body.lean ====
module

public import proofs.«01_k».proof.Proof.Kernel.Compute

/-! One run of the kernel's body. -/

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- What a drained slot has besides its rows: its counter at zero and its read tokens whole. -/
def back (c : Dev nD) (tb : S6272x4096.Idx → Elt F .i32) (s : Fin 4) : sProp 𝕄 :=
  iprop(semVal ((c : Thread nD τ), SemLoc.dma (cell s)) 0 ∗ bigSep Finset.univ fun t : Fin 128 => tokPt c tb (128 * s.val + t.val))

theorem slot_disj (s : ℕ) : ∀ a b : Fin 128, a ≠ b → Disjoint (bset (128 * s + a.val)) (bset (128 * s + b.val)) := by
  intro a b hab
  rw [Finset.disjoint_left]
  intro y h1 h2
  rw [mem_bset] at h1 h2
  exact hab (Fin.ext (by omega))

theorem slot_cover (s : ℕ) : Finset.univ.biUnion (fun t : Fin 128 => bset (128 * s + t.val)) = wset s := by
  ext y
  rw [Finset.mem_biUnion, mem_wset]
  constructor
  · rintro ⟨t, -, h⟩; rw [mem_bset] at h; omega
  · intro h; exact ⟨⟨(y 0).val % 128, Nat.mod_lt _ (by decide)⟩, Finset.mem_univ _, mem_bset.mpr (by show _ = 128 * s + (y 0).val % 128; omega)⟩

/-- A slot's rows together are the slot. -/
theorem slot_rows (c : Dev nD) (s : ℕ) (g : S512x1x4096.Idx → Elt F .i32) :
    (Buf7.view.loc (c : Thread nD τ) ↦[wset s]{fullShare} g : sProp 𝕄) = bigSep Finset.univ fun t : Fin 128 => rowPt c (128 * s + t.val) g := by
  unfold rowPt
  exact Ring.pointsTo_sub_blocks (ℓ := Buf7.view.loc (c : Thread nD τ)) (fun t : Fin 128 => bset (128 * s + t.val)) (slot_disj s) (wset s) (slot_cover s) g

/-- A slot holding a block, drained, is a slot at rest. -/
theorem slot_rest (c : Dev nD) (E : Env F) (s : Fin 4) (b : ℕ) :
    (iprop(slotPt c E s.val b ∗ back c E.tb s) : sProp 𝕄) ⊢ idle c E.tb s := by
  unfold slotPt back idle rest
  rw [slot_rows, bigSep_sep']
  iintro ⟨HR, Hs, Ht⟩
  isplitl [Hs]; · iexact Hs
  isplitl [HR]
  · iapply (show (bigSep Finset.univ (fun t : Fin 128 => rowPt c (128 * s.val + t.val) (landed E.I E.tb b)) : sProp 𝕄)
        ⊢ bigSep Finset.univ (fun t : Fin 128 => iprop(∃ g, rowPt c (128 * s.val + t.val) g)) from BI.bigSep_mono fun t _ =>
          (show (rowPt c (128 * s.val + t.val) (landed E.I E.tb b) : sProp 𝕄) ⊢ iprop(∃ g, rowPt c (128 * s.val + t.val) g) from by
            iintro H; iexists _; iexact H))
    iexact HR
  iexact Ht

/-- All 128 copies of a block in flight. -/
def flight (c : Dev nD) (E : Env F) (s : Fin 4) (b : ℕ) : sProp 𝕄 := started c E.I E.tb s b 128

theorem win_credit (off : Fin 3 → ℕ) (inb : ∀ a, off a + S128x1x4096.size a ≤ S512x1x4096.size a) :
    (Buf7.slice (Rect.unit (s := S512x1x4096) off S128x1x4096.size inb) (fun _ => rfl)).view.dmaCredit = NN * 128 := by
  show RefSig.tileCredit S128x1x4096 .i32 = RefSig.tileCredit S1x4096 .i32 * 128
  exact (RefSig.tileCredit_cons 128 ![1, 4096] .i32).trans (Nat.mul_comm _ _)

/-- Waiting for a block's copies. -/
theorem drain (c : Dev nD) (E : Env F) (s : Fin 4) (b : ℕ) {off : Fin 3 → ℕ} {inb : ∀ a, off a + S128x1x4096.size a ≤ S512x1x4096.size a} {sem : DmaSem sig}
    {a1 a2} (hs : sem = cell s) {W : Waits sig Unit}
    {α : Type} {k : PUnit → Prog (TpuEff nD τ sig (Elt F) Λ₀ .tc) α} {Q : α → sProp 𝕄} :
    (iprop(flight c E s b ∗ owes (c : Thread nD τ) 0 W) : sProp 𝕄) ⊢ iprop((slotPt c E s.val b -∗ back c E.tb s -∗ (∃ W, owes (c : Thread nD τ) 0 W)
        -∗ wp frame (wpE (defs₀ (F := F)) Variants.none (c : Thread nD τ) none) Set.univ (k ⟨⟩) Q)
      -∗ wp frame (wpE (defs₀ (F := F)) Variants.none (c : Thread nD τ) none) Set.univ
        (.op (.waitDma2 sem (Buf7.slice (Rect.unit (s := S512x1x4096) off S128x1x4096.size inb) (fun _ => rfl))
          (Buf7.slice (Rect.unit (s := S512x1x4096) off S128x1x4096.size inb) (fun _ => rfl)) a1 a2) k) Q) := by
  subst hs
  unfold flight started batch
  rw [rangeSet_full, Ring.bigSep_rangeSet_empty (le_refl 128)]
  iintro ⟨⟨HB, -, Hk⟩, HO⟩ HK
  iapply (Transfers.wp_waitBatchAll (countersEmb (U := Pipeline.UD sig nD τ)) Variants.none (c : Thread nD τ) none () (N := NN) (J := NN * 128)
    (D := dlv c E.I E.tb s b) (u := 0) (win_credit off inb) NN_pos (Nat.zero_add _)) $$ [HB HO]
  · isplitl [HB]; · iexact HB
    iexact HO
  iintro ⟨HD, Hs, HO⟩
  ihave HD' := (show (bigSep Finset.univ (dlv c E.I E.tb s b) : sProp 𝕄) ⊢ iprop((bigSep Finset.univ fun t : Fin 128 => rowPt c (128 * s.val + t.val) (landed E.I E.tb b))
      ∗ bigSep Finset.univ fun t : Fin 128 => piecePt c E.tb (128 * s.val + t.val) (E.I.row (128 * b + t.val))) from Entails.of_eq (bigSep_sep' _ _ _)) $$ HD
  icases HD' with ⟨HR, HP⟩
  iapply HK $$ [HR] [HP Hk Hs] [HO]
  · unfold slotPt; rw [slot_rows]; iexact HR
  · unfold back
    isplitl [Hs]; · iexact Hs
    ihave HT := (show (iprop((bigSep Finset.univ fun t : Fin 128 => piecePt c E.tb (128 * s.val + t.val) (E.I.row (128 * b + t.val)))
        ∗ bigSep Finset.univ (kept c E.I E.tb s b)) : sProp 𝕄) ⊢ bigSep Finset.univ fun t : Fin 128 => tokPt c E.tb (128 * s.val + t.val) from by
      rw [← bigSep_sep']
      exact BI.bigSep_mono fun t _ => (pointsTo_split_subset (Finset.subset_univ _)).2) $$ [HP Hk]
    · isplitl [HP]; · iexact HP
      iexact Hk
    iexact HT
  · iexists _; iexact HO

/-- The slot a block uses. -/
def slotOf (b : ℕ) : Fin 4 := ⟨b % 4, Nat.mod_lt _ (by decide)⟩

/-- Block `b`'s slot: its copies in flight, or at rest past the last block. -/
def St (c : Dev nD) (E : Env F) (b : ℕ) : sProp 𝕄 := if b < 64 then flight c E (slotOf b) b else idle c E.tb (slotOf b)

/-- The ring before block `n`: the next three blocks in flight and the fourth slot at rest. -/
def RingAt (c : Dev nD) (E : Env F) (n : ℕ) : sProp 𝕄 :=
  iprop((if n = 0 then iprop(idle c E.tb 0 ∗ idle c E.tb 1 ∗ idle c E.tb 2) else iprop(St c E n ∗ St c E (n + 1) ∗ St c E (n + 2))) ∗ idle c E.tb (slotOf (n + 3)))

/-- A slot with every copy started is its block's. -/
theorem started_St (c : Dev nD) (E : Env F) (s : Fin 4) (b k : ℕ) (hk : k = 128) (hs : s = slotOf b) (hb : b < 64) :
    (started c E.I E.tb s b k : sProp 𝕄) ⊢ St c E b := by
  subst hk hs
  unfold St flight
  rw [if_pos hb]

theorem cond1_iff : ∀ i : grid0.Coords, k0_cond1 i = 1#1 ↔ (i 0).val = 0 := by decide +kernel
theorem cond2_iff : ∀ i : grid0.Coords, k0_cond2 i = 1#1 ↔ (i 0).val + 3 < 64 := by decide +kernel
theorem k0_off105_eq' : ∀ i : grid0.Coords, k0_off105 i = ![(i 0).val % 4] := by decide +kernel

universe v
/-- Binds associate. -/
theorem p_assoc {X : Type → Type v} {γ α β : Type} (y : Prog X γ) (r : γ → Prog X α) (k : α → Prog X β) :
    Prog.bind (Prog.bind y r) k = Prog.bind y fun z => Prog.bind (r z) k := Prog.bind_assoc y r k
/-- A bind on a returned value. -/
theorem p_ret {X : Type → Type v} {α β : Type} (a : α) (k : α → Prog X β) : Prog.bind (Prog.ret a) k = k a := rfl

section Body
variable (c : Dev nD) (E : Env F)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf1 : IsIds E.I M1 f1)
  (f2 : M2.view.ty.Contents (Elt F)) (hf2 : IsSc E M2 f2) (f3 : M3.view.ty.Contents (Elt F)) (hf3 : IsW E M3 f3)

/-- The first conditional of the body: the first three blocks' copies. -/
def first : Prog (TpuEff nD τ sig (Elt F) Λ₀ .tc) PUnit :=
  if k0_h1 : k0_cond1 i = 1#1 then do
    Scf.Loop.for k0_t1_loop (k0_t1_ok i k0_h1) ⟨⟩ (k0_t1_body i M1 h1 M2 h2 M3 h3 (Memref.whole main_v2) h4 M5 h5 M6 h6 (Memref.whole cc0_scratch0) h7 cc0_scratch1 k0_h1)
    Scf.Loop.for k0_t2_loop (k0_t2_ok i k0_h1) ⟨⟩ (k0_t2_body i M1 h1 M2 h2 M3 h3 (Memref.whole main_v2) h4 M5 h5 M6 h6 (Memref.whole cc0_scratch0) h7 cc0_scratch1 k0_h1)
    Scf.Loop.for k0_t3_loop (k0_t3_ok i k0_h1) ⟨⟩ (k0_t3_body i M1 h1 M2 h2 M3 h3 (Memref.whole main_v2) h4 M5 h5 M6 h6 (Memref.whole cc0_scratch0) h7 cc0_scratch1 k0_h1)
    pure ⟨⟩
  else do pure ⟨⟩

/-- The second conditional of the body: the copies of the block three further on. -/
def second (v37 v48 : BitVec 32) : Prog (TpuEff nD τ sig (Elt F) Λ₀ .tc) PUnit :=
  if k0_h2 : k0_cond2 i = 1#1 then do
    Scf.Loop.for k0_t4_loop (k0_t4_ok i k0_h2) ⟨⟩ (k0_t4_body i M1 h1 M2 h2 M3 h3 (Memref.whole main_v2) h4 M5 h5 M6 h6 (Memref.whole cc0_scratch0) h7 cc0_scratch1 k0_h2 v37 v48)
    pure ⟨⟩
  else do pure ⟨⟩

/-- The rest of the body: the wait, the weight, the compute loop. -/
def third (a0 v18 : BitVec 32) : Prog (TpuEff nD τ sig (Elt F) Λ₀ .tc) PUnit := do
  Prog.lift (.waitDma2 ((cc0_scratch1.slice (Rect.unit (s := S4) (k0_off105 i) S1.size (k0_off105_inb i))).squeeze S_ squeezes_S1_S_).sem
    (Buf7.slice (Rect.unit (s := S512x1x4096) (k0_off106 i) S128x1x4096.size (k0_off106_inb i)) (fun _ => rfl))
    (Buf7.slice (Rect.unit (s := S512x1x4096) (k0_off106 i) S128x1x4096.size (k0_off106_inb i)) (fun _ => rfl)) (View.wordExact_bits rfl) (View.wordExact_bits rfl))
  let v33 ← Prog.lift (.load M3 (Rect.unit (s := S1x4096) ![0, 0] S1x4096.size inb_S1x4096_S1x4096_0_0).toLoadRect (View.loadsAt_vmem h_S1x4096))
  Scf.Loop.for k0_t5_loop k0_t5_ok ⟨⟩ (k0_t5_body i M1 h1 M2 h2 M3 h3 (Memref.whole main_v2) h4 M5 h5 M6 h6 (Memref.whole cc0_scratch0) h7 cc0_scratch1 a0 v18 v33)
  pure ⟨⟩

/-- The remainder the kernel computes for the block at word `v`, with the sign corrected. -/
def remW (v : BitVec 32) : BitVec 32 :=
  let v8 : BitVec 1 := Scalar.cmpi .eq 4#32 0#32
  let v9 : BitVec 32 := Scalar.select v8 1#32 4#32
  let v10 : BitVec 32 := Scalar.remsi v v9
  let v11 : BitVec 1 := Scalar.cmpi .ne v10 0#32
  let v12 : BitVec 1 := Scalar.cmpi .slt v10 0#32
  let v13 : BitVec 1 := Scalar.cmpi .slt v9 0#32
  let v14 : BitVec 1 := Scalar.xori v12 v13
  let v15 : BitVec 1 := Scalar.andi v14 v11
  let v16 : BitVec 32 := Scalar.addi v10 v9
  Scalar.select v15 v16 v10

/-- The body is its three parts in order. -/
theorem body_parts : cc0_emb_rmsnorm (F := F) i M1 h1 M2 h2 M3 h3 (Memref.whole main_v2) h4 M5 h5 M6 h6 (Memref.whole cc0_scratch0) h7 cc0_scratch1
    = (first i M1 h1 M2 h2 M3 h3 h4 M5 h5 M6 h6 h7).bind fun _ =>
      (second i M1 h1 M2 h2 M3 h3 h4 M5 h5 M6 h6 h7 (Scalar.subi (Scalar.addi (BitVec.ofNat 32 (i 0).val) 4#32) 1#32)
        (Scalar.muli (remW (Scalar.subi (Scalar.addi (BitVec.ofNat 32 (i 0).val) 4#32) 1#32)) 128#32)).bind fun _ =>
      third i M1 h1 M2 h2 M3 h3 h4 M5 h5 M6 h6 h7 (BitVec.ofNat 32 (i 0).val) (Scalar.muli (remW (BitVec.ofNat 32 (i 0).val)) 128#32) := by
  rw [cc0_emb_rmsnorm_eq_skeleton]
  unfold cc0_emb_rmsnorm_skel
  rw [k0_part24_eq_skeleton]
  unfold k0_part24_skel first second
  by_cases hc1 : k0_cond1 i = 1#1 <;> by_cases hc2 : k0_cond2 i = 1#1 <;> simp only [hc1, hc2, ↓reduceDIte] <;>
    simp only [Bind.bind, Pure.pure, p_assoc, p_ret] <;> rfl

include hf1 in
theorem first_step (n : ℕ) (hn : (i 0).val = n) :
    (iprop((if n = 0 then iprop(idle c E.tb 0 ∗ idle c E.tb 1 ∗ idle c E.tb 2) else iprop(St c E n ∗ St c E (n + 1) ∗ St c E (n + 2))) ∗ held c M1 f1) : sProp 𝕄)
      ⊢ wp frame (wpE (defs₀ (F := F)) Variants.none (c : Thread nD τ) none) Set.univ (first i M1 h1 M2 h2 M3 h3 h4 M5 h5 M6 h6 h7)
        fun _ => iprop(St c E n ∗ St c E (n + 1) ∗ St c E (n + 2) ∗ held c M1 f1) := by
  unfold first
  by_cases h0 : n = 0
  · have hc := (cond1_iff i).mpr (hn.trans h0)
    rw [dif_pos hc, if_pos h0]
    subst h0
    iintro ⟨⟨H0, H1, H2⟩, HM⟩
    imod (start c E.I E.tb 0 0) $$ H0 with H0
    imod (start c E.I E.tb 1 1) $$ H1 with H1
    imod (start c E.I E.tb 2 2) $$ H2 with H2
    sl_for (fun k acc => issuing c E.I E.tb M1 f1 0 0 k) $$ [H0 HM]
    · intro k acc; exact t1_step c E.I E.tb i M1 h1 M2 h2 M3 h3 h4 M5 h5 M6 h6 h7 f1 hf1 hc k acc
    · unfold issuing
      isplitl [H0]; · iexact H0
      iexact HM
    iintro %acc HL
    unfold issuing
    icases HL with ⟨H0, HM⟩
    sl_for (fun k acc => issuing c E.I E.tb M1 f1 1 1 k) $$ [H1 HM]
    · intro k acc; exact t2_step c E.I E.tb i M1 h1 M2 h2 M3 h3 h4 M5 h5 M6 h6 h7 f1 hf1 hc k acc
    · unfold issuing
      isplitl [H1]; · iexact H1
      iexact HM
    iintro %acc HL
    unfold issuing
    icases HL with ⟨H1, HM⟩
    sl_for (fun k acc => issuing c E.I E.tb M1 f1 2 2 k) $$ [H2 HM]
    · intro k acc; exact t3_step c E.I E.tb i M1 h1 M2 h2 M3 h3 h4 M5 h5 M6 h6 h7 f1 hf1 hc k acc
    · unfold issuing
      isplitl [H2]; · iexact H2
      iexact HM
    iintro %acc HL
    unfold issuing
    icases HL with ⟨H2, HM⟩
    sl_step
    isplitl [H0]; · iapply (started_St c E 0 0 _ rfl rfl (by decide)); iexact H0
    isplitl [H1]; · iapply (started_St c E 1 1 _ rfl rfl (by decide)); iexact H1
    isplitl [H2]; · iapply (started_St c E 2 2 _ rfl rfl (by decide)); iexact H2
    iexact HM
  · have hc : ¬ k0_cond1 i = 1#1 := fun h => h0 (hn.symm.trans ((cond1_iff i).mp h))
    rw [dif_neg hc, if_neg h0]
    iintro ⟨⟨H0, H1, H2⟩, HM⟩
    sl_step
    isplitl [H0]; · iexact H0
    isplitl [H1]; · iexact H1
    isplitl [H2]; · iexact H2
    iexact HM

include hf1 in
theorem second_step (n : ℕ) (hn : (i 0).val = n) (v37 v48 : BitVec 32) :
    (iprop(idle c E.tb (slotOf (n + 3)) ∗ held c M1 f1) : sProp 𝕄)
      ⊢ wp frame (wpE (defs₀ (F := F)) Variants.none (c : Thread nD τ) none) Set.univ (second i M1 h1 M2 h2 M3 h3 h4 M5 h5 M6 h6 h7 v37 v48)
        fun _ => iprop(St c E (n + 3) ∗ held c M1 f1) := by
  subst hn
  unfold second
  by_cases hl : (i 0).val + 3 < 64
  · have hc := (cond2_iff i).mpr hl
    rw [dif_pos hc]
    iintro ⟨H0, HM⟩
    imod (start c E.I E.tb (slotOf ((i 0).val + 3)) ((i 0).val + 3)) $$ H0 with H0
    sl_for (fun k acc => issuing c E.I E.tb M1 f1 (slot3 i) ((i 0).val + 3) k) $$ [H0 HM]
    · intro k acc; exact t4_step c E.I E.tb i M1 h1 M2 h2 M3 h3 h4 M5 h5 M6 h6 h7 f1 hf1 hc v37 v48 k acc
    · unfold issuing
      isplitl [H0]; · iexact H0
      iexact HM
    iintro %acc HL
    unfold issuing
    icases HL with ⟨H0, HM⟩
    sl_step
    isplitl [H0]; · iapply (started_St c E (slot3 i) _ _ rfl rfl hl); iexact H0
    iexact HM
  · have hc : ¬ k0_cond2 i = 1#1 := fun h => hl ((cond2_iff i).mp h)
    rw [dif_neg hc]
    unfold St
    rw [if_neg hl]
    iintro ⟨H0, HM⟩
    sl_step
    isplitl [H0]; · iexact H0
    iexact HM

include hf1 hf2 hf3 in
theorem third_step (n : ℕ) (hn : (i 0).val = n) (a0 v18 : BitVec 32) {W : Waits sig Unit} :
    (iprop(St c E n ∗ owes (c : Thread nD τ) 0 W ∗ held c M1 f1 ∗ held c M2 f2 ∗ held c M3 f3
        ∗ outAt c M5 (pairBlk E.outPair n) 0 ∗ outAt c M6 (pairBlk E.embPair n) 0) : sProp 𝕄)
      ⊢ wp frame (wpE (defs₀ (F := F)) Variants.none (c : Thread nD τ) none) Set.univ (third i M1 h1 M2 h2 M3 h3 h4 M5 h5 M6 h6 h7 a0 v18)
        fun _ => iprop(idle c E.tb (slotOf n) ∗ (∃ W, owes (c : Thread nD τ) 0 W) ∗ held c M1 f1 ∗ held c M2 f2 ∗ held c M3 f3
          ∗ outAt c M5 (pairBlk E.outPair n) 128 ∗ outAt c M6 (pairBlk E.embPair n) 128) := by
  have hlt : n < 64 := hn ▸ (i 0).isLt
  subst hn
  unfold St third
  rw [if_pos hlt]
  iintro ⟨HF, HW, HM, HC, H3, HO, HE⟩
  iapply (drain c E (slotOf (i 0).val) (i 0).val (sem_eq (k0_off105_eq' i))) $$ [HF HW]
  · isplitl [HF]; · iexact HF
    iexact HW
  iintro HR HB HW
  iapply (ret_bind c)
  iapply (ld_w c E M3 f3 hf3) $$ H3
  iintro H3
  iapply (ret_bind c)
  sl_for (fun k acc => computing c E i M1 M2 M5 M6 f1 f2 k) $$ [HR HM HC HO HE]
  · intro k acc; exact t5_step c E i M1 h1 M2 h2 M3 h3 h4 M5 h5 M6 h6 h7 f1 hf1 f2 hf2 a0 v18 k acc
  · unfold computing
    isplitl [HR]; · iexact HR
    isplitl [HM]; · iexact HM
    isplitl [HC]; · iexact HC
    isplitl [HO]; · iexact HO
    iexact HE
  iintro %acc HL
  unfold computing
  icases HL with ⟨HR, HM, HC, HO, HE⟩
  sl_step
  isplitl [HR HB]
  · iapply (slot_rest c E (slotOf (i 0).val) (i 0).val)
    isplitl [HR]; · iexact HR
    iexact HB
  isplitl [HW]; · iexact HW
  isplitl [HM]; · iexact HM
  isplitl [HC]; · iexact HC
  isplitl [H3]; · iexact H3
  isplitl [HO]; · iexact HO
  iexact HE

include hf1 hf2 hf3 in
/-- The body at block `n`: the ring moves on one block, both output windows hold the block. -/
theorem body_step (n : ℕ) (hn : (i 0).val = n) {W : Waits sig Unit} :
    (iprop(RingAt c E n ∗ owes (c : Thread nD τ) 0 W ∗ held c M1 f1 ∗ held c M2 f2 ∗ held c M3 f3
        ∗ outAt c M5 (pairBlk E.outPair n) 0 ∗ outAt c M6 (pairBlk E.embPair n) 0) : sProp 𝕄)
      ⊢ wp frame (wpE (defs₀ (F := F)) Variants.none (c : Thread nD τ) none) Set.univ
        (cc0_emb_rmsnorm (F := F) i M1 h1 M2 h2 M3 h3 (Memref.whole main_v2) h4 M5 h5 M6 h6 (Memref.whole cc0_scratch0) h7 cc0_scratch1)
        fun _ => iprop(RingAt c E (n + 1) ∗ (∃ W, owes (c : Thread nD τ) 0 W) ∗ held c M1 f1 ∗ held c M2 f2 ∗ held c M3 f3
          ∗ outAt c M5 (pairBlk E.outPair n) 128 ∗ outAt c M6 (pairBlk E.embPair n) 128) := by
  rw [body_parts]
  show _ ⊢ wp frame (wpE (defs₀ (F := F)) Variants.none (c : Thread nD τ) none) Set.univ (first i M1 h1 M2 h2 M3 h3 h4 M5 h5 M6 h6 h7 >>= fun _ =>
    second i M1 h1 M2 h2 M3 h3 h4 M5 h5 M6 h6 h7 _ _ >>= fun _ => third i M1 h1 M2 h2 M3 h3 h4 M5 h5 M6 h6 h7 _ _) _
  simp only [wp_bind]
  have hs : slotOf (n + 1 + 3) = slotOf n := Fin.ext (by show (n + 1 + 3) % 4 = n % 4; omega)
  unfold RingAt
  rw [if_neg (Nat.succ_ne_zero n), hs]
  iintro ⟨⟨HA, HI⟩, HW, H1, H2, H3, H5, H6⟩
  ihave HF := (first_step c E i M1 h1 M2 h2 M3 h3 h4 M5 h5 M6 h6 h7 f1 hf1 n hn) $$ [HA H1]
  · isplitl [HA]; · iexact HA
    iexact H1
  iapply (wp_wand frame (wpE (defs₀ (F := F)) Variants.none (c : Thread nD τ) none) Set.univ) $$ HF
  iintro %_ ⟨S0, S1, S2, H1⟩
  ihave HF := (second_step c E i M1 h1 M2 h2 M3 h3 h4 M5 h5 M6 h6 h7 f1 hf1 n hn _ _) $$ [HI H1]
  · isplitl [HI]; · iexact HI
    iexact H1
  iapply (wp_wand frame (wpE (defs₀ (F := F)) Variants.none (c : Thread nD τ) none) Set.univ) $$ HF
  iintro %_ ⟨S3, H1⟩
  ihave HF := (third_step c E i M1 h1 M2 h2 M3 h3 h4 M5 h5 M6 h6 h7 f1 hf1 f2 hf2 f3 hf3 n hn _ _ (W := W)) $$ [S0 HW H1 H2 H3 H5 H6]
  · isplitl [S0]; · iexact S0
    isplitl [HW]; · iexact HW
    isplitl [H1]; · iexact H1
    isplitl [H2]; · iexact H2
    isplitl [H3]; · iexact H3
    isplitl [H5]; · iexact H5
    iexact H6
  iapply (wp_wand frame (wpE (defs₀ (F := F)) Variants.none (c : Thread nD τ) none) Set.univ) $$ HF
  iintro %_ ⟨S0, HR⟩
  isplitl [S0 S1 S2 S3]
  · isplitl [S1 S2 S3]
    · isplitl [S1]; · iexact S1
      isplitl [S2]; · iexact S2
      iexact S3
    iexact S0
  iexact HR

end Body

end Cert.Kernel.Rows
-- ==== Proof.Kernel.Run.lean ====
module

public import proofs.«01_k».proof.Proof.Kernel.Body
public import Idealize.ShloMosaic.Lib.PageRing.Basic
public import Idealize.ShloMosaic.Lib.Pipeline.Frame

/-! The kernel's run: from any memory whose ids are rows of the vocabulary, both result arrays end at the
    blocks the body computes, the arguments are unchanged and every counter is at zero. -/

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The ring at the two ends of the run -/

theorem fin_range (n : ℕ) (A : ℕ → sProp 𝕄) : bigSep (Finset.univ : Finset (Fin n)) (fun i => A i.val) = bigSep (Finset.range n) A := by
  rw [← Ring.rangeSet_univ (NB := n)]
  exact Ring.bigSep_rangeSet_eq_range (NB := n) (lo := 0) (hi := n) (le_refl n) A fun k h => by simp only [Nat.zero_add]

/-- 512 conjuncts as four groups of 128. -/
theorem regroup (A : ℕ → sProp 𝕄) :
    bigSep (Finset.range 512) A = bigSep Finset.univ fun s : Fin 4 => bigSep Finset.univ fun t : Fin 128 => A (128 * s.val + t.val) := by
  rw [show (512 : ℕ) = 4 * 128 from rfl, PageRing.bigSep_range_mul A 128 4, ← fin_range 4]
  exact BI.bigSep_congr fun s _ => (fin_range 128 (fun j => A (128 * s.val + j))).symm

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four slots at rest: the counters at zero, the rows, the read tokens. -/
theorem quads (c : Dev nD) (tb : S6272x4096.Idx → Elt F .i32) :
    (bigSep Finset.univ (idle c tb) : sProp 𝕄) = iprop(bigSep Finset.univ (fun s : Fin 4 => semVal ((c : Thread nD τ), SemLoc.dma (cell s)) 0)
      ∗ bigSep (Finset.range 512) (fun r => iprop(∃ g, rowPt c r g)) ∗ bigSep (Finset.range 512) (tokPt c tb)) := by
  rw [regroup, regroup, ← bigSep_sep', ← bigSep_sep']
  refine BI.bigSep_congr fun s _ => ?_
  unfold idle rest
  rw [bigSep_sep']

theorem row_disj : ∀ a b : Fin 512, a ≠ b → Disjoint (bset a.val) (bset b.val) := by
  intro a b hab
  rw [Finset.disjoint_left]
  intro y h1 h2
  rw [mem_bset] at h1 h2
  exact hab (Fin.ext (by omega))

theorem row_cover : Finset.univ.biUnion (fun t : Fin 512 => bset t.val) = Finset.univ := by
  ext y
  rw [Finset.mem_biUnion]
  exact ⟨fun _ => Finset.mem_univ _, fun _ => ⟨y 0, Finset.mem_univ _, mem_bset.mpr rfl⟩⟩

/-- The ring's buffer, by rows. -/
theorem rows_in (c : Dev nD) (f : S512x1x4096.Idx → Elt F .i32) :
    (Buf7.view.loc (c : Thread nD τ) ↦{fullShare} f : sProp 𝕄) ⊢ bigSep (Finset.range 512) (fun r => iprop(∃ g, rowPt c r g)) := by
  rw [← fin_range 512, Ring.pointsTo_blocks (ℓ := Buf7.view.loc (c : Thread nD τ)) (fun t : Fin 512 => bset t.val) row_disj row_cover f]
  exact BI.bigSep_mono fun t _ => (show (rowPt c t.val f : sProp 𝕄) ⊢ iprop(∃ g, rowPt c t.val g) from by iintro H; iexists _; iexact H)

theorem rows_out (c : Dev nD) (f₀ : S512x1x4096.Idx → Elt F .i32) :
    bigSep (Finset.range 512) (fun r => iprop(∃ g, rowPt c r g)) ⊢ (iprop(∃ f : S512x1x4096.Idx → Elt F .i32, Buf7.view.loc (c : Thread nD τ) ↦{fullShare} f) : sProp 𝕄) := by
  rw [← fin_range 512]
  exact Ring.pointsTo_blocks_join_exists (ℓ := Buf7.view.loc (c : Thread nD τ)) (fun t : Fin 512 => bset t.val) row_disj row_cover f₀

/-- What stays of the table beside the 512 read tokens. -/
def tabDrop (c : Dev nD) (tb : S6272x4096.Idx → Elt F .i32) : sProp 𝕄 := Tab.view.loc (c : Thread nD τ) ↦{Transfers.shareDrop fullShare 512} tb

theorem toks (c : Dev nD) (tb : S6272x4096.Idx → Elt F .i32) :
    (Tab.view.loc (c : Thread nD τ) ↦{fullShare} tb : sProp 𝕄) ⊣⊢ iprop(tabDrop c tb ∗ bigSep (Finset.range 512) (tokPt c tb)) :=
  Transfers.pointsTo_toks_range fullShare 512

theorem ring_zero (c : Dev nD) (E : Env F) : (RingAt c E 0 : sProp 𝕄) ⊣⊢ bigSep Finset.univ (idle c E.tb) := by
  unfold RingAt
  rw [fin4, if_pos rfl, show slotOf (0 + 3) = 3 from rfl]
  constructor
  · iintro ⟨⟨H0, H1, H2⟩, H3⟩
    isplitl [H0]; · iexact H0
    isplitl [H1]; · iexact H1
    isplitl [H2]; · iexact H2
    iexact H3
  · iintro ⟨H0, H1, H2, H3⟩
    isplitl [H0 H1 H2]
    · isplitl [H0]; · iexact H0
      isplitl [H1]; · iexact H1
      iexact H2
    iexact H3

theorem ring_last (c : Dev nD) (E : Env F) : (RingAt c E 64 : sProp 𝕄) ⊢ bigSep Finset.univ (idle c E.tb) := by
  unfold RingAt St
  rw [fin4, if_neg (by decide), if_neg (by decide), if_neg (by decide), if_neg (by decide)]
  rw [show slotOf 64 = 0 from rfl, show slotOf (64 + 1) = 1 from rfl, show slotOf (64 + 2) = 2 from rfl, show slotOf (64 + 3) = 3 from rfl]
  iintro ⟨⟨H0, H1, H2⟩, H3⟩
  isplitl [H0]; · iexact H0
  isplitl [H1]; · iexact H1
  isplitl [H2]; · iexact H2
  iexact H3

/-! ## @main up to the region -/

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The pipeline's data -/

/-- What core `c`'s kernel reads, when the region is entered. -/
def envAt (I : Dev nD → Ids) (c : Dev nD) : Env F := ⟨I c, V m c main_v2, V m c main_arg2, V m c main_v5⟩

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

variable (I : Dev nD → Ids)

/-- The kernel's four cells. -/
abbrev osem0 : Fin 4 → SemLoc sig := fun s => SemLoc.dma (cell s)
theorem ownSemFacts0 : Pipeline.OwnSemFacts spec0 osem0 := by decide
/-- The one buffer the body's transfers read. -/
def H0 : Finset (Ref sig .tc) := {main_v2}
theorem H0_sub : H0 ⊆ Pipeline.restRefs sig spec0 := by decide

/-- The proof data: the input windows keep their blocks, the output windows get the block computed, and between
    points the ring has its next three blocks under way. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (envAt m I c).outBlk t.val
    | ⟨4, _⟩ => (envAt m I c).embBlk t.val
  Φ t := iprop(RingAt c (envAt m I c) t.val ∗ (∃ r, prngReg c r) ∗ tabDrop c (V m c main_v2))
  q _ := fullShare
  owed _ := 0

theorem A_eq (c : Dev nD) (w : Fin cfg0.W) : (dats m I 0 c).A w = V m c (Pipeline.arrRef spec0 w) := by
  dsimp only [dats]
theorem after0_0 (c : Dev nD) (t : Fin cfg0.N) : (dats m I 0 c).after 0 t = iblk m c 0 t := by dsimp only [dats]
theorem after0_1 (c : Dev nD) (t : Fin cfg0.N) : (dats m I 0 c).after 1 t = iblk m c 1 t := by dsimp only [dats]
theorem after0_2 (c : Dev nD) (t : Fin cfg0.N) : (dats m I 0 c).after 2 t = iblk m c 2 t := by dsimp only [dats]
theorem after0_3 (c : Dev nD) (t : Fin cfg0.N) : (dats m I 0 c).after 3 t = (envAt m I c).outBlk t.val := by dsimp only [dats]
theorem after0_4 (c : Dev nD) (t : Fin cfg0.N) : (dats m I 0 c).after 4 t = (envAt m I c).embBlk t.val := by dsimp only [dats]

theorem before0_0 (c : Dev nD) (t : Fin cfg0.N) (d) : (dats m I 0 c).before 0 t d = iblk m c 0 t :=
  ((dats m I 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m I 0 c).before 1 t d = iblk m c 1 t :=
  ((dats m I 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m I 0 c).before 2 t d = iblk m c 2 t :=
  ((dats m I 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The offset into an array of a block at index zero. -/
theorem at_zero (k n y : ℕ) (hk : k = 0) : k * n + 1 * y = y := by subst hk; omega

theorem iblk0 (c : Dev nD) (t : Fin cfg0.N) (y : S8192.Idx) : iblk m c 0 t y = V m c main_v3 y := by
  unfold iblk
  generalize V m c (Pipeline.arrRef spec0 0) = f
  rw [View.read_apply, cast_eq]
  refine congrArg f (funext fun a => ?_)
  match a with
  | ⟨0, _⟩ => exact Fin.ext (at_zero (cc0_transform_0 (grid0.coords t) 0) 8192 (y 0).val rfl)
theorem iblk1 (c : Dev nD) (t : Fin cfg0.N) (y : S25088.Idx) : iblk m c 1 t y = V m c main_arg2 y := by
  unfold iblk
  generalize V m c (Pipeline.arrRef spec0 1) = f
  rw [View.read_apply, cast_eq]
  refine congrArg f (funext fun a => ?_)
  match a with
  | ⟨0, _⟩ => exact Fin.ext (at_zero (cc0_transform_1 (grid0.coords t) 0) 25088 (y 0).val rfl)
theorem iblk2 (c : Dev nD) (t : Fin cfg0.N) (y : S1x4096.Idx) : iblk m c 2 t y = V m c main_v5 y := by
  unfold iblk
  generalize V m c (Pipeline.arrRef spec0 2) = f
  rw [View.read_apply, cast_eq]
  refine congrArg f (funext fun a => ?_)
  match a with
  | ⟨0, _⟩ => exact Fin.ext (at_zero (cc0_transform_2 (grid0.coords t) 0) 1 (y 0).val rfl)
  | ⟨1, _⟩ => exact Fin.ext (at_zero (cc0_transform_2 (grid0.coords t) 1) 4096 (y 1).val rfl)

theorem coord_val : ∀ t : Fin cfg0.N, (grid0.coords t 0).val = t.val := by decide +kernel

abbrev bodyPre (c : Dev nD) (t : Fin cfg0.N) : sProp 𝕄 :=
  iprop((dats m I 0 c).Φ t.castSucc ∗ (dats m I 0 c).owesAt () t.castSucc
    ∗ (∃ d, owns (c : Thread nD τ) (st0_0 t) fullShare ((dats m I 0 c).before 0 t d))
    ∗ (∃ d, owns (c : Thread nD τ) (st0_1 t) fullShare ((dats m I 0 c).before 1 t d))
    ∗ (∃ d, owns (c : Thread nD τ) (st0_2 t) fullShare ((dats m I 0 c).before 2 t d))
    ∗ (∃ d, owns (c : Thread nD τ) (st0_3 t) fullShare ((dats m I 0 c).before 3 t d))
    ∗ (∃ d, owns (c : Thread nD τ) (st0_4 t) fullShare ((dats m I 0 c).before 4 t d)))
abbrev bodyPost (c : Dev nD) (t : Fin cfg0.N) : sProp 𝕄 :=
  iprop((dats m I 0 c).Φ t.succ ∗ (dats m I 0 c).owesAt () t.succ
    ∗ owns (c : Thread nD τ) (st0_0 t) fullShare ((dats m I 0 c).after 0 t)
    ∗ owns (c : Thread nD τ) (st0_1 t) fullShare ((dats m I 0 c).after 1 t)
    ∗ owns (c : Thread nD τ) (st0_2 t) fullShare ((dats m I 0 c).after 2 t)
    ∗ owns (c : Thread nD τ) (st0_3 t) fullShare ((dats m I 0 c).after 3 t)
    ∗ owns (c : Thread nD τ) (st0_4 t) fullShare ((dats m I 0 c).after 4 t))

/-- A finished output window. -/
theorem out_done (c : Dev nD) (M : Memref sig .tc .vmem S128x4096 .bf16) (P : S128x4096.Idx → Elt F .bf16) :
    (outAt c M P 128 : sProp 𝕄) ⊢ owns (c : Thread nD τ) M fullShare P := by
  unfold outAt owns held
  iintro ⟨%g, %h, H⟩
  iexists g
  isplitr
  · ipureintro; exact funext fun y => h y (y 0).isLt
  iexact H
/-- An output window before anything is written. -/
theorem out_new (c : Dev nD) (M : Memref sig .tc .vmem S128x4096 .bf16) (P : S128x4096.Idx → Elt F .bf16) (f : M.view.ty.Contents (Elt F)) :
    (held c M f : sProp 𝕄) ⊢ outAt c M P 0 := by
  unfold outAt
  iintro H
  iexists f
  isplitr
  · ipureintro; exact fun y h => absurd h (Nat.not_lt_zero _)
  iexact H

variable (hI : ∀ c (y : S8192.Idx), V m c main_v3 y = (I c).tok (y 0).val)

include hI in
theorem sound_body (c : Dev nD) (t : Fin cfg0.N) :
    bodyPre m I c t ⊢ wp frame (wpE (defs₀ (F := F)) Variants.none c none) Set.univ (bodyAt0 t) (fun _ => bodyPost m I c t) := by
  unfold bodyPre bodyPost bodyAt0
  rw [show (dats m I 0 c).Φ t.castSucc = iprop(RingAt c (envAt m I c) t.val ∗ (∃ r, prngReg c r) ∗ tabDrop c (V m c main_v2)) from rfl,
    show (dats m I 0 c).Φ t.succ = iprop(RingAt c (envAt m I c) (t.val + 1) ∗ (∃ r, prngReg c r) ∗ tabDrop c (V m c main_v2)) from rfl]
  simp only [before0_0, before0_1, before0_2]
  rw [after0_0, after0_1, after0_2, after0_3, after0_4]
  unfold Dat.owesAt Pipeline.owesWithin
  rw [show (dats m I 0 c).owed t.castSucc = 0 from rfl, show (dats m I 0 c).owed t.succ = 0 from rfl]
  conv_lhs => unfold owns
  iintro ⟨⟨HR, Hg, HT⟩, ⟨%W, -, HW⟩, ⟨%d0, %f0, %e0, H0⟩, ⟨%d1, %f1, %e1, H1⟩, ⟨%d2, %f2, %e2, H2⟩, ⟨%d3, %f3, -, H3⟩, ⟨%d4, %f4, -, H4⟩⟩
  have hf0 : IsIds (envAt m I c).I (st0_0 t) f0 := fun y => (congrFun e0 y).trans ((iblk0 m c t y).trans (hI c y))
  have hf1 : IsSc (envAt m I c) (st0_1 t) f1 := fun y => (congrFun e1 y).trans (iblk1 m c t y)
  have hf2 : IsW (envAt m I c) (st0_2 t) f2 := fun y => (congrFun e2 y).trans (iblk2 m c t y)
  ihave HB := (body_step c (envAt m I c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.isWhole_whole _) (st0_3 t) (hstage0_3 ((cfg0.slots t 3).cast nbuf0_3))
    (st0_4 t) (hstage0_4 ((cfg0.slots t 4).cast nbuf0_4)) (Memref.isWhole_whole _) f0 hf0 f1 hf1 f2 hf2 t.val (coord_val t) (W := W)) $$ [HR HW H0 H1 H2 H3 H4]
  · isplitl [HR]; · iexact HR
    isplitl [HW]; · iexact HW
    isplitl [H0]; · unfold held; iexact H0
    isplitl [H1]; · unfold held; iexact H1
    isplitl [H2]; · unfold held; iexact H2
    isplitl [H3]; · iapply (out_new c (st0_3 t) _ f3); unfold held; iexact H3
    iapply (out_new c (st0_4 t) _ f4); unfold held; iexact H4
  iapply (wp_wand frame (wpE (defs₀ (F := F)) Variants.none (c : Thread nD τ) none) Set.univ) $$ HB
  iintro %_ ⟨HR, ⟨%W', HW⟩, H0, H1, H2, H3, H4⟩
  isplitl [HR Hg HT]
  · isplitl [HR]; · iexact HR
    isplitl [Hg]; · iexact Hg
    iexact HT
  isplitl [HW]
  · iexists W'; isplitr; · ipureintro; exact fun _ _ => Or.inl trivial
    iexact HW
  isplitl [H0]
  · unfold owns held; iexists f0; isplitr; · ipureintro; exact e0
    iexact H0
  isplitl [H1]
  · unfold owns held; iexists f1; isplitr; · ipureintro; exact e1
    iexact H1
  isplitl [H2]
  · unfold owns held; iexists f2; isplitr; · ipureintro; exact e2
    iexact H2
  isplitl [H3]
  · iapply (out_done c (st0_3 t)); iexact H3
  · iapply (out_done c (st0_4 t)); iexact H4

theorem defs₀_row (t : Fin cfg0.N) :
    defs₀ (F := F) .tc cfg0.body (cfg0.bodyArgs t (cfg0.slots t)) = bodyAt0 t := by
  unfold defs₀; rw [Defs.onTc_tc]

include hI in
theorem body_obligation (c : Dev nD) : BodyObligation (dats (F := F) m I 0 c) (defs₀ (F := F)) Variants.none () Set.univ := fun t => by
  rw [bigSep_W0, bigSep_W0, defs₀_row]
  exact triple_restated (sound_body m I hI c t) rfl .rfl fun _ => .rfl

theorem phi_eq (c : Dev nD) : (Pipeline.ΦD osem0 spec0 H0 (V m) c : sProp 𝕄)
    = iprop((∃ f : S512x1x4096.Idx → Elt F .i32, Buf7.view.loc (c : Thread nD τ) ↦{fullShare} f) ∗ (∃ r, prngReg c r)
      ∗ (bigSep Finset.univ (fun s : Fin 4 => semVal ((c : Thread nD τ), SemLoc.dma (cell s)) 0)) ∗ (Tab.view.loc (c : Thread nD τ) ↦{fullShare} (V m c main_v2))) := by
  rw [Pipeline.ΦD_eq, scopedRest0_eq, BI.bigSep_eq_bigSepL_of_eq (S := H0) [main_v2] (by decide) (by decide)]
  rfl

theorem hin (c : Dev nD) : (Pipeline.ΦD osem0 spec0 H0 (V m) c : sProp 𝕄) ⊢ (dats m I 0 c).Φ 0 := by
  rw [phi_eq]
  show _ ⊢ iprop(RingAt c (envAt m I c) 0 ∗ (∃ r, prngReg c r) ∗ tabDrop c (V m c main_v2))
  iintro ⟨⟨%f, HF⟩, Hg, HS, HT⟩
  ihave HT := (toks c (V m c main_v2)).1 $$ HT
  icases HT with ⟨HD, HT⟩
  isplitl [HF HS HT]
  · iapply (ring_zero c (envAt m I c)).2
    rw [quads]
    isplitl [HS]; · iexact HS
    isplitl [HF]; · iapply (rows_in c f); iexact HF
    iexact HT
  isplitl [Hg]; · iexact Hg
  iexact HD

theorem hout (c : Dev nD) : (dats m I 0 c).Φ (Fin.last cfg0.N) ⊢ (Pipeline.ΦD osem0 spec0 H0 (V m) c : sProp 𝕄) := by
  rw [phi_eq]
  show iprop(RingAt c (envAt m I c) 64 ∗ (∃ r, prngReg c r) ∗ tabDrop c (V m c main_v2)) ⊢ _
  iintro ⟨HR, Hg, HD⟩
  ihave HR := (ring_last c (envAt m I c)) $$ HR
  ihave HR := (Entails.of_eq (quads c (envAt m I c).tb)) $$ HR
  icases HR with ⟨HS, HF, HT⟩
  isplitl [HF]
  · iapply (rows_out c (landed (I c) (V m c main_v2) 0)); iexact HF
  isplitl [Hg]; · iexact Hg
  isplitl [HS]; · iexact HS
  iapply (toks c (V m c main_v2)).2
  isplitl [HD]; · iexact HD
  iexact HT

include hI in
set_option backward.isDefEq.respectTransparency.types false in
/-- The run of @main: every array at the pipeline's contents, every counter at zero. -/
theorem run_main : θ_run defs (onTc (τ := τ) (main (F := F))) (s₀ m ρ) (fun r => Pipeline.FramePost cfgs (dats m I) 0 (V m) r ∧ r.2.sem = fun _ => 0) :=
  Pipeline.θ_run_frame_dma (Q' := _) cfgs (dats m I) (0 : Fin 1) launch0 osem0 defs₀ Variants.none ownSemFacts0 H0 H0_sub m ρ main
    (hbody := fun c => (body_obligation m I hI c).loose) (hshare := fun c => (dats m I 0 c).share_full fun _ => rfl)
    (howed := fun _ _ => rfl) (V := V m) (hmain := hmain m Variants.none) (hA := A_eq m I)
    (hin := hin m I) (hout := hout m I)

include hI in
/-- The run of @main: the arguments unchanged, the results at the pipeline's contents, every counter at zero. -/
theorem run_args : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v6_0) = (dats m I 0 c).arrAt 3 cfg0.N
      ∧ r.2.mem ((c.tc : Thread nD τ).loc main_v6_1) = (dats m I 0 c).arrAt 4 cfg0.N) ∧ r.2.sem = fun _ => 0) :=
  (θ_run defs _ _).mono (fun _ h => ⟨fun c => ⟨⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m I 0 c).arrAt_in 1 rfl _).trans ((A_eq m I c 1).trans (V_main_arg2 m c))),
      ((h.1 c).2 main_arg3 (Pipeline.mem_restRefs_of main_arg3 (by decide) (by decide))).trans (V_main_arg3 m c)⟩,
      (h.1 c).1 3, (h.1 c).1 4⟩, h.2⟩) (run_main m ρ I hI)

end Cert.Kernel.Rows
-- ==== Proof.Vocab.lean ====
module

public import proofs.«01_k».proof.Proof.Gen.Pre_in_vocabulary
public import Idealize.ShloMosaic.Lib.ReduceAll
public import Idealize.ShloMosaic.Lib.Pipeline.Value

/-! What the precondition says of the ids, and the reshape of the ids to one axis. -/

@[expose] public section

namespace Cert.Vocab

open Cert.Pre_in_vocabulary Cert.Pre_in_vocabulary.Gen Idealize.ShloMosaic

/-- The precondition `(ids >= 0) & (ids < 25088)`, decoded: every id is below 25088. -/
theorem lt_of_pre {F : FTy → Type} [FloatOps F] (a0 : IVec S1x8192 32) (a1 : IVec S25088x4096 8) (a2 : FVec F S25088 .f32)
    (a3 : FVec F S4096 .bf16) (h : fn a0 a1 a2 a3 = fun _ => 1#1) (y : S1x8192.Idx) : (a0 y).toNat < 25088 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  haveI : Subsingleton S_.Idx := ⟨fun a b => funext fun i => i.elim0⟩
  have h0 := congrFun h (fun i => i.elim0)
  unfold fn at h0
  have e := Host.reduce_andi_all _ _ _ _ _ h0 y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- The index of position `j`. -/
abbrev pos (j : Fin 8192) : S1x8192.Idx := Fin.cons (⟨0, Nat.one_pos⟩ : Fin 1) (Fin.cons j fun i => i.elim0)

theorem pos_eta (y : S1x8192.Idx) : pos (y 1) = y := by
  funext a
  match a with
  | 0 => exact Subsingleton.elim (α := Fin 1) _ _
  | 1 => rfl

/-- The id at position `j`, zero past the last. -/
def tokAt (a0 : IVec S1x8192 32) (j : ℕ) : BitVec 32 :=
  if h : j < 8192 then a0 (pos ⟨j, h⟩) else 0#32

theorem tokAt_lt (a0 : IVec S1x8192 32) (h : ∀ y, (a0 y).toNat < 25088) (j : ℕ) : (tokAt a0 j).toNat < 25088 := by
  unfold tokAt
  split
  · exact h _
  · decide

theorem tokAt_of_lt (a0 : IVec S1x8192 32) (j : ℕ) (h : j < 8192) : tokAt a0 j = a0 (pos ⟨j, h⟩) := dif_pos h

theorem tokAt_apply (a0 : IVec S1x8192 32) (y : S1x8192.Idx) : tokAt a0 (y 1).val = a0 y :=
  (tokAt_of_lt a0 _ (y 1).isLt).trans (congrArg a0 (pos_eta y))

/-- The ids flattened to one axis, read at a position. -/
theorem reshape_ids (a0 : IVec S1x8192 32) (h : S1x8192.ShapeCasts (⟨1, ![8192]⟩ : Shape)) (y : (⟨1, ![8192]⟩ : Shape).Idx) :
    shapeCast (⟨1, ![8192]⟩ : Shape) a0 h y = tokAt a0 (y 0).val := by
  have hy : (y 0).val < 8192 := (y 0).isLt
  rw [tokAt_of_lt a0 _ hy]
  refine shapeCast_apply a0 h y _ ?_
  rw [Shape.rowMajor_val_two, Shape.rowMajor_val_one]
  show 0 * 8192 + (y 0).val = (y 0).val
  omega

end Cert.Vocab
-- ==== Proof.Kernel.Launch.lean ====
module

public import proofs.«01_k».proof.Proof.Kernel.Run
public import proofs.«01_k».proof.Proof.Vocab
public import Idealize.ShloMosaic.Lib.StableHlo.Run

/-! The ids the kernel's run takes, from the launch memory. -/

@[expose] public section

set_option maxRecDepth 16384

noncomputable section

namespace Cert.Kernel.Rows

open Cert.Kernel Cert.Kernel.Gen
open Idealize.ShloMosaic Idealize.ShloMosaic.TcCoe Idealize.SL.Sem Idealize.ShloMosaic.StableHlo

variable {F : FTy → Type} [BitOps F]
variable (m : (ℓ : Loc nD τ sig) → Buf (Elt F) ℓ)

/-- The ids as the region finds them: the launch's ids, flattened. -/
theorem V_main_v3 (c : Dev nD) : V m c main_v3 = shapeCast S8192 (m ((c : Thread nD τ).loc main_arg0)) shapeCasts_S1x8192_S8192 := by
  unfold V hostOps0
  after_results <;> rfl

/-- The ids of a launch memory whose ids are rows of the vocabulary. -/
def idsAt (h : ∀ c : Dev nD, ∀ y : S1x8192.Idx, ((m ((c : Thread nD τ).loc main_arg0) : IVec S1x8192 32) y).toNat < 25088) (c : Dev nD) : Ids :=
  ⟨Vocab.tokAt (m ((c : Thread nD τ).loc main_arg0)), Vocab.tokAt_lt _ (h c)⟩

theorem idsAt_spec (h : ∀ c : Dev nD, ∀ y : S1x8192.Idx, ((m ((c : Thread nD τ).loc main_arg0) : IVec S1x8192 32) y).toNat < 25088) (c : Dev nD) (y : S8192.Idx) :
    V m c main_v3 y = (idsAt m h c).tok (y 0).val :=
  (congrFun (V_main_v3 m c) y).trans (Vocab.reshape_ids _ _ y)

end Cert.Kernel.Rows

end
-- ==== Proof.KernelIdeal.Ring.lean ====
module

public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Skeleton
public import Idealize.ShloMosaic.Lib.Pipeline.FrameBody
public import Idealize.ShloMosaic.Lib.Ring
public import Idealize.ShloMosaic.Lib.Batch
public import Idealize.ShloMosaic.Lib.Tactic

/-! The row ring: 512 rows of the scratch buffer in four slots of 128, filled by row copies of the
    table, one semaphore per slot, up to four blocks in flight. -/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The token ids as the kernel reads them, each a row of the vocabulary. -/
structure Ids where
  /-- the id at a position (zero past the last) -/
  tok : ℕ → BitVec 32
  /-- every id names a row of the vocabulary -/
  lt : ∀ j, (tok j).toNat < 25088

/-- The packed table's row that holds the code row of the `j`-th id. -/
def Ids.row (I : Ids) (j : ℕ) : ℕ := (I.tok j).toNat / 4

theorem Ids.row_lt (I : Ids) (j : ℕ) : I.row j < 6272 := by
  have := I.lt j; unfold Ids.row; omega

/-- The packed table. -/
abbrev Tab : Memref sig .tc .hbm S6272x4096 .i32 := Memref.whole main_v2
/-- The ring's rows. -/
abbrev Buf7 : Memref sig .tc .vmem S512x1x4096 .i32 := Memref.whole cc0_scratch0

/-- The elements of the scratch buffer's row `r`. -/
def bset (r : ℕ) : Finset S512x1x4096.Idx := Finset.univ.filter fun y => (y 0).val = r
/-- The elements of the table's row `r`. -/
def tset (r : ℕ) : Finset S6272x4096.Idx := Finset.univ.filter fun y => (y 0).val = r

theorem mem_bset {r : ℕ} {y : S512x1x4096.Idx} : y ∈ bset r ↔ (y 0).val = r := by simp [bset]
theorem mem_tset {r : ℕ} {y : S6272x4096.Idx} : y ∈ tset r ↔ (y 0).val = r := by simp [tset]

/-- A table index from a row and a column. -/
def tix (r : Fin 6272) (j : Fin 4096) : S6272x4096.Idx := fun a => match a with | ⟨0, _⟩ => r | ⟨1, _⟩ => j

/-- What the ring holds of block `b`: row `t` of a slot is the packed row of the block's `t`-th id. -/
def landed (I : Ids) (tb : S6272x4096.Idx → Elt F .i32) (b : ℕ) : S512x1x4096.Idx → Elt F .i32 :=
  fun y => tb (tix ⟨I.row (128 * b + (y 0).val % 128), I.row_lt _⟩ (y 2))

section Names
variable (c : Dev nD)

/-- Row `r` of the ring at contents `g`. -/
def rowPt (r : ℕ) (g : S512x1x4096.Idx → Elt F .i32) : sProp 𝕄 := Buf7.view.loc (c : Thread nD τ) ↦[bset r]{fullShare} g
/-- Read token `n` of the whole table. -/
def tokPt (tb : S6272x4096.Idx → Elt F .i32) (n : ℕ) : sProp 𝕄 := Tab.view.loc (c : Thread nD τ) ↦{Transfers.shareTokN fullShare n} tb
/-- Read token `n` of the table's row `r`. -/
def piecePt (tb : S6272x4096.Idx → Elt F .i32) (n r : ℕ) : sProp 𝕄 := Tab.view.loc (c : Thread nD τ) ↦[tset r]{Transfers.shareTokN fullShare n} tb
/-- Read token `n` of the table without row `r`. -/
def remPt (tb : S6272x4096.Idx → Elt F .i32) (n r : ℕ) : sProp 𝕄 := Tab.view.loc (c : Thread nD τ) ↦[Finset.univ \ tset r]{Transfers.shareTokN fullShare n} tb

instance rowPt_storable (r : ℕ) (g : S512x1x4096.Idx → Elt F .i32) : BI.Storable (upEmb : UEmb _ 𝕄) (rowPt c r g) := by
  unfold rowPt; infer_instance
instance piecePt_storable (tb : S6272x4096.Idx → Elt F .i32) (n r : ℕ) : BI.Storable (upEmb : UEmb _ 𝕄) (piecePt c tb n r) := by
  unfold piecePt; infer_instance

/-- The elements one row copy moves. -/
abbrev NN : ℕ := ((Buf7.slice (Rect.unit (s := S512x1x4096) ![0, 0, 0] S1x1x4096.size (by decide)) (fun _ => rfl)).squeeze S1x4096 squeezes_S1x1x4096_S1x4096).view.dmaCredit

/-- The four semaphores. -/
def cell (s : Fin 4) : DmaSem sig := ⟨7 + s.val, by show 7 + s.val < 11; omega⟩

/-- What the `t`-th copy of block `b` into slot `s` delivers: the row, and the piece of the table it read. -/
def dlv (I : Ids) (tb : S6272x4096.Idx → Elt F .i32) (s : Fin 4) (b : ℕ) (t : Fin 128) : sProp 𝕄 :=
  iprop(rowPt c (128 * s.val + t.val) (landed I tb b) ∗ piecePt c tb (128 * s.val + t.val) (I.row (128 * b + t.val)))

instance dlv_storable (I : Ids) (tb : S6272x4096.Idx → Elt F .i32) (s : Fin 4) (b : ℕ) (t : Fin 128) :
    BI.Storable (upEmb : UEmb _ 𝕄) (dlv c I tb s b t) := by unfold dlv; infer_instance

/-- A row of the ring at some contents, with its read token of the table. -/
def rest (tb : S6272x4096.Idx → Elt F .i32) (s : Fin 4) (t : Fin 128) : sProp 𝕄 :=
  iprop((∃ g, rowPt c (128 * s.val + t.val) g) ∗ tokPt c tb (128 * s.val + t.val))
/-- What stays in hand of the read token of a copy under way. -/
def kept (I : Ids) (tb : S6272x4096.Idx → Elt F .i32) (s : Fin 4) (b : ℕ) (t : Fin 128) : sProp 𝕄 :=
  remPt c tb (128 * s.val + t.val) (I.row (128 * b + t.val))

/-- The batch of copies of block `b` into slot `s`, `k` of them started. -/
def batch (I : Ids) (tb : S6272x4096.Idx → Elt F .i32) (s : Fin 4) (b k : ℕ) : sProp 𝕄 :=
  Transfers.Batch (countersEmb (U := Pipeline.UD sig nD τ)) (c : Thread nD τ) (.dma (cell s)) () NN (dlv c I tb s b) k 0

/-- Slot `s` with `k` copies of block `b` started. -/
def started (I : Ids) (tb : S6272x4096.Idx → Elt F .i32) (s : Fin 4) (b k : ℕ) : sProp 𝕄 :=
  iprop(batch c I tb s b k ∗ bigSep (Ring.rangeSet 128 k 128) (rest c tb s) ∗ bigSep (Ring.rangeSet 128 0 k) (kept c I tb s b))

/-- Slot `s` at rest. -/
def idle (tb : S6272x4096.Idx → Elt F .i32) (s : Fin 4) : sProp 𝕄 :=
  iprop(semVal ((c : Thread nD τ), SemLoc.dma (cell s)) 0 ∗ bigSep Finset.univ (rest c tb s))

end Names

theorem rangeSet_full : Ring.rangeSet 128 0 128 = Finset.univ := Ring.rangeSet_univ

/-- A slot at rest may start any block. -/
theorem start (c : Dev nD) (I : Ids) (tb : S6272x4096.Idx → Elt F .i32) (s : Fin 4) (b : ℕ) :
    (idle c tb s : sProp 𝕄) ⊢ |={Set.univ}=> started c I tb s b 0 := by
  unfold idle started batch
  iintro ⟨Hc, Hr⟩
  imod (Transfers.batch_alloc' (Lvl := ℕ) (countersEmb (U := Pipeline.UD sig nD τ)) (c : Thread nD τ) () NN (dlv c I tb s b) (sm := .dma (cell s)) (E := Set.univ)) $$ Hc with HB
  imodintro
  isplitl [HB]; · iexact HB
  rw [rangeSet_full, Ring.bigSep_rangeSet_empty (le_refl 0)]
  isplitl [Hr]; · iexact Hr
  iempintro

/-- The table's index under a one-row slice. -/
theorem tab_set {off : Fin 2 → ℕ} (inb) (r : ℕ) (h : off = ![r, 0]) :
    (Tab.slice (Rect.unit (s := S6272x4096) off S1x4096.size inb) (fun _ => rfl)).view.set = tset r := by
  subst h
  refine (View.set_slice_whole _ _).trans ?_
  ext y
  rw [Rect.mem_set_unit, mem_tset]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega

theorem buf_set {off : Fin 3 → ℕ} (inb) (r : ℕ) (h : off = ![r, 0, 0]) :
    ((Buf7.slice (Rect.unit (s := S512x1x4096) off S1x1x4096.size inb) (fun _ => rfl)).squeeze S1x4096 squeezes_S1x1x4096_S1x4096).view.set = bset r := by
  subst h
  refine ((View.set_reshape _ _).trans (View.set_slice_whole _ _)).trans ?_
  ext y
  rw [Rect.mem_set_unit, mem_bset]
  have h1 : (y 1).val < 1 := (y 1).isLt
  have h2 : (y 2).val < 4096 := (y 2).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1; omega
    · show 0 ≤ (y 2).val ∧ (y 2).val < 0 + 4096; omega

/-- One row of the table, as the kernel slices it. -/
abbrev src (off : Fin 2 → ℕ) (inb : ∀ a, off a + S1x4096.size a ≤ S6272x4096.size a) : Memref sig .tc .hbm S1x4096 .i32 :=
  Tab.slice (Rect.unit (s := S6272x4096) off S1x4096.size inb) (fun _ => rfl)
/-- One row of the ring, as the kernel slices it. -/
abbrev dst (off : Fin 3 → ℕ) (inb : ∀ a, off a + S1x1x4096.size a ≤ S512x1x4096.size a) : Memref sig .tc .vmem S1x4096 .i32 :=
  (Buf7.slice (Rect.unit (s := S512x1x4096) off S1x1x4096.size inb) (fun _ => rfl)).squeeze S1x4096 squeezes_S1x1x4096_S1x4096

theorem dst_emb {off : Fin 3 → ℕ} (inb) (r : ℕ) (h : off = ![r, 0, 0]) (x : S1x4096.Idx) :
    (((dst off inb).view.emb x : S512x1x4096.Idx) 0).val = r ∧ (((dst off inb).view.emb x : S512x1x4096.Idx) 2).val = (x 1).val := by
  subst h
  have e := Shape.reshapeEquiv_cons_one (d := ![1, 4096]) (squeezes_S1x1x4096_S1x4096.numel_eq) x
  constructor
  · show r + 1 * ((Shape.reshapeEquiv (squeezes_S1x1x4096_S1x4096.numel_eq) x : S1x1x4096.Idx) 0).val = r
    rw [show ((Shape.reshapeEquiv (squeezes_S1x1x4096_S1x4096.numel_eq) x : S1x1x4096.Idx) 0).val = 0 from by
      have := ((Shape.reshapeEquiv (squeezes_S1x1x4096_S1x4096.numel_eq) x : S1x1x4096.Idx) 0).isLt
      have h1 : S1x1x4096.size 0 = 1 := rfl
      omega]
    omega
  · show 0 + 1 * ((Shape.reshapeEquiv (squeezes_S1x1x4096_S1x4096.numel_eq) x : S1x1x4096.Idx) 2).val = (x 1).val
    rw [show ((Shape.reshapeEquiv (squeezes_S1x1x4096_S1x4096.numel_eq) x : S1x1x4096.Idx) 2) = x 1 from congrFun e 2]
    omega

/-- A row copy lands the packed row it was asked for. -/
theorem lands (I : Ids) (tb : S6272x4096.Idx → Elt F .i32) {off2 : Fin 3 → ℕ} {off3 : Fin 2 → ℕ} (inb2) (inb3) (s b t : ℕ) (ht : t < 128)
    (h2 : off2 = ![128 * s + t, 0, 0]) (h3 : off3 = ![I.row (128 * b + t), 0]) (g : S512x1x4096.Idx → Elt F .i32) :
    ∀ y ∈ bset (128 * s + t), (dst off2 inb2).view.write (Elt F) g ((src off3 inb3).view.read (Elt F) tb) Finset.univ y = landed I tb b y := by
  intro y hy
  have hy' : y ∈ (dst off2 inb2).view.set := by rw [buf_set inb2 _ h2]; exact hy
  obtain ⟨x, -, rfl⟩ := Finset.mem_map.mp hy'
  obtain ⟨e0, e2⟩ := dst_emb inb2 _ h2 x
  refine ((dst off2 inb2).view.write_emb_of_mem (Val := Elt F) g _ (Finset.mem_univ x)).trans ?_
  show tb ((src off3 inb3).view.emb x) = tb _
  congr 1
  subst h3
  funext a
  have hm : (128 * s + t) % 128 = t := by omega
  fin_cases a
  · apply Fin.ext
    have hx : (x 0).val < 1 := (x 0).isLt
    show I.row (128 * b + t) + 1 * (x 0).val = I.row (128 * b + _ % 128)
    rw [e0, hm]; omega
  · apply Fin.ext
    show 0 + 1 * (x 1).val = _
    rw [← e2]; simp [tix]

theorem credit (off : Fin 3 → ℕ) (inb) : (dst off inb).view.dmaCredit = NN := rfl
theorem NN_pos : 0 < NN := View.dmaCredit_pos _ (by decide)

/-- Starting the next copy of a block. -/
theorem issue (c : Dev nD) (I : Ids) (tb : S6272x4096.Idx → Elt F .i32) (s : Fin 4) (b t : ℕ) (ht : t < 128)
    {off2 : Fin 3 → ℕ} {off3 : Fin 2 → ℕ} {inb2 inb3} {sem : DmaSem sig} {a1 a2 a3}
    (h2 : off2 = ![128 * s.val + t, 0, 0]) (h3 : off3 = ![I.row (128 * b + t), 0]) (hs : sem = cell s)
    {α : Type} {k : PUnit → Prog (TpuEff nD τ sig (Elt F) Λ₀ .tc) α} {Q : α → sProp 𝕄} :
    (started c I tb s b t : sProp 𝕄) ⊢ iprop((started c I tb s b (t + 1) -∗ wp frame (wpE (defs₀ (F := F)) Variants.none (c : Thread nD τ) none) Set.univ (k ⟨⟩) Q)
      -∗ wp frame (wpE (defs₀ (F := F)) Variants.none (c : Thread nD τ) none) Set.univ (.op (.enqueueDma (src off3 inb3) (.here (dst off2 inb2)) (.dma sem) a1 a2 a3) k) Q) := by
  subst hs
  unfold started
  rw [Ring.bigSep_rangeSet_head (NB := 128) (lo := t) (hi := 128) ht ht,
    Ring.bigSep_rangeSet_last (NB := 128) (lo := 0) (hi := t + 1) (by omega) (by omega)]
  unfold rest
  iintro ⟨HB, ⟨⟨⟨%g, Hg⟩, Ht⟩, Hr⟩, Hk⟩ HK
  ihave Ht' := (show tokPt c tb (128 * s.val + t) ⊢ (iprop(piecePt c tb (128 * s.val + t) (I.row (128 * b + t)) ∗ remPt c tb (128 * s.val + t) (I.row (128 * b + t))) : sProp 𝕄) from
    (pointsTo_split_subset (Finset.subset_univ _)).1) $$ Ht
  icases Ht' with ⟨Hp, Hm⟩
  iapply (Transfers.wp_dmaBatch (countersEmb (U := Pipeline.UD sig nD τ)) Variants.none (c : Thread nD τ) none
    (src := src off3 inb3) (dst := dst off2 inb2) (via := .same) (sm := .dma (cell s)) () NN (credit off2 inb2)
    (Sd := bset (128 * s.val + t)) (fd := g) (fs := tb) (q := Transfers.shareTokN fullShare (128 * s.val + t))
    (D := dlv c I tb s b) (j := t) (u := 0) (by rw [buf_set inb2 _ h2]) ht (Nat.zero_le _) ?_) $$ [Hp Hg HB]
  · unfold dlv rowPt piecePt
    iintro ⟨H1, H2⟩
    isplitl [H1]
    · iapply (Entails.of_eq (pointsTo_congr (lands I tb inb2 inb3 s.val b t ht h2 h3 g))); iexact H1
    · rw [tab_set inb3 _ h3]; iexact H2
  · isplitl [Hp]
    · unfold piecePt; rw [tab_set inb3 _ h3]; iexact Hp
    isplitl [Hg]
    · unfold rowPt; iexact Hg
    · unfold batch; iexact HB
  · iintro HB
    iapply HK
    isplitl [HB]
    · unfold batch; iexact HB
    isplitl [Hr]
    · iexact Hr
    isplitl [Hm]
    · unfold kept; iexact Hm
    iexact Hk

end Cert.KernelIdeal.Rows
-- ==== Proof.KernelIdeal.Issue.lean ====
module

public import proofs.«01_k».proof.Proof.KernelIdeal.Ring

/-! The four loops that start a block's copies. -/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A memref's elements, at contents `f`. -/
def held (c : Dev nD) {sp : Space} {s : Shape} {e : EltTy} (M : Memref sig .tc sp s e) (f : M.view.ty.Contents (Elt F)) : sProp 𝕄 :=
  M.view.loc (c : Thread nD τ) ↦[M.view.set]{fullShare} f

/-- The contents of the ids' window are the ids. -/
def IsIds (I : Ids) (M : Memref sig .tc .smem S8192 .i32) (f : M.view.ty.Contents (Elt F)) : Prop :=
  ∀ y : S8192.Idx, M.view.read (Elt F) f y = I.tok (y 0).val

/-- Reading one id. -/
theorem ld_id (c : Dev nD) (I : Ids) (M : Memref sig .tc .smem S8192 .i32) (f : M.view.ty.Contents (Elt F)) (hf : IsIds I M f) (j : ℕ)
    {off : Fin 1 → ℕ} {inb hl} (h : off = ![j])
    {α : Type} {k : (S1.Idx → Elt F .i32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k fun _ => I.tok j) Q)
      -∗ wp frame (wpE (defs₀ (F := F)) Variants.none (c : Thread nD τ) none) Set.univ (.op (.load M (Rect.unit (s := S8192) off S1.size inb).toLoadRect hl) k) Q) := by
  have e : M.view.readAt (Elt F) (Rect.unit (s := S8192) off S1.size inb).toLoadRect f = fun _ => I.tok j := by
    funext x
    refine (hf _).trans ?_
    congr 1
    subst h
    have hx : (x 0).val < 1 := (x 0).isLt
    show j + 1 * (x 0).val = j
    omega
  unfold held
  rw [show (k fun _ => I.tok j) = k (M.view.readAt (Elt F) (Rect.unit (s := S8192) off S1.size inb).toLoadRect f) from congrArg k e.symm]
  exact wp_load Variants.none (c : Thread nD τ) none Set.univ (View.setOn_subset_set _ _)

theorem shr2 (v : BitVec 32) (h : v.toNat < 25088) : (Scalar.shrsi v 2#32).toNat = v.toNat / 4 := by
  have hm : v.msb = false := by
    rw [BitVec.msb_eq_false_iff_two_mul_lt]; omega
  show (BitVec.sshiftRight v 2).toNat = _
  rw [BitVec.sshiftRight_eq_of_msb_false hm, BitVec.toNat_ushiftRight, Nat.shiftRight_eq_div_pow]

theorem off3_eq (I : Ids) (j : ℕ) : (![(Scalar.shrsi (I.tok j) 2#32).toNat, 0] : Fin 2 → ℕ) = ![I.row j, 0] := by
  rw [shr2 _ (I.lt j)]; rfl

theorem chk_src (I : Ids) (j : ℕ) : ∀ a, (![(Scalar.shrsi (I.tok j) 2#32).toNat, 0] : Fin 2 → ℕ) a + S1x4096.size a ≤ S6272x4096.size a := by
  rw [off3_eq]
  have := I.row_lt j
  intro a; fin_cases a
  · show I.row j + 1 ≤ 6272; omega
  · show 0 + 4096 ≤ 4096; omega

section T1
variable (c : Dev nD) (I : Ids) (tb : S6272x4096.Idx → Elt F .i32)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf : IsIds I M1 f1)

/-- Before trip `k` of a loop that starts block `b` in slot `s`. -/
def issuing (s : Fin 4) (b k : ℕ) : sProp 𝕄 := iprop(started c I tb s b (8 * k) ∗ held c M1 f1)

include hf in
/-- One trip of loop 1: eight copies started. -/
theorem t1_step (hc : k0_cond1 i = 1#1) (k : Fin k0_t1_loop.trips) (acc : Unit) :
    issuing c I tb M1 f1 0 0 k.val ⊢ wp frame (wpE (defs₀ (F := F)) Variants.none (c : Thread nD τ) none) Set.univ
      (k0_t1_body i M1 h1 M2 h2 M3 h3 (Memref.whole main_v2) h4 M5 h5 M6 h6 (Memref.whole cc0_scratch0) h7 cc0_scratch1 hc k acc)
      (fun _ => issuing c I tb M1 f1 0 0 (k.val + 1)) := by
  unfold issuing
  have hk : k.val < 16 := k.isLt
  iintro ⟨HS, HM⟩
  sl_unfold [k0_t1_body]
  sl_exec
  iapply (ld_id c I M1 f1 hf (128 * 0 + (8 * k.val + 0)) (by rw [k0_off1_eq]; congr 1; omega)) $$ HM
  iintro HM
  sl_exec
  iapply (wp_assume _ _ _ _ (fun _ => chk_src I (128 * 0 + (8 * k.val + 0))))
  sl_exec
  iapply (issue c I tb 0 0 (8 * k.val + 0) (by omega) (by rw [k0_off2_eq]; funext a; fin_cases a <;> simp <;> omega) (off3_eq I _) (by decide)) $$ HS
  iintro HS
  sl_exec
  iapply (ld_id c I M1 f1 hf (128 * 0 + (8 * k.val + 1)) (by rw [k0_off4_eq]; congr 1; omega)) $$ HM
  iintro HM
  sl_exec
  iapply (wp_assume _ _ _ _ (fun _ => chk_src I (128 * 0 + (8 * k.val + 1))))
  sl_exec
  iapply (issue c I tb 0 0 (8 * k.val + 1) (by omega) (by rw [k0_off5_eq]; funext a; fin_cases a <;> simp <;> omega) (off3_eq I _) (by decide)) $$ HS
  iintro HS
  sl_exec
  iapply (ld_id c I M1 f1 hf (128 * 0 + (8 * k.val + 2)) (by rw [k0_off7_eq]; congr 1; omega)) $$ HM
  iintro HM
  sl_exec
  iapply (wp_assume _ _ _ _ (fun _ => chk_src I (128 * 0 + (8 * k.val + 2))))
  sl_exec
  iapply (issue c I tb 0 0 (8 * k.val + 2) (by omega) (by rw [k0_off8_eq]; funext a; fin_cases a <;> simp <;> omega) (off3_eq I _) (by decide)) $$ HS
  iintro HS
  sl_exec
  iapply (ld_id c I M1 f1 hf (128 * 0 + (8 * k.val + 3)) (by rw [k0_off10_eq]; congr 1; omega)) $$ HM
  iintro HM
  sl_exec
  iapply (wp_assume _ _ _ _ (fun _ => chk_src I (128 * 0 + (8 * k.val + 3))))
  sl_exec
  iapply (issue c I tb 0 0 (8 * k.val + 3) (by omega) (by rw [k0_off11_eq]; funext a; fin_cases a <;> simp <;> omega) (off3_eq I _) (by decide)) $$ HS
  iintro HS
  sl_exec
  iapply (ld_id c I M1 f1 hf (128 * 0 + (8 * k.val + 4)) (by rw [k0_off13_eq]; congr 1; omega)) $$ HM
  iintro HM
  sl_exec
  iapply (wp_assume _ _ _ _ (fun _ => chk_src I (128 * 0 + (8 * k.val + 4))))
  sl_exec
  iapply (issue c I tb 0 0 (8 * k.val + 4) (by omega) (by rw [k0_off14_eq]; funext a; fin_cases a <;> simp <;> omega) (off3_eq I _) (by decide)) $$ HS
  iintro HS
  sl_exec
  iapply (ld_id c I M1 f1 hf (128 * 0 + (8 * k.val + 5)) (by rw [k0_off16_eq]; congr 1; omega)) $$ HM
  iintro HM
  sl_exec
  iapply (wp_assume _ _ _ _ (fun _ => chk_src I (128 * 0 + (8 * k.val + 5))))
  sl_exec
  iapply (issue c I tb 0 0 (8 * k.val + 5) (by omega) (by rw [k0_off17_eq]; funext a; fin_cases a <;> simp <;> omega) (off3_eq I _) (by decide)) $$ HS
  iintro HS
  sl_exec
  iapply (ld_id c I M1 f1 hf (128 * 0 + (8 * k.val + 6)) (by rw [k0_off19_eq]; congr 1; omega)) $$ HM
  iintro HM
  sl_exec
  iapply (wp_assume _ _ _ _ (fun _ => chk_src I (128 * 0 + (8 * k.val + 6))))
  sl_exec
  iapply (issue c I tb 0 0 (8 * k.val + 6) (by omega) (by rw [k0_off20_eq]; funext a; fin_cases a <;> simp <;> omega) (off3_eq I _) (by decide)) $$ HS
  iintro HS
  sl_exec
  iapply (ld_id c I M1 f1 hf (128 * 0 + (8 * k.val + 7)) (by rw [k0_off22_eq]; congr 1; omega)) $$ HM
  iintro HM
  sl_exec
  iapply (wp_assume _ _ _ _ (fun _ => chk_src I (128 * 0 + (8 * k.val + 7))))
  sl_exec
  iapply (issue c I tb 0 0 (8 * k.val + 7) (by omega) (by rw [k0_off23_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

include hf in
/-- One trip of loop 2: eight copies started. -/
theorem t2_step (hc : k0_cond1 i = 1#1) (k : Fin k0_t2_loop.trips) (acc : Unit) :
    issuing c I tb M1 f1 1 1 k.val ⊢ wp frame (wpE (defs₀ (F := F)) Variants.none (c : Thread nD τ) none) Set.univ
      (k0_t2_body i M1 h1 M2 h2 M3 h3 (Memref.whole main_v2) h4 M5 h5 M6 h6 (Memref.whole cc0_scratch0) h7 cc0_scratch1 hc k acc)
      (fun _ => issuing c I tb M1 f1 1 1 (k.val + 1)) := by
  unfold issuing
  have hk : k.val < 16 := k.isLt
  iintro ⟨HS, HM⟩
  sl_unfold [k0_t2_body]
  sl_exec
  iapply (ld_id c I M1 f1 hf (128 * 1 + (8 * k.val + 0)) (by rw [k0_off25_eq]; congr 1; omega)) $$ HM
  iintro HM
  sl_exec
  iapply (wp_assume _ _ _ _ (fun _ => chk_src I (128 * 1 + (8 * k.val + 0))))
  sl_exec
  iapply (issue c I tb 1 1 (8 * k.val + 0) (by omega) (by rw [k0_off26_eq]; funext a; fin_cases a <;> simp <;> omega) (off3_eq I _) (by decide)) $$ HS
  iintro HS
  sl_exec
  iapply (ld_id c I M1 f1 hf (128 * 1 + (8 * k.val + 1)) (by rw [k0_off28_eq]; congr 1; omega)) $$ HM
  iintro HM
  sl_exec
  iapply (wp_assume _ _ _ _ (fun _ => chk_src I (128 * 1 + (8 * k.val + 1))))
  sl_exec
  iapply (issue c I tb 1 1 (8 * k.val + 1) (by omega) (by rw [k0_off29_eq]; funext a; fin_cases a <;> simp <;> omega) (off3_eq I _) (by decide)) $$ HS
  iintro HS
  sl_exec
  iapply (ld_id c I M1 f1 hf (128 * 1 + (8 * k.val + 2)) (by rw [k0_off31_eq]; congr 1; omega)) $$ HM
  iintro HM
  sl_exec
  iapply (wp_assume _ _ _ _ (fun _ => chk_src I (128 * 1 + (8 * k.val + 2))))
  sl_exec
  iapply (issue c I tb 1 1 (8 * k.val + 2) (by omega) (by rw [k0_off32_eq]; funext a; fin_cases a <;> simp <;> omega) (off3_eq I _) (by decide)) $$ HS
  iintro HS
  sl_exec
  iapply (ld_id c I M1 f1 hf (128 * 1 + (8 * k.val + 3)) (by rw [k0_off34_eq]; congr 1; omega)) $$ HM
  iintro HM
  sl_exec
  iapply (wp_assume _ _ _ _ (fun _ => chk_src I (128 * 1 + (8 * k.val + 3))))
  sl_exec
  iapply (issue c I tb 1 1 (8 * k.val + 3) (by omega) (by rw [k0_off35_eq]; funext a; fin_cases a <;> simp <;> omega) (off3_eq I _) (by decide)) $$ HS
  iintro HS
  sl_exec
  iapply (ld_id c I M1 f1 hf (128 * 1 + (8 * k.val + 4)) (by rw [k0_off37_eq]; congr 1; omega)) $$ HM
  iintro HM
  sl_exec
  iapply (wp_assume _ _ _ _ (fun _ => chk_src I (128 * 1 + (8 * k.val + 4))))
  sl_exec
  iapply (issue c I tb 1 1 (8 * k.val + 4) (by omega) (by rw [k0_off38_eq]; funext a; fin_cases a <;> simp <;> omega) (off3_eq I _) (by decide)) $$ HS
  iintro HS
  sl_exec
  iapply (ld_id c I M1 f1 hf (128 * 1 + (8 * k.val + 5)) (by rw [k0_off40_eq]; congr 1; omega)) $$ HM
  iintro HM
  sl_exec
  iapply (wp_assume _ _ _ _ (fun _ => chk_src I (128 * 1 + (8 * k.val + 5))))
  sl_exec
  iapply (issue c I tb 1 1 (8 * k.val + 5) (by omega) (by rw [k0_off41_eq]; funext a; fin_cases a <;> simp <;> omega) (off3_eq I _) (by decide)) $$ HS
  iintro HS
  sl_exec
  iapply (ld_id c I M1 f1 hf (128 * 1 + (8 * k.val + 6)) (by rw [k0_off43_eq]; congr 1; omega)) $$ HM
  iintro HM
  sl_exec
  iapply (wp_assume _ _ _ _ (fun _ => chk_src I (128 * 1 + (8 * k.val + 6))))
  sl_exec
  iapply (issue c I tb 1 1 (8 * k.val + 6) (by omega) (by rw [k0_off44_eq]; funext a; fin_cases a <;> simp <;> omega) (off3_eq I _) (by decide)) $$ HS
  iintro HS
  sl_exec
  iapply (ld_id c I M1 f1 hf (128 * 1 + (8 * k.val + 7)) (by rw [k0_off46_eq]; congr 1; omega)) $$ HM
  iintro HM
  sl_exec
  iapply (wp_assume _ _ _ _ (fun _ => chk_src I (128 * 1 + (8 * k.val + 7))))
  sl_exec
  iapply (issue c I tb 1 1 (8 * k.val + 7) (by omega) (by rw [k0_off47_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

include hf in
/-- One trip of loop 3: eight copies started. -/
theorem t3_step (hc : k0_cond1 i = 1#1) (k : Fin k0_t3_loop.trips) (acc : Unit) :
    issuing c I tb M1 f1 2 2 k.val ⊢ wp frame (wpE (defs₀ (F := F)) Variants.none (c : Thread nD τ) none) Set.univ
      (k0_t3_body i M1 h1 M2 h2 M3 h3 (Memref.whole main_v2) h4 M5 h5 M6 h6 (Memref.whole cc0_scratch0) h7 cc0_scratch1 hc k acc)
      (fun _ => issuing c I tb M1 f1 2 2 (k.val + 1)) := by
  unfold issuing
  have hk : k.val < 16 := k.isLt
  iintro ⟨HS, HM⟩
  sl_unfold [k0_t3_body]
  sl_exec
  iapply (ld_id c I M1 f1 hf (128 * 2 + (8 * k.val + 0)) (by rw [k0_off49_eq]; congr 1; omega)) $$ HM
  iintro HM
  sl_exec
  iapply (wp_assume _ _ _ _ (fun _ => chk_src I (128 * 2 + (8 * k.val + 0))))
  sl_exec
  iapply (issue c I tb 2 2 (8 * k.val + 0) (by omega) (by rw [k0_off50_eq]; funext a; fin_cases a <;> simp <;> omega) (off3_eq I _) (by decide)) $$ HS
  iintro HS
  sl_exec
  iapply (ld_id c I M1 f1 hf (128 * 2 + (8 * k.val + 1)) (by rw [k0_off52_eq]; congr 1; omega)) $$ HM
  iintro HM
  sl_exec
  iapply (wp_assume _ _ _ _ (fun _ => chk_src I (128 * 2 + (8 * k.val + 1))))
  sl_exec
  iapply (issue c I tb 2 2 (8 * k.val + 1) (by omega) (by rw [k0_off53_eq]; funext a; fin_cases a <;> simp <;> omega) (off3_eq I _) (by decide)) $$ HS
  iintro HS
  sl_exec
  iapply (ld_id c I M1 f1 hf (128 * 2 + (8 * k.val + 2)) (by rw [k0_off55_eq]; congr 1; omega)) $$ HM
  iintro HM
  sl_exec
  iapply (wp_assume _ _ _ _ (fun _ => chk_src I (128 * 2 + (8 * k.val + 2))))
  sl_exec
  iapply (issue c I tb 2 2 (8 * k.val + 2) (by omega) (by rw [k0_off56_eq]; funext a; fin_cases a <;> simp <;> omega) (off3_eq I _) (by decide)) $$ HS
  iintro HS
  sl_exec
  iapply (ld_id c I M1 f1 hf (128 * 2 + (8 * k.val + 3)) (by rw [k0_off58_eq]; congr 1; omega)) $$ HM
  iintro HM
  sl_exec
  iapply (wp_assume _ _ _ _ (fun _ => chk_src I (128 * 2 + (8 * k.val + 3))))
  sl_exec
  iapply (issue c I tb 2 2 (8 * k.val + 3) (by omega) (by rw [k0_off59_eq]; funext a; fin_cases a <;> simp <;> omega) (off3_eq I _) (by decide)) $$ HS
  iintro HS
  sl_exec
  iapply (ld_id c I M1 f1 hf (128 * 2 + (8 * k.val + 4)) (by rw [k0_off61_eq]; congr 1; omega)) $$ HM
  iintro HM
  sl_exec
  iapply (wp_assume _ _ _ _ (fun _ => chk_src I (128 * 2 + (8 * k.val + 4))))
  sl_exec
  iapply (issue c I tb 2 2 (8 * k.val + 4) (by omega) (by rw [k0_off62_eq]; funext a; fin_cases a <;> simp <;> omega) (off3_eq I _) (by decide)) $$ HS
  iintro HS
  sl_exec
  iapply (ld_id c I M1 f1 hf (128 * 2 + (8 * k.val + 5)) (by rw [k0_off64_eq]; congr 1; omega)) $$ HM
  iintro HM
  sl_exec
  iapply (wp_assume _ _ _ _ (fun _ => chk_src I (128 * 2 + (8 * k.val + 5))))
  sl_exec
  iapply (issue c I tb 2 2 (8 * k.val + 5) (by omega) (by rw [k0_off65_eq]; funext a; fin_cases a <;> simp <;> omega) (off3_eq I _) (by decide)) $$ HS
  iintro HS
  sl_exec
  iapply (ld_id c I M1 f1 hf (128 * 2 + (8 * k.val + 6)) (by rw [k0_off67_eq]; congr 1; omega)) $$ HM
  iintro HM
  sl_exec
  iapply (wp_assume _ _ _ _ (fun _ => chk_src I (128 * 2 + (8 * k.val + 6))))
  sl_exec
  iapply (issue c I tb 2 2 (8 * k.val + 6) (by omega) (by rw [k0_off68_eq]; funext a; fin_cases a <;> simp <;> omega) (off3_eq I _) (by decide)) $$ HS
  iintro HS
  sl_exec
  iapply (ld_id c I M1 f1 hf (128 * 2 + (8 * k.val + 7)) (by rw [k0_off70_eq]; congr 1; omega)) $$ HM
  iintro HM
  sl_exec
  iapply (wp_assume _ _ _ _ (fun _ => chk_src I (128 * 2 + (8 * k.val + 7))))
  sl_exec
  iapply (issue c I tb 2 2 (8 * k.val + 7) (by omega) (by rw [k0_off71_eq]; funext a; fin_cases a <;> simp <;> omega) (off3_eq I _) (by decide)) $$ HS
  iintro HS
  sl_exec
  sl_step
  isplitl [HS]; · rw [show 8 * (k.val + 1) = 8 * k.val + 7 + 1 by omega]; iexact HS
  iexact HM

/-- The slot of block `i + 3`. -/
abbrev slot3 (i : grid0.Coords) : Fin 4 := ⟨((i 0).val + 3) % 4, Nat.mod_lt _ (by decide)⟩
theorem sem_eq {off : Fin 1 → ℕ} {inb} {s : Fin 4} (h : off = ![s.val]) :
    ((cc0_scratch1.slice (Rect.unit (s := S4) off S1.size inb)).squeeze S_ squeezes_S1_S_).sem = cell s := by
  subst h
  match s with
  | 0 => exact (show ((cc0_scratch1.slice (Rect.unit (s := S4) ![0] S1.size (by decide))).squeeze S_ squeezes_S1_S_).sem = cell 0 by decide)
  | 1 => exact (show ((cc0_scratch1.slice (Rect.unit (s := S4) ![1] S1.size (by decide))).squeeze S_ squeezes_S1_S_).sem = cell 1 by decide)
  | 2 => exact (show ((cc0_scratch1.slice (Rect.unit (s := S4) ![2] S1.size (by decide))).squeeze S_ squeezes_S1_S_).sem = cell 2 by decide)
  | 3 => exact (show ((cc0_scratch1.slice (Rect.unit (s := S4) ![3] S1.size (by decide))).squeeze S_ squeezes_S1_S_).sem = cell 3 by decide)
theorem k0_off74_eq' : ∀ i : grid0.Coords, k0_off74 i = ![((i 0).val + 3) % 4] := by decide +kernel
theorem k0_off75_eq' : ∀ (i : grid0.Coords) (k : Fin k0_t4_loop.trips), k0_off75 i k = ![128 * (((i 0).val + 3) % 4) + (8 * k.val + 0), 0, 0] := by decide +kernel
theorem k0_off78_eq' : ∀ i : grid0.Coords, k0_off78 i = ![((i 0).val + 3) % 4] := by decide +kernel
theorem k0_off79_eq' : ∀ (i : grid0.Coords) (k : Fin k0_t4_loop.trips), k0_off79 i k = ![128 * (((i 0).val + 3) % 4) + (8 * k.val + 1), 0, 0] := by decide +kernel
theorem k0_off82_eq' : ∀ i : grid0.Coords, k0_off82 i = ![((i 0).val + 3) % 4] := by decide +kernel
theorem k0_off83_eq' : ∀ (i : grid0.Coords) (k : Fin k0_t4_loop.trips), k0_off83 i k = ![128 * (((i 0).val + 3) % 4) + (8 * k.val + 2), 0, 0] := by decide +kernel
theorem k0_off86_eq' : ∀ i : grid0.Coords, k0_off86 i = ![((i 0).val + 3) % 4] := by decide +kernel
theorem k0_off87_eq' : ∀ (i : grid0.Coords) (k : Fin k0_t4_loop.trips), k0_off87 i k = ![128 * (((i 0).val + 3) % 4) + (8 * k.val + 3), 0, 0] := by decide +kernel
theorem k0_off90_eq' : ∀ i : grid0.Coords, k0_off90 i = ![((i 0).val + 3) % 4] := by decide +kernel
theorem k0_off91_eq' : ∀ (i : grid0.Coords) (k : Fin k0_t4_loop.trips), k0_off91 i k = ![128 * (((i 0).val + 3) % 4) + (8 * k.val + 4), 0, 0] := by decide +kernel
theorem k0_off94_eq' : ∀ i : grid0.Coords, k0_off94 i = ![((i 0).val + 3) % 4] := by decide +kernel
theorem k0_off95_eq' : ∀ (i : grid0.Coords) (k : Fin k0_t4_loop.trips), k0_off95 i k = ![128 * (((i 0).val + 3) % 4) + (8 * k.val + 5), 0, 0] := by decide +kernel
theorem k0_off98_eq' : ∀ i : grid0.Coords, k0_off98 i = ![((i 0).val + 3) % 4] := by decide +kernel
theorem k0_off99_eq' : ∀ (i : grid0.Coords) (k : Fin k0_t4_loop.trips), k0_off99 i k = ![128 * (((i 0).val + 3) % 4) + (8 * k.val + 6), 0, 0] := by decide +kernel
theorem k0_off102_eq' : ∀ i : grid0.Coords, k0_off102 i = ![((i 0).val + 3) % 4] := by decide +kernel
theorem k0_off103_eq' : ∀ (i : grid0.Coords) (k : Fin k0_t4_loop.trips), k0_off103 i k = ![128 * (((i 0).val + 3) % 4) + (8 * k.val + 7), 0, 0] := by decide +kernel

include hf in
/-- One trip of loop 4: eight copies started. -/
theorem t4_step (hc : k0_cond2 i = 1#1) (v37 v48 : BitVec 32) (k : Fin k0_t4_loop.trips) (acc : Unit) :
    issuing c I tb M1 f1 (slot3 i) ((i 0).val + 3) k.val ⊢ wp frame (wpE (defs₀ (F := F)) Variants.none (c : Thread nD τ) none) Set.univ
      (k0_t4_body i M1 h1 M2 h2 M3 h3 (Memref.whole main_v2) h4 M5 h5 M6 h6 (Memref.whole cc0_scratch0) h7 cc0_scratch1 hc v37 v48 k acc)
      (fun _ => issuing c I tb M1 f1 (slot3 i) ((i 0).val + 3) (k.val + 1)) := by
  unfold issuing
  have hk : k.val < 16 := k.isLt
  iintro ⟨HS, HM⟩
  sl_unfold [k0_t4_body]
  sl_exec
  iapply (ld_id c I M1 f1 hf (128 * ((i 0).val + 3) + (8 * k.val + 0)) (by rw [k0_off73_eq]; congr 1; omega)) $$ HM
  iintro HM
  sl_exec
  iapply (wp_assume _ _ _ _ (fun _ => chk_src I (128 * ((i 0).val + 3) + (8 * k.val + 0))))
  sl_exec
  iapply (issue c I tb (slot3 i) ((i 0).val + 3) (8 * k.val + 0) (by omega) (k0_off75_eq' i k) (off3_eq I _) (sem_eq (k0_off74_eq' i))) $$ HS
  iintro HS
  sl_exec
  iapply (ld_id c I M1 f1 hf (128 * ((i 0).val + 3) + (8 * k.val + 1)) (by rw [k0_off77_eq]; congr 1; omega)) $$ HM
  iintro HM
  sl_exec
  iapply (wp_assume _ _ _ _ (fun _ => chk_src I (128 * ((i 0).val + 3) + (8 * k.val + 1))))
  sl_exec
  iapply (issue c I tb (slot3 i) ((i 0).val + 3) (8 * k.val + 1) (by omega) (k0_off79_eq' i k) (off3_eq I _) (sem_eq (k0_off78_eq' i))) $$ HS
  iintro HS
  sl_exec
  iapply (ld_id c I M1 f1 hf (128 * ((i 0).val + 3) + (8 * k.val + 2)) (by rw [k0_off81_eq]; congr 1; omega)) $$ HM
  iintro HM
  sl_exec
  iapply (wp_assume _ _ _ _ (fun _ => chk_src I (128 * ((i 0).val + 3) + (8 * k.val + 2))))
  sl_exec
  iapply (issue c I tb (slot3 i) ((i 0).val + 3) (8 * k.val + 2) (by omega) (k0_off83_eq' i k) (off3_eq I _) (sem_eq (k0_off82_eq' i))) $$ HS
  iintro HS
  sl_exec
  iapply (ld_id c I M1 f1 hf (128 * ((i 0).val + 3) + (8 * k.val + 3)) (by rw [k0_off85_eq]; congr 1; omega)) $$ HM
  iintro HM
  sl_exec
  iapply (wp_assume _ _ _ _ (fun _ => chk_src I (128 * ((i 0).val + 3) + (8 * k.val + 3))))
  sl_exec
  iapply (issue c I tb (slot3 i) ((i 0).val + 3) (8 * k.val + 3) (by omega) (k0_off87_eq' i k) (off3_eq I _) (sem_eq (k0_off86_eq' i))) $$ HS
  iintro HS
  sl_exec
  iapply (ld_id c I M1 f1 hf (128 * ((i 0).val + 3) + (8 * k.val + 4)) (by rw [k0_off89_eq]; congr 1; omega)) $$ HM
  iintro HM
  sl_exec
  iapply (wp_assume _ _ _ _ (fun _ => chk_src I (128 * ((i 0).val + 3) + (8 * k.val + 4))))
  sl_exec
  iapply (issue c I tb (slot3 i) ((i 0).val + 3) (8 * k.val + 4) (by omega) (k0_off91_eq' i k) (off3_eq I _) (sem_eq (k0_off90_eq' i))) $$ HS
  iintro HS
  sl_exec
  iapply (ld_id c I M1 f1 hf (128 * ((i 0).val + 3) + (8 * k.val + 5)) (by rw [k0_off93_eq]; congr 1; omega)) $$ HM
  iintro HM
  sl_exec
  iapply (wp_assume _ _ _ _ (fun _ => chk_src I (128 * ((i 0).val + 3) + (8 * k.val + 5))))
  sl_exec
  iapply (issue c I tb (slot3 i) ((i 0).val + 3) (8 * k.val + 5) (by omega) (k0_off95_eq' i k) (off3_eq I _) (sem_eq (k0_off94_eq' i))) $$ HS
  iintro HS
  sl_exec
  iapply (ld_id c I M1 f1 hf (128 * ((i 0).val + 3) + (8 * k.val + 6)) (by rw [k0_off97_eq]; congr 1; omega)) $$ HM
  iintro HM
  sl_exec
  iapply (wp_assume _ _ _ _ (fun _ => chk_src I (128 * ((i 0).val + 3) + (8 * k.val + 6))))
  sl_exec
  iapply (issue c I tb (slot3 i) ((i 0).val + 3) (8 * k.val + 6) (by omega) (k0_off99_eq' i k) (off3_eq I _) (sem_eq (k0_off98_eq' i))) $$ HS
  iintro HS
  sl_exec
  iapply (ld_id c I M1 f1 hf (128 * ((i 0).val + 3) + (8 * k.val + 7)) (by rw [k0_off101_eq]; congr 1; omega)) $$ HM
  iintro HM
  sl_exec
  iapply (wp_assume _ _ _ _ (fun _ => chk_src I (128 * ((i 0).val + 3) + (8 * k.val + 7))))
  sl_exec
  iapply (issue c I tb (slot3 i) ((i 0).val + 3) (8 * k.val + 7) (by omega) (k0_off103_eq' i k) (off3_eq I _) (sem_eq (k0_off102_eq' i))) $$ HS
  iintro HS
  sl_exec
  sl_step
  isplitl [HS]; · rw [show 8 * (k.val + 1) = 8 * k.val + 7 + 1 by omega]; iexact HS
  iexact HM

end T1
end Cert.KernelIdeal.Rows
-- ==== Proof.KernelIdeal.Compute.lean ====
module

public import proofs.«01_k».proof.Proof.KernelIdeal.Issue
public import Idealize.ShloMosaic.Lib.WritesUnit

/-! The loop that computes a block's rows from the landed words. -/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the kernel reads: the ids, the packed table, the scales and the norm's weight. -/
structure Env (F : FTy → Type) where
  /-- the ids -/
  I : Ids
  /-- the packed table -/
  tb : S6272x4096.Idx → Elt F .i32
  /-- the scales -/
  sc : S25088.Idx → Elt F .f32
  /-- the weight -/
  wv : S1x4096.Idx → Elt F .f32

/-- The packed words of the `j`-th id's table row. -/
def Env.word (E : Env F) (j : ℕ) : S1x1x4096.Idx → Elt F .i32 := fun y => E.tb (tix ⟨E.I.row j, E.I.row_lt j⟩ (y 2))
/-- The `j`-th id's scale. -/
def Env.scale (E : Env F) (j : ℕ) : Elt F .f32 := E.sc (fun a => match a with | ⟨0, _⟩ => ⟨(E.I.tok j).toNat, E.I.lt j⟩)

/-- The embedding rows of ids `j` and `j + 1`, as the kernel computes them. -/
def Env.embPair (E : Env F) (j : ℕ) : S2x4096.Idx → Elt F .bf16 :=
  k0_pay9 (k0_pay3 (E.I.tok j) (E.word j)) (k0_pay4 (E.scale j)) (k0_pay5 (E.I.tok (j + 1)) (E.word (j + 1))) (E.scale (j + 1))
/-- The normalised rows of ids `j` and `j + 1`, as the kernel computes them. -/
def Env.outPair (E : Env F) (j : ℕ) : S2x4096.Idx → Elt F .bf16 :=
  k0_pay13 (k0_pay1 E.wv) (k0_pay10 (k0_pay1 E.wv) (k0_pay3 (E.I.tok j) (E.word j)) (k0_pay4 (E.scale j)) (k0_pay5 (E.I.tok (j + 1)) (E.word (j + 1))) (E.scale (j + 1)))
    (k0_pay11 (k0_pay3 (E.I.tok j) (E.word j)) (k0_pay4 (E.scale j)) (k0_pay5 (E.I.tok (j + 1)) (E.word (j + 1))) (E.scale (j + 1)))
    (k0_pay12 (k0_pay3 (E.I.tok j) (E.word j)) (k0_pay4 (E.scale j)) (k0_pay5 (E.I.tok (j + 1)) (E.word (j + 1))) (E.scale (j + 1)))

/-- A block of 128 rows from its pairs. -/
def pairBlk (f : ℕ → S2x4096.Idx → Elt F .bf16) (b : ℕ) : S128x4096.Idx → Elt F .bf16 :=
  fun y => f (128 * b + 2 * ((y 0).val / 2)) (fun a => match a with | ⟨0, _⟩ => ⟨(y 0).val % 2, Nat.mod_lt _ (by decide)⟩ | ⟨1, _⟩ => y 1)

/-- Block `b` of the embedding result. -/
def Env.embBlk (E : Env F) (b : ℕ) : S128x4096.Idx → Elt F .bf16 := pairBlk E.embPair b
/-- Block `b` of the normalised result. -/
def Env.outBlk (E : Env F) (b : ℕ) : S128x4096.Idx → Elt F .bf16 := pairBlk E.outPair b

/-- The contents of the scales' window are the scales. -/
def IsSc (E : Env F) (M : Memref sig .tc .smem S25088 .f32) (f : M.view.ty.Contents (Elt F)) : Prop :=
  ∀ y : S25088.Idx, M.view.read (Elt F) f y = E.sc y
/-- The contents of the weight's window are the weight. -/
def IsW (E : Env F) (M : Memref sig .tc .vmem S1x4096 .f32) (f : M.view.ty.Contents (Elt F)) : Prop :=
  ∀ y : S1x4096.Idx, M.view.read (Elt F) f y = E.wv y

/-- The elements of slot `s` of the ring. -/
def wset (s : ℕ) : Finset S512x1x4096.Idx := Finset.univ.filter fun y => (y 0).val / 128 = s
theorem mem_wset {s : ℕ} {y : S512x1x4096.Idx} : y ∈ wset s ↔ (y 0).val / 128 = s := by simp [wset]

/-- Slot `s` of the ring, holding block `b`. -/
def slotPt (c : Dev nD) (E : Env F) (s b : ℕ) : sProp 𝕄 := Buf7.view.loc (c : Thread nD τ) ↦[wset s]{fullShare} landed E.I E.tb b

/-- An output window whose first `n` rows are done. -/
def outAt (c : Dev nD) (M : Memref sig .tc .vmem S128x4096 .bf16) (P : S128x4096.Idx → Elt F .bf16) (n : ℕ) : sProp 𝕄 :=
  iprop(∃ g : M.view.ty.Contents (Elt F), ⌜∀ y : S128x4096.Idx, (y 0).val < n → M.view.read (Elt F) g y = P y⌝ ∗ held c M g)

/-- Reading one scale. -/
theorem ld_sc (c : Dev nD) (E : Env F) (M : Memref sig .tc .smem S25088 .f32) (f : M.view.ty.Contents (Elt F)) (hf : IsSc E M f) (j : ℕ)
    {off : Fin 1 → ℕ} {inb hl} (h : off = ![(E.I.tok j).toNat])
    {α : Type} {k : (S1.Idx → Elt F .f32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k fun _ => E.scale j) Q)
      -∗ wp frame (wpE (defs₀ (F := F)) Variants.none (c : Thread nD τ) none) Set.univ (.op (.load M (Rect.unit (s := S25088) off S1.size inb).toLoadRect hl) k) Q) := by
  have e : M.view.readAt (Elt F) (Rect.unit (s := S25088) off S1.size inb).toLoadRect f = fun _ => E.scale j := by
    funext x
    refine (hf _).trans ?_
    unfold Env.scale
    congr 1
    subst h
    have hx : (x 0).val < 1 := (x 0).isLt
    funext a
    fin_cases a
    apply Fin.ext
    show (E.I.tok j).toNat + 1 * (x 0).val = (E.I.tok j).toNat
    omega
  unfold held
  rw [show (k fun _ => E.scale j) = k (M.view.readAt (Elt F) (Rect.unit (s := S25088) off S1.size inb).toLoadRect f) from congrArg k e.symm]
  exact wp_load Variants.none (c : Thread nD τ) none Set.univ (View.setOn_subset_set _ _)

/-- Reading the weight. -/
theorem ld_w (c : Dev nD) (E : Env F) (M : Memref sig .tc .vmem S1x4096 .f32) (f : M.view.ty.Contents (Elt F)) (hf : IsW E M f)
    {inb hl} {α : Type} {k : (S1x4096.Idx → Elt F .f32) → Prog (TpuEff nD τ sig (Elt F) Λ₀ .tc) α} {Q : α → sProp 𝕄} :
    (held c M f : sProp 𝕄) ⊢ iprop((held c M f -∗ wp frame (wpE (defs₀ (F := F)) Variants.none (c : Thread nD τ) none) Set.univ (k E.wv) Q)
      -∗ wp frame (wpE (defs₀ (F := F)) Variants.none (c : Thread nD τ) none) Set.univ (.op (.load M (Rect.unit (s := S1x4096) ![0, 0] S1x4096.size inb).toLoadRect hl) k) Q) := by
  have e : M.view.readAt (Elt F) (Rect.unit (s := S1x4096) ![0, 0] S1x4096.size inb).toLoadRect f = E.wv := by
    funext x
    refine (hf _).trans ?_
    congr 1
    funext a
    fin_cases a
    · apply Fin.ext; show 0 + 1 * (x 0).val = (x 0).val; omega
    · apply Fin.ext; show 0 + 1 * (x 1).val = (x 1).val; omega
  unfold held
  rw [show (k E.wv) = k (M.view.readAt (Elt F) (Rect.unit (s := S1x4096) ![0, 0] S1x4096.size inb).toLoadRect f) from congrArg k e.symm]
  exact wp_load Variants.none (c : Thread nD τ) none Set.univ (View.setOn_subset_set _ _)

/-- Reading one landed row. -/
theorem ld_row (c : Dev nD) (E : Env F) (s b t : ℕ) (ht : t < 128) {off : Fin 3 → ℕ} {inb hl} (h : off = ![128 * s + t, 0, 0])
    {α : Type} {k : (S1x1x4096.Idx → Elt F .i32) → Prog (TpuEff nD τ sig (Elt F) Λ₀ .tc) α} {Q : α → sProp 𝕄} :
    (slotPt c E s b : sProp 𝕄) ⊢ iprop((slotPt c E s b -∗ wp frame (wpE (defs₀ (F := F)) Variants.none (c : Thread nD τ) none) Set.univ (k (E.word (128 * b + t))) Q)
      -∗ wp frame (wpE (defs₀ (F := F)) Variants.none (c : Thread nD τ) none) Set.univ (.op (.load Buf7 (Rect.unit (s := S512x1x4096) off S1x1x4096.size inb).toLoadRect hl) k) Q) := by
  subst h
  have hm : (128 * s + t) % 128 = t := by omega
  have e : Buf7.view.readAt (Elt F) (Rect.unit (s := S512x1x4096) ![128 * s + t, 0, 0] S1x1x4096.size inb).toLoadRect (landed E.I E.tb b) = E.word (128 * b + t) := by
    funext x
    show E.tb _ = E.tb _
    congr 1
    have hx : (x 0).val < 1 := (x 0).isLt
    funext a
    fin_cases a
    · apply Fin.ext
      show E.I.row (128 * b + (128 * s + t + 1 * (x 0).val) % 128) = E.I.row (128 * b + t)
      rw [show (128 * s + t + 1 * (x 0).val) % 128 = t by omega]
    · apply Fin.ext
      show 0 + 1 * (x 2).val = (x 2).val; omega
  unfold slotPt
  rw [show (k (E.word (128 * b + t))) = k (Buf7.view.readAt (Elt F) (Rect.unit (s := S512x1x4096) ![128 * s + t, 0, 0] S1x1x4096.size inb).toLoadRect (landed E.I E.tb b)) from congrArg k e.symm]
  refine wp_load Variants.none (c : Thread nD τ) none Set.univ ?_
  intro y hy
  obtain ⟨x, hx, rfl⟩ := Finset.mem_map.mp hy
  have hx' := (Rect.mem_set_unit (s := S512x1x4096)).mp hx
  have a0 : 128 * s + t ≤ (x 0).val ∧ (x 0).val < 128 * s + t + 1 := hx' 0
  refine mem_wset.mpr ?_
  show (x 0).val / 128 = s
  omega

/-- A load of an output window whose value is not used. -/
theorem ld_out (c : Dev nD) (M : Memref sig .tc .vmem S128x4096 .bf16) (P : S128x4096.Idx → Elt F .bf16) (n : ℕ) {off : Fin 2 → ℕ} {inb hl}
    {α : Type} {k : (S2x4096.Idx → Elt F .bf16) → Prog (TpuEff nD τ sig (Elt F) Λ₀ .tc) α} {Q : α → sProp 𝕄} :
    (outAt c M P n : sProp 𝕄) ⊢ iprop((∀ v, outAt c M P n -∗ wp frame (wpE (defs₀ (F := F)) Variants.none (c : Thread nD τ) none) Set.univ (k v) Q)
      -∗ wp frame (wpE (defs₀ (F := F)) Variants.none (c : Thread nD τ) none) Set.univ (.op (.load M (Rect.unit (s := S128x4096) off S2x4096.size inb).toLoadRect hl) k) Q) := by
  unfold outAt held
  iintro ⟨%g, %hg, Hg⟩ HK
  iapply (wp_load Variants.none (c : Thread nD τ) none Set.univ (m := M) (f := g) (q := fullShare) (S := M.view.set) (View.setOn_subset_set _ _)) $$ Hg
  iintro Hg
  iapply HK
  iexists g
  isplitr; · ipureintro; exact hg
  iexact Hg

/-- A bind on a returned value is the continuation at that value. -/
theorem ret_bind (c : Dev nD) {α β : Type} {a : α} {k : α → Prog (TpuEff nD τ sig (Elt F) Λ₀ .tc) β} {Q : β → sProp 𝕄} :
    wp frame (wpE (defs₀ (F := F)) Variants.none (c : Thread nD τ) none) Set.univ (k a) Q
      ⊢ wp frame (wpE (defs₀ (F := F)) Variants.none (c : Thread nD τ) none) Set.univ ((Prog.ret a).bind k) Q := .rfl

/-- Storing a pair of rows. -/
theorem st_pair (c : Dev nD) (M : Memref sig .tc .vmem S128x4096 .bf16) (f : ℕ → S2x4096.Idx → Elt F .bf16) (b n : ℕ) (hn : n % 2 = 0)
    {off : Fin 2 → ℕ} {inb} {v : S2x4096.Idx → Elt F .bf16} {hx hm} (h : off = ![n, 0]) (hv : v = f (128 * b + n))
    {α : Type} {k : PUnit → Prog (TpuEff nD τ sig (Elt F) Λ₀ .tc) α} {Q : α → sProp 𝕄} :
    (outAt c M (pairBlk f b) n : sProp 𝕄) ⊢ iprop((outAt c M (pairBlk f b) (n + 2) -∗ wp frame (wpE (defs₀ (F := F)) Variants.none (c : Thread nD τ) none) Set.univ (k ⟨⟩) Q)
      -∗ wp frame (wpE (defs₀ (F := F)) Variants.none (c : Thread nD τ) none) Set.univ (.op (.store M (Rect.unit (s := S128x4096) off S2x4096.size inb) v Finset.univ hx hm) k) Q) := by
  subst h hv
  unfold outAt held
  iintro ⟨%g, %hg, Hg⟩ HK
  have hw := wp_store (nD := nD) (τ := τ) (defs := defs₀ (F := F)) Variants.none (c : Thread nD τ) none Set.univ (Γ := .empty) (m := M)
    (r := Rect.unit (s := S128x4096) ![n, 0] S2x4096.size inb) (w := f (128 * b + n)) (Mk := Finset.univ) (hx := hx) (hm := hm) (k := k) (Q := Q) (f := g)
    (S := M.view.set) ((View.setOn_subset_set _ _).trans (View.set_slice_subset _ _))
  iapply hw $$ Hg
  iintro Hg
  iapply HK
  iexists (M.view.writes (Elt F) g [⟨Rect.unit (s := S128x4096) ![n, 0] S2x4096.size inb, f (128 * b + n)⟩])
  isplitr
  · ipureintro
    intro y hy
    by_cases hlt : (y 0).val < n
    · refine (View.read_writes_cons_rows_of_not_mem M.view g inb _ [] y (o := n) (W := 2) rfl rfl (Or.inl hlt)).trans ?_
      exact hg y hlt
    · have h0 : 128 * b + 2 * ((y 0).val / 2) = 128 * b + n := by omega
      refine (View.read_writes_cons_rows_of_mem M.view g inb _ [] y (o := n)
        (fun a => match a with | ⟨0, _⟩ => ⟨(y 0).val % 2, Nat.mod_lt _ (by decide)⟩ | ⟨1, _⟩ => y 1) rfl ?_ rfl).trans ?_
      · show (y 0).val = n + (y 0).val % 2
        omega
      · unfold pairBlk
        rw [h0]
        congr 1
        funext a
        match a with
        | ⟨0, _⟩ => rfl
        | ⟨1, _⟩ => rfl
  iexact Hg

theorem k0_off108_eq' : ∀ (i : grid0.Coords) (k : Fin k0_t5_loop.trips), k0_off108 i k = ![128 * ((i 0).val % 4) + (8 * k.val + 0), 0, 0] := by decide +kernel
theorem k0_off111_eq' : ∀ (i : grid0.Coords) (k : Fin k0_t5_loop.trips), k0_off111 i k = ![128 * ((i 0).val % 4) + (8 * k.val + 1), 0, 0] := by decide +kernel
theorem k0_off115_eq' : ∀ (i : grid0.Coords) (k : Fin k0_t5_loop.trips), k0_off115 i k = ![128 * ((i 0).val % 4) + (8 * k.val + 2), 0, 0] := by decide +kernel
theorem k0_off118_eq' : ∀ (i : grid0.Coords) (k : Fin k0_t5_loop.trips), k0_off118 i k = ![128 * ((i 0).val % 4) + (8 * k.val + 3), 0, 0] := by decide +kernel
theorem k0_off122_eq' : ∀ (i : grid0.Coords) (k : Fin k0_t5_loop.trips), k0_off122 i k = ![128 * ((i 0).val % 4) + (8 * k.val + 4), 0, 0] := by decide +kernel
theorem k0_off125_eq' : ∀ (i : grid0.Coords) (k : Fin k0_t5_loop.trips), k0_off125 i k = ![128 * ((i 0).val % 4) + (8 * k.val + 5), 0, 0] := by decide +kernel
theorem k0_off129_eq' : ∀ (i : grid0.Coords) (k : Fin k0_t5_loop.trips), k0_off129 i k = ![128 * ((i 0).val % 4) + (8 * k.val + 6), 0, 0] := by decide +kernel
theorem k0_off132_eq' : ∀ (i : grid0.Coords) (k : Fin k0_t5_loop.trips), k0_off132 i k = ![128 * ((i 0).val % 4) + (8 * k.val + 7), 0, 0] := by decide +kernel

theorem chk_sc (I : Ids) (j : ℕ) : ∀ a, (![(I.tok j).toNat] : Fin 1 → ℕ) a + S1.size a ≤ S25088.size a := by
  have := I.lt j
  intro a; fin_cases a
  show (I.tok j).toNat + 1 ≤ 25088; omega

section T5
variable (c : Dev nD) (E : Env F)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf1 : IsIds E.I M1 f1)
  (f2 : M2.view.ty.Contents (Elt F)) (hf2 : IsSc E M2 f2)

/-- Before trip `k` of the compute loop: the first `8 k` rows of both results are done. -/
def computing (k : ℕ) : sProp 𝕄 :=
  iprop(slotPt c E ((i 0).val % 4) (i 0).val ∗ held c M1 f1 ∗ held c M2 f2
    ∗ outAt c M5 (pairBlk E.outPair (i 0).val) (8 * k) ∗ outAt c M6 (pairBlk E.embPair (i 0).val) (8 * k))

set_option maxHeartbeats 4000000 in
include hf1 hf2 in
/-- One trip of the compute loop: four pairs of rows. -/
theorem t5_step (a0 v18 : BitVec 32) (k : Fin k0_t5_loop.trips) (acc : Unit) :
    computing c E i M1 M2 M5 M6 f1 f2 k.val ⊢ wp frame (wpE (defs₀ (F := F)) Variants.none (c : Thread nD τ) none) Set.univ
      (k0_t5_body i M1 h1 M2 h2 M3 h3 (Memref.whole main_v2) h4 M5 h5 M6 h6 (Memref.whole cc0_scratch0) h7 cc0_scratch1 a0 v18 E.wv k acc)
      (fun _ => computing c E i M1 M2 M5 M6 f1 f2 (k.val + 1)) := by
  unfold computing
  have hk : k.val < 16 := k.isLt
  iintro ⟨HR, HM, HC, HO, HE⟩
  sl_unfold [k0_t5_body]
  sl_exec
  iapply (ld_id c E.I M1 f1 hf1 (128 * (i 0).val + (8 * k.val + 0)) (by rw [k0_off107_eq, Nat.add_zero])) $$ HM
  iintro HM
  sl_exec
  iapply (wp_assume _ _ _ _ (chk_sc E.I (128 * (i 0).val + (8 * k.val + 0))))
  sl_exec
  iapply (ld_row c E _ _ (8 * k.val + 0) (by omega) (k0_off108_eq' i k)) $$ HR
  iintro HR
  sl_exec
  iapply (ld_sc c E M2 f2 hf2 (128 * (i 0).val + (8 * k.val + 0)) rfl) $$ HC
  iintro HC
  sl_exec
  iapply (ld_id c E.I M1 f1 hf1 (128 * (i 0).val + (8 * k.val + 1)) (by rw [k0_off110_eq, Nat.add_assoc])) $$ HM
  iintro HM
  sl_exec
  iapply (wp_assume _ _ _ _ (chk_sc E.I (128 * (i 0).val + (8 * k.val + 1))))
  sl_exec
  iapply (ld_row c E _ _ (8 * k.val + 1) (by omega) (k0_off111_eq' i k)) $$ HR
  iintro HR
  sl_exec
  iapply (ld_sc c E M2 f2 hf2 (128 * (i 0).val + (8 * k.val + 1)) rfl) $$ HC
  iintro HC
  try sl_exec
  iapply (ld_out c M6 _ _) $$ HE
  iintro %_ HE
  iapply (st_pair c M6 E.embPair _ (8 * k.val + 0) (by omega) (by rw [k0_off113_eq]; try rfl) rfl) $$ HE
  iintro HE
  try iapply (ret_bind c)
  try sl_exec
  iapply (ld_out c M5 _ _) $$ HO
  iintro %_ HO
  iapply (st_pair c M5 E.outPair _ (8 * k.val + 0) (by omega) (by rw [k0_off113_eq]; try rfl) rfl) $$ HO
  iintro HO
  try iapply (ret_bind c)
  sl_exec
  iapply (ld_id c E.I M1 f1 hf1 (128 * (i 0).val + (8 * k.val + 2)) (by rw [k0_off114_eq, Nat.add_assoc])) $$ HM
  iintro HM
  sl_exec
  iapply (wp_assume _ _ _ _ (chk_sc E.I (128 * (i 0).val + (8 * k.val + 2))))
  sl_exec
  iapply (ld_row c E _ _ (8 * k.val + 2) (by omega) (k0_off115_eq' i k)) $$ HR
  iintro HR
  sl_exec
  iapply (ld_sc c E M2 f2 hf2 (128 * (i 0).val + (8 * k.val + 2)) rfl) $$ HC
  iintro HC
  sl_exec
  iapply (ld_id c E.I M1 f1 hf1 (128 * (i 0).val + (8 * k.val + 3)) (by rw [k0_off117_eq, Nat.add_assoc])) $$ HM
  iintro HM
  sl_exec
  iapply (wp_assume _ _ _ _ (chk_sc E.I (128 * (i 0).val + (8 * k.val + 3))))
  sl_exec
  iapply (ld_row c E _ _ (8 * k.val + 3) (by omega) (k0_off118_eq' i k)) $$ HR
  iintro HR
  sl_exec
  iapply (ld_sc c E M2 f2 hf2 (128 * (i 0).val + (8 * k.val + 3)) rfl) $$ HC
  iintro HC
  try sl_exec
  iapply (ld_out c M6 _ _) $$ HE
  iintro %_ HE
  iapply (st_pair c M6 E.embPair _ (8 * k.val + 2) (by omega) (by rw [k0_off120_eq]; try rfl) rfl) $$ HE
  iintro HE
  try iapply (ret_bind c)
  try sl_exec
  iapply (ld_out c M5 _ _) $$ HO
  iintro %_ HO
  iapply (st_pair c M5 E.outPair _ (8 * k.val + 2) (by omega) (by rw [k0_off120_eq]; try rfl) rfl) $$ HO
  iintro HO
  try iapply (ret_bind c)
  sl_exec
  iapply (ld_id c E.I M1 f1 hf1 (128 * (i 0).val + (8 * k.val + 4)) (by rw [k0_off121_eq, Nat.add_assoc])) $$ HM
  iintro HM
  sl_exec
  iapply (wp_assume _ _ _ _ (chk_sc E.I (128 * (i 0).val + (8 * k.val + 4))))
  sl_exec
  iapply (ld_row c E _ _ (8 * k.val + 4) (by omega) (k0_off122_eq' i k)) $$ HR
  iintro HR
  sl_exec
  iapply (ld_sc c E M2 f2 hf2 (128 * (i 0).val + (8 * k.val + 4)) rfl) $$ HC
  iintro HC
  sl_exec
  iapply (ld_id c E.I M1 f1 hf1 (128 * (i 0).val + (8 * k.val + 5)) (by rw [k0_off124_eq, Nat.add_assoc])) $$ HM
  iintro HM
  sl_exec
  iapply (wp_assume _ _ _ _ (chk_sc E.I (128 * (i 0).val + (8 * k.val + 5))))
  sl_exec
  iapply (ld_row c E _ _ (8 * k.val + 5) (by omega) (k0_off125_eq' i k)) $$ HR
  iintro HR
  sl_exec
  iapply (ld_sc c E M2 f2 hf2 (128 * (i 0).val + (8 * k.val + 5)) rfl) $$ HC
  iintro HC
  try sl_exec
  iapply (ld_out c M6 _ _) $$ HE
  iintro %_ HE
  iapply (st_pair c M6 E.embPair _ (8 * k.val + 4) (by omega) (by rw [k0_off127_eq]; try rfl) rfl) $$ HE
  iintro HE
  try iapply (ret_bind c)
  try sl_exec
  iapply (ld_out c M5 _ _) $$ HO
  iintro %_ HO
  iapply (st_pair c M5 E.outPair _ (8 * k.val + 4) (by omega) (by rw [k0_off127_eq]; try rfl) rfl) $$ HO
  iintro HO
  try iapply (ret_bind c)
  sl_exec
  iapply (ld_id c E.I M1 f1 hf1 (128 * (i 0).val + (8 * k.val + 6)) (by rw [k0_off128_eq, Nat.add_assoc])) $$ HM
  iintro HM
  sl_exec
  iapply (wp_assume _ _ _ _ (chk_sc E.I (128 * (i 0).val + (8 * k.val + 6))))
  sl_exec
  iapply (ld_row c E _ _ (8 * k.val + 6) (by omega) (k0_off129_eq' i k)) $$ HR
  iintro HR
  sl_exec
  iapply (ld_sc c E M2 f2 hf2 (128 * (i 0).val + (8 * k.val + 6)) rfl) $$ HC
  iintro HC
  sl_exec
  iapply (ld_id c E.I M1 f1 hf1 (128 * (i 0).val + (8 * k.val + 7)) (by rw [k0_off131_eq, Nat.add_assoc])) $$ HM
  iintro HM
  sl_exec
  iapply (wp_assume _ _ _ _ (chk_sc E.I (128 * (i 0).val + (8 * k.val + 7))))
  sl_exec
  iapply (ld_row c E _ _ (8 * k.val + 7) (by omega) (k0_off132_eq' i k)) $$ HR
  iintro HR
  sl_exec
  iapply (ld_sc c E M2 f2 hf2 (128 * (i 0).val + (8 * k.val + 7)) rfl) $$ HC
  iintro HC
  try sl_exec
  iapply (ld_out c M6 _ _) $$ HE
  iintro %_ HE
  iapply (st_pair c M6 E.embPair _ (8 * k.val + 6) (by omega) (by rw [k0_off134_eq]; try rfl) rfl) $$ HE
  iintro HE
  try iapply (ret_bind c)
  try sl_exec
  iapply (ld_out c M5 _ _) $$ HO
  iintro %_ HO
  iapply (st_pair c M5 E.outPair _ (8 * k.val + 6) (by omega) (by rw [k0_off134_eq]; try rfl) rfl) $$ HO
  iintro HO
  try iapply (ret_bind c)
  sl_exec
  sl_step
  isplitl [HR]; · iexact HR
  isplitl [HM]; · iexact HM
  isplitl [HC]; · iexact HC
  rw [show 8 * (k.val + 1) = 8 * k.val + 6 + 2 by omega]
  isplitl [HO]; · iexact HO
  iexact HE

end T5
end Cert.KernelIdeal.Rows
-- ==== Proof.KernelIdeal.Body.lean ====
module

public import proofs.«01_k».proof.Proof.KernelIdeal.Compute

/-! One run of the kernel's body. -/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What a drained slot has besides its rows: its counter at zero and its read tokens whole. -/
def back (c : Dev nD) (tb : S6272x4096.Idx → Elt F .i32) (s : Fin 4) : sProp 𝕄 :=
  iprop(semVal ((c : Thread nD τ), SemLoc.dma (cell s)) 0 ∗ bigSep Finset.univ fun t : Fin 128 => tokPt c tb (128 * s.val + t.val))

theorem slot_disj (s : ℕ) : ∀ a b : Fin 128, a ≠ b → Disjoint (bset (128 * s + a.val)) (bset (128 * s + b.val)) := by
  intro a b hab
  rw [Finset.disjoint_left]
  intro y h1 h2
  rw [mem_bset] at h1 h2
  exact hab (Fin.ext (by omega))

theorem slot_cover (s : ℕ) : Finset.univ.biUnion (fun t : Fin 128 => bset (128 * s + t.val)) = wset s := by
  ext y
  rw [Finset.mem_biUnion, mem_wset]
  constructor
  · rintro ⟨t, -, h⟩; rw [mem_bset] at h; omega
  · intro h; exact ⟨⟨(y 0).val % 128, Nat.mod_lt _ (by decide)⟩, Finset.mem_univ _, mem_bset.mpr (by show _ = 128 * s + (y 0).val % 128; omega)⟩

/-- A slot's rows together are the slot. -/
theorem slot_rows (c : Dev nD) (s : ℕ) (g : S512x1x4096.Idx → Elt F .i32) :
    (Buf7.view.loc (c : Thread nD τ) ↦[wset s]{fullShare} g : sProp 𝕄) = bigSep Finset.univ fun t : Fin 128 => rowPt c (128 * s + t.val) g := by
  unfold rowPt
  exact Ring.pointsTo_sub_blocks (ℓ := Buf7.view.loc (c : Thread nD τ)) (fun t : Fin 128 => bset (128 * s + t.val)) (slot_disj s) (wset s) (slot_cover s) g

/-- A slot holding a block, drained, is a slot at rest. -/
theorem slot_rest (c : Dev nD) (E : Env F) (s : Fin 4) (b : ℕ) :
    (iprop(slotPt c E s.val b ∗ back c E.tb s) : sProp 𝕄) ⊢ idle c E.tb s := by
  unfold slotPt back idle rest
  rw [slot_rows, bigSep_sep']
  iintro ⟨HR, Hs, Ht⟩
  isplitl [Hs]; · iexact Hs
  isplitl [HR]
  · iapply (show (bigSep Finset.univ (fun t : Fin 128 => rowPt c (128 * s.val + t.val) (landed E.I E.tb b)) : sProp 𝕄)
        ⊢ bigSep Finset.univ (fun t : Fin 128 => iprop(∃ g, rowPt c (128 * s.val + t.val) g)) from BI.bigSep_mono fun t _ =>
          (show (rowPt c (128 * s.val + t.val) (landed E.I E.tb b) : sProp 𝕄) ⊢ iprop(∃ g, rowPt c (128 * s.val + t.val) g) from by
            iintro H; iexists _; iexact H))
    iexact HR
  iexact Ht

/-- All 128 copies of a block in flight. -/
def flight (c : Dev nD) (E : Env F) (s : Fin 4) (b : ℕ) : sProp 𝕄 := started c E.I E.tb s b 128

theorem win_credit (off : Fin 3 → ℕ) (inb : ∀ a, off a + S128x1x4096.size a ≤ S512x1x4096.size a) :
    (Buf7.slice (Rect.unit (s := S512x1x4096) off S128x1x4096.size inb) (fun _ => rfl)).view.dmaCredit = NN * 128 := by
  show RefSig.tileCredit S128x1x4096 .i32 = RefSig.tileCredit S1x4096 .i32 * 128
  exact (RefSig.tileCredit_cons 128 ![1, 4096] .i32).trans (Nat.mul_comm _ _)

/-- Waiting for a block's copies. -/
theorem drain (c : Dev nD) (E : Env F) (s : Fin 4) (b : ℕ) {off : Fin 3 → ℕ} {inb : ∀ a, off a + S128x1x4096.size a ≤ S512x1x4096.size a} {sem : DmaSem sig}
    {a1 a2} (hs : sem = cell s) {W : Waits sig Unit}
    {α : Type} {k : PUnit → Prog (TpuEff nD τ sig (Elt F) Λ₀ .tc) α} {Q : α → sProp 𝕄} :
    (iprop(flight c E s b ∗ owes (c : Thread nD τ) 0 W) : sProp 𝕄) ⊢ iprop((slotPt c E s.val b -∗ back c E.tb s -∗ (∃ W, owes (c : Thread nD τ) 0 W)
        -∗ wp frame (wpE (defs₀ (F := F)) Variants.none (c : Thread nD τ) none) Set.univ (k ⟨⟩) Q)
      -∗ wp frame (wpE (defs₀ (F := F)) Variants.none (c : Thread nD τ) none) Set.univ
        (.op (.waitDma2 sem (Buf7.slice (Rect.unit (s := S512x1x4096) off S128x1x4096.size inb) (fun _ => rfl))
          (Buf7.slice (Rect.unit (s := S512x1x4096) off S128x1x4096.size inb) (fun _ => rfl)) a1 a2) k) Q) := by
  subst hs
  unfold flight started batch
  rw [rangeSet_full, Ring.bigSep_rangeSet_empty (le_refl 128)]
  iintro ⟨⟨HB, -, Hk⟩, HO⟩ HK
  iapply (Transfers.wp_waitBatchAll (countersEmb (U := Pipeline.UD sig nD τ)) Variants.none (c : Thread nD τ) none () (N := NN) (J := NN * 128)
    (D := dlv c E.I E.tb s b) (u := 0) (win_credit off inb) NN_pos (Nat.zero_add _)) $$ [HB HO]
  · isplitl [HB]; · iexact HB
    iexact HO
  iintro ⟨HD, Hs, HO⟩
  ihave HD' := (show (bigSep Finset.univ (dlv c E.I E.tb s b) : sProp 𝕄) ⊢ iprop((bigSep Finset.univ fun t : Fin 128 => rowPt c (128 * s.val + t.val) (landed E.I E.tb b))
      ∗ bigSep Finset.univ fun t : Fin 128 => piecePt c E.tb (128 * s.val + t.val) (E.I.row (128 * b + t.val))) from Entails.of_eq (bigSep_sep' _ _ _)) $$ HD
  icases HD' with ⟨HR, HP⟩
  iapply HK $$ [HR] [HP Hk Hs] [HO]
  · unfold slotPt; rw [slot_rows]; iexact HR
  · unfold back
    isplitl [Hs]; · iexact Hs
    ihave HT := (show (iprop((bigSep Finset.univ fun t : Fin 128 => piecePt c E.tb (128 * s.val + t.val) (E.I.row (128 * b + t.val)))
        ∗ bigSep Finset.univ (kept c E.I E.tb s b)) : sProp 𝕄) ⊢ bigSep Finset.univ fun t : Fin 128 => tokPt c E.tb (128 * s.val + t.val) from by
      rw [← bigSep_sep']
      exact BI.bigSep_mono fun t _ => (pointsTo_split_subset (Finset.subset_univ _)).2) $$ [HP Hk]
    · isplitl [HP]; · iexact HP
      iexact Hk
    iexact HT
  · iexists _; iexact HO

/-- The slot a block uses. -/
def slotOf (b : ℕ) : Fin 4 := ⟨b % 4, Nat.mod_lt _ (by decide)⟩

/-- Block `b`'s slot: its copies in flight, or at rest past the last block. -/
def St (c : Dev nD) (E : Env F) (b : ℕ) : sProp 𝕄 := if b < 64 then flight c E (slotOf b) b else idle c E.tb (slotOf b)

/-- The ring before block `n`: the next three blocks in flight and the fourth slot at rest. -/
def RingAt (c : Dev nD) (E : Env F) (n : ℕ) : sProp 𝕄 :=
  iprop((if n = 0 then iprop(idle c E.tb 0 ∗ idle c E.tb 1 ∗ idle c E.tb 2) else iprop(St c E n ∗ St c E (n + 1) ∗ St c E (n + 2))) ∗ idle c E.tb (slotOf (n + 3)))

/-- A slot with every copy started is its block's. -/
theorem started_St (c : Dev nD) (E : Env F) (s : Fin 4) (b k : ℕ) (hk : k = 128) (hs : s = slotOf b) (hb : b < 64) :
    (started c E.I E.tb s b k : sProp 𝕄) ⊢ St c E b := by
  subst hk hs
  unfold St flight
  rw [if_pos hb]

theorem cond1_iff : ∀ i : grid0.Coords, k0_cond1 i = 1#1 ↔ (i 0).val = 0 := by decide +kernel
theorem cond2_iff : ∀ i : grid0.Coords, k0_cond2 i = 1#1 ↔ (i 0).val + 3 < 64 := by decide +kernel
theorem k0_off105_eq' : ∀ i : grid0.Coords, k0_off105 i = ![(i 0).val % 4] := by decide +kernel

universe v
/-- Binds associate. -/
theorem p_assoc {X : Type → Type v} {γ α β : Type} (y : Prog X γ) (r : γ → Prog X α) (k : α → Prog X β) :
    Prog.bind (Prog.bind y r) k = Prog.bind y fun z => Prog.bind (r z) k := Prog.bind_assoc y r k
/-- A bind on a returned value. -/
theorem p_ret {X : Type → Type v} {α β : Type} (a : α) (k : α → Prog X β) : Prog.bind (Prog.ret a) k = k a := rfl

section Body
variable (c : Dev nD) (E : Env F)
  (i : grid0.Coords) (M1 : Memref sig .tc .smem S8192 .i32) (h1 : M1.IsWhole) (M2 : Memref sig .tc .smem S25088 .f32) (h2 : M2.IsWhole)
  (M3 : Memref sig .tc .vmem S1x4096 .f32) (h3 : M3.IsWhole) (h4 : (Memref.whole main_v2).IsWhole)
  (M5 : Memref sig .tc .vmem S128x4096 .bf16) (h5 : M5.IsWhole) (M6 : Memref sig .tc .vmem S128x4096 .bf16) (h6 : M6.IsWhole)
  (h7 : (Memref.whole cc0_scratch0).IsWhole) (f1 : M1.view.ty.Contents (Elt F)) (hf1 : IsIds E.I M1 f1)
  (f2 : M2.view.ty.Contents (Elt F)) (hf2 : IsSc E M2 f2) (f3 : M3.view.ty.Contents (Elt F)) (hf3 : IsW E M3 f3)

/-- The first conditional of the body: the first three blocks' copies. -/
def first : Prog (TpuEff nD τ sig (Elt F) Λ₀ .tc) PUnit :=
  if k0_h1 : k0_cond1 i = 1#1 then do
    Scf.Loop.for k0_t1_loop (k0_t1_ok i k0_h1) ⟨⟩ (k0_t1_body i M1 h1 M2 h2 M3 h3 (Memref.whole main_v2) h4 M5 h5 M6 h6 (Memref.whole cc0_scratch0) h7 cc0_scratch1 k0_h1)
    Scf.Loop.for k0_t2_loop (k0_t2_ok i k0_h1) ⟨⟩ (k0_t2_body i M1 h1 M2 h2 M3 h3 (Memref.whole main_v2) h4 M5 h5 M6 h6 (Memref.whole cc0_scratch0) h7 cc0_scratch1 k0_h1)
    Scf.Loop.for k0_t3_loop (k0_t3_ok i k0_h1) ⟨⟩ (k0_t3_body i M1 h1 M2 h2 M3 h3 (Memref.whole main_v2) h4 M5 h5 M6 h6 (Memref.whole cc0_scratch0) h7 cc0_scratch1 k0_h1)
    pure ⟨⟩
  else do pure ⟨⟩

/-- The second conditional of the body: the copies of the block three further on. -/
def second (v37 v48 : BitVec 32) : Prog (TpuEff nD τ sig (Elt F) Λ₀ .tc) PUnit :=
  if k0_h2 : k0_cond2 i = 1#1 then do
    Scf.Loop.for k0_t4_loop (k0_t4_ok i k0_h2) ⟨⟩ (k0_t4_body i M1 h1 M2 h2 M3 h3 (Memref.whole main_v2) h4 M5 h5 M6 h6 (Memref.whole cc0_scratch0) h7 cc0_scratch1 k0_h2 v37 v48)
    pure ⟨⟩
  else do pure ⟨⟩

/-- The rest of the body: the wait, the weight, the compute loop. -/
def third (a0 v18 : BitVec 32) : Prog (TpuEff nD τ sig (Elt F) Λ₀ .tc) PUnit := do
  Prog.lift (.waitDma2 ((cc0_scratch1.slice (Rect.unit (s := S4) (k0_off105 i) S1.size (k0_off105_inb i))).squeeze S_ squeezes_S1_S_).sem
    (Buf7.slice (Rect.unit (s := S512x1x4096) (k0_off106 i) S128x1x4096.size (k0_off106_inb i)) (fun _ => rfl))
    (Buf7.slice (Rect.unit (s := S512x1x4096) (k0_off106 i) S128x1x4096.size (k0_off106_inb i)) (fun _ => rfl)) (View.wordExact_bits rfl) (View.wordExact_bits rfl))
  let v33 ← Prog.lift (.load M3 (Rect.unit (s := S1x4096) ![0, 0] S1x4096.size inb_S1x4096_S1x4096_0_0).toLoadRect (View.loadsAt_vmem h_S1x4096))
  Scf.Loop.for k0_t5_loop k0_t5_ok ⟨⟩ (k0_t5_body i M1 h1 M2 h2 M3 h3 (Memref.whole main_v2) h4 M5 h5 M6 h6 (Memref.whole cc0_scratch0) h7 cc0_scratch1 a0 v18 v33)
  pure ⟨⟩

/-- The remainder the kernel computes for the block at word `v`, with the sign corrected. -/
def remW (v : BitVec 32) : BitVec 32 :=
  let v8 : BitVec 1 := Scalar.cmpi .eq 4#32 0#32
  let v9 : BitVec 32 := Scalar.select v8 1#32 4#32
  let v10 : BitVec 32 := Scalar.remsi v v9
  let v11 : BitVec 1 := Scalar.cmpi .ne v10 0#32
  let v12 : BitVec 1 := Scalar.cmpi .slt v10 0#32
  let v13 : BitVec 1 := Scalar.cmpi .slt v9 0#32
  let v14 : BitVec 1 := Scalar.xori v12 v13
  let v15 : BitVec 1 := Scalar.andi v14 v11
  let v16 : BitVec 32 := Scalar.addi v10 v9
  Scalar.select v15 v16 v10

/-- The body is its three parts in order. -/
theorem body_parts : cc0_emb_rmsnorm (F := F) i M1 h1 M2 h2 M3 h3 (Memref.whole main_v2) h4 M5 h5 M6 h6 (Memref.whole cc0_scratch0) h7 cc0_scratch1
    = (first i M1 h1 M2 h2 M3 h3 h4 M5 h5 M6 h6 h7).bind fun _ =>
      (second i M1 h1 M2 h2 M3 h3 h4 M5 h5 M6 h6 h7 (Scalar.subi (Scalar.addi (BitVec.ofNat 32 (i 0).val) 4#32) 1#32)
        (Scalar.muli (remW (Scalar.subi (Scalar.addi (BitVec.ofNat 32 (i 0).val) 4#32) 1#32)) 128#32)).bind fun _ =>
      third i M1 h1 M2 h2 M3 h3 h4 M5 h5 M6 h6 h7 (BitVec.ofNat 32 (i 0).val) (Scalar.muli (remW (BitVec.ofNat 32 (i 0).val)) 128#32) := by
  rw [cc0_emb_rmsnorm_eq_skeleton]
  unfold cc0_emb_rmsnorm_skel
  rw [k0_part24_eq_skeleton]
  unfold k0_part24_skel first second
  by_cases hc1 : k0_cond1 i = 1#1 <;> by_cases hc2 : k0_cond2 i = 1#1 <;> simp only [hc1, hc2, ↓reduceDIte] <;>
    simp only [Bind.bind, Pure.pure, p_assoc, p_ret] <;> rfl

include hf1 in
theorem first_step (n : ℕ) (hn : (i 0).val = n) :
    (iprop((if n = 0 then iprop(idle c E.tb 0 ∗ idle c E.tb 1 ∗ idle c E.tb 2) else iprop(St c E n ∗ St c E (n + 1) ∗ St c E (n + 2))) ∗ held c M1 f1) : sProp 𝕄)
      ⊢ wp frame (wpE (defs₀ (F := F)) Variants.none (c : Thread nD τ) none) Set.univ (first i M1 h1 M2 h2 M3 h3 h4 M5 h5 M6 h6 h7)
        fun _ => iprop(St c E n ∗ St c E (n + 1) ∗ St c E (n + 2) ∗ held c M1 f1) := by
  unfold first
  by_cases h0 : n = 0
  · have hc := (cond1_iff i).mpr (hn.trans h0)
    rw [dif_pos hc, if_pos h0]
    subst h0
    iintro ⟨⟨H0, H1, H2⟩, HM⟩
    imod (start c E.I E.tb 0 0) $$ H0 with H0
    imod (start c E.I E.tb 1 1) $$ H1 with H1
    imod (start c E.I E.tb 2 2) $$ H2 with H2
    sl_for (fun k acc => issuing c E.I E.tb M1 f1 0 0 k) $$ [H0 HM]
    · intro k acc; exact t1_step c E.I E.tb i M1 h1 M2 h2 M3 h3 h4 M5 h5 M6 h6 h7 f1 hf1 hc k acc
    · unfold issuing
      isplitl [H0]; · iexact H0
      iexact HM
    iintro %acc HL
    unfold issuing
    icases HL with ⟨H0, HM⟩
    sl_for (fun k acc => issuing c E.I E.tb M1 f1 1 1 k) $$ [H1 HM]
    · intro k acc; exact t2_step c E.I E.tb i M1 h1 M2 h2 M3 h3 h4 M5 h5 M6 h6 h7 f1 hf1 hc k acc
    · unfold issuing
      isplitl [H1]; · iexact H1
      iexact HM
    iintro %acc HL
    unfold issuing
    icases HL with ⟨H1, HM⟩
    sl_for (fun k acc => issuing c E.I E.tb M1 f1 2 2 k) $$ [H2 HM]
    · intro k acc; exact t3_step c E.I E.tb i M1 h1 M2 h2 M3 h3 h4 M5 h5 M6 h6 h7 f1 hf1 hc k acc
    · unfold issuing
      isplitl [H2]; · iexact H2
      iexact HM
    iintro %acc HL
    unfold issuing
    icases HL with ⟨H2, HM⟩
    sl_step
    isplitl [H0]; · iapply (started_St c E 0 0 _ rfl rfl (by decide)); iexact H0
    isplitl [H1]; · iapply (started_St c E 1 1 _ rfl rfl (by decide)); iexact H1
    isplitl [H2]; · iapply (started_St c E 2 2 _ rfl rfl (by decide)); iexact H2
    iexact HM
  · have hc : ¬ k0_cond1 i = 1#1 := fun h => h0 (hn.symm.trans ((cond1_iff i).mp h))
    rw [dif_neg hc, if_neg h0]
    iintro ⟨⟨H0, H1, H2⟩, HM⟩
    sl_step
    isplitl [H0]; · iexact H0
    isplitl [H1]; · iexact H1
    isplitl [H2]; · iexact H2
    iexact HM

include hf1 in
theorem second_step (n : ℕ) (hn : (i 0).val = n) (v37 v48 : BitVec 32) :
    (iprop(idle c E.tb (slotOf (n + 3)) ∗ held c M1 f1) : sProp 𝕄)
      ⊢ wp frame (wpE (defs₀ (F := F)) Variants.none (c : Thread nD τ) none) Set.univ (second i M1 h1 M2 h2 M3 h3 h4 M5 h5 M6 h6 h7 v37 v48)
        fun _ => iprop(St c E (n + 3) ∗ held c M1 f1) := by
  subst hn
  unfold second
  by_cases hl : (i 0).val + 3 < 64
  · have hc := (cond2_iff i).mpr hl
    rw [dif_pos hc]
    iintro ⟨H0, HM⟩
    imod (start c E.I E.tb (slotOf ((i 0).val + 3)) ((i 0).val + 3)) $$ H0 with H0
    sl_for (fun k acc => issuing c E.I E.tb M1 f1 (slot3 i) ((i 0).val + 3) k) $$ [H0 HM]
    · intro k acc; exact t4_step c E.I E.tb i M1 h1 M2 h2 M3 h3 h4 M5 h5 M6 h6 h7 f1 hf1 hc v37 v48 k acc
    · unfold issuing
      isplitl [H0]; · iexact H0
      iexact HM
    iintro %acc HL
    unfold issuing
    icases HL with ⟨H0, HM⟩
    sl_step
    isplitl [H0]; · iapply (started_St c E (slot3 i) _ _ rfl rfl hl); iexact H0
    iexact HM
  · have hc : ¬ k0_cond2 i = 1#1 := fun h => hl ((cond2_iff i).mp h)
    rw [dif_neg hc]
    unfold St
    rw [if_neg hl]
    iintro ⟨H0, HM⟩
    sl_step
    isplitl [H0]; · iexact H0
    iexact HM

include hf1 hf2 hf3 in
theorem third_step (n : ℕ) (hn : (i 0).val = n) (a0 v18 : BitVec 32) {W : Waits sig Unit} :
    (iprop(St c E n ∗ owes (c : Thread nD τ) 0 W ∗ held c M1 f1 ∗ held c M2 f2 ∗ held c M3 f3
        ∗ outAt c M5 (pairBlk E.outPair n) 0 ∗ outAt c M6 (pairBlk E.embPair n) 0) : sProp 𝕄)
      ⊢ wp frame (wpE (defs₀ (F := F)) Variants.none (c : Thread nD τ) none) Set.univ (third i M1 h1 M2 h2 M3 h3 h4 M5 h5 M6 h6 h7 a0 v18)
        fun _ => iprop(idle c E.tb (slotOf n) ∗ (∃ W, owes (c : Thread nD τ) 0 W) ∗ held c M1 f1 ∗ held c M2 f2 ∗ held c M3 f3
          ∗ outAt c M5 (pairBlk E.outPair n) 128 ∗ outAt c M6 (pairBlk E.embPair n) 128) := by
  have hlt : n < 64 := hn ▸ (i 0).isLt
  subst hn
  unfold St third
  rw [if_pos hlt]
  iintro ⟨HF, HW, HM, HC, H3, HO, HE⟩
  iapply (drain c E (slotOf (i 0).val) (i 0).val (sem_eq (k0_off105_eq' i))) $$ [HF HW]
  · isplitl [HF]; · iexact HF
    iexact HW
  iintro HR HB HW
  iapply (ret_bind c)
  iapply (ld_w c E M3 f3 hf3) $$ H3
  iintro H3
  iapply (ret_bind c)
  sl_for (fun k acc => computing c E i M1 M2 M5 M6 f1 f2 k) $$ [HR HM HC HO HE]
  · intro k acc; exact t5_step c E i M1 h1 M2 h2 M3 h3 h4 M5 h5 M6 h6 h7 f1 hf1 f2 hf2 a0 v18 k acc
  · unfold computing
    isplitl [HR]; · iexact HR
    isplitl [HM]; · iexact HM
    isplitl [HC]; · iexact HC
    isplitl [HO]; · iexact HO
    iexact HE
  iintro %acc HL
  unfold computing
  icases HL with ⟨HR, HM, HC, HO, HE⟩
  sl_step
  isplitl [HR HB]
  · iapply (slot_rest c E (slotOf (i 0).val) (i 0).val)
    isplitl [HR]; · iexact HR
    iexact HB
  isplitl [HW]; · iexact HW
  isplitl [HM]; · iexact HM
  isplitl [HC]; · iexact HC
  isplitl [H3]; · iexact H3
  isplitl [HO]; · iexact HO
  iexact HE

include hf1 hf2 hf3 in
/-- The body at block `n`: the ring moves on one block, both output windows hold the block. -/
theorem body_step (n : ℕ) (hn : (i 0).val = n) {W : Waits sig Unit} :
    (iprop(RingAt c E n ∗ owes (c : Thread nD τ) 0 W ∗ held c M1 f1 ∗ held c M2 f2 ∗ held c M3 f3
        ∗ outAt c M5 (pairBlk E.outPair n) 0 ∗ outAt c M6 (pairBlk E.embPair n) 0) : sProp 𝕄)
      ⊢ wp frame (wpE (defs₀ (F := F)) Variants.none (c : Thread nD τ) none) Set.univ
        (cc0_emb_rmsnorm (F := F) i M1 h1 M2 h2 M3 h3 (Memref.whole main_v2) h4 M5 h5 M6 h6 (Memref.whole cc0_scratch0) h7 cc0_scratch1)
        fun _ => iprop(RingAt c E (n + 1) ∗ (∃ W, owes (c : Thread nD τ) 0 W) ∗ held c M1 f1 ∗ held c M2 f2 ∗ held c M3 f3
          ∗ outAt c M5 (pairBlk E.outPair n) 128 ∗ outAt c M6 (pairBlk E.embPair n) 128) := by
  rw [body_parts]
  show _ ⊢ wp frame (wpE (defs₀ (F := F)) Variants.none (c : Thread nD τ) none) Set.univ (first i M1 h1 M2 h2 M3 h3 h4 M5 h5 M6 h6 h7 >>= fun _ =>
    second i M1 h1 M2 h2 M3 h3 h4 M5 h5 M6 h6 h7 _ _ >>= fun _ => third i M1 h1 M2 h2 M3 h3 h4 M5 h5 M6 h6 h7 _ _) _
  simp only [wp_bind]
  have hs : slotOf (n + 1 + 3) = slotOf n := Fin.ext (by show (n + 1 + 3) % 4 = n % 4; omega)
  unfold RingAt
  rw [if_neg (Nat.succ_ne_zero n), hs]
  iintro ⟨⟨HA, HI⟩, HW, H1, H2, H3, H5, H6⟩
  ihave HF := (first_step c E i M1 h1 M2 h2 M3 h3 h4 M5 h5 M6 h6 h7 f1 hf1 n hn) $$ [HA H1]
  · isplitl [HA]; · iexact HA
    iexact H1
  iapply (wp_wand frame (wpE (defs₀ (F := F)) Variants.none (c : Thread nD τ) none) Set.univ) $$ HF
  iintro %_ ⟨S0, S1, S2, H1⟩
  ihave HF := (second_step c E i M1 h1 M2 h2 M3 h3 h4 M5 h5 M6 h6 h7 f1 hf1 n hn _ _) $$ [HI H1]
  · isplitl [HI]; · iexact HI
    iexact H1
  iapply (wp_wand frame (wpE (defs₀ (F := F)) Variants.none (c : Thread nD τ) none) Set.univ) $$ HF
  iintro %_ ⟨S3, H1⟩
  ihave HF := (third_step c E i M1 h1 M2 h2 M3 h3 h4 M5 h5 M6 h6 h7 f1 hf1 f2 hf2 f3 hf3 n hn _ _ (W := W)) $$ [S0 HW H1 H2 H3 H5 H6]
  · isplitl [S0]; · iexact S0
    isplitl [HW]; · iexact HW
    isplitl [H1]; · iexact H1
    isplitl [H2]; · iexact H2
    isplitl [H3]; · iexact H3
    isplitl [H5]; · iexact H5
    iexact H6
  iapply (wp_wand frame (wpE (defs₀ (F := F)) Variants.none (c : Thread nD τ) none) Set.univ) $$ HF
  iintro %_ ⟨S0, HR⟩
  isplitl [S0 S1 S2 S3]
  · isplitl [S1 S2 S3]
    · isplitl [S1]; · iexact S1
      isplitl [S2]; · iexact S2
      iexact S3
    iexact S0
  iexact HR

end Body

end Cert.KernelIdeal.Rows
-- ==== Proof.KernelIdeal.Run.lean ====
module

public import proofs.«01_k».proof.Proof.KernelIdeal.Body
public import Idealize.ShloMosaic.Lib.PageRing.Basic
public import Idealize.ShloMosaic.Lib.Pipeline.Frame

/-! The kernel's run: from any memory whose ids are rows of the vocabulary, both result arrays end at the
    blocks the body computes, the arguments are unchanged and every counter is at zero. -/

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring at the two ends of the run -/

theorem fin_range (n : ℕ) (A : ℕ → sProp 𝕄) : bigSep (Finset.univ : Finset (Fin n)) (fun i => A i.val) = bigSep (Finset.range n) A := by
  rw [← Ring.rangeSet_univ (NB := n)]
  exact Ring.bigSep_rangeSet_eq_range (NB := n) (lo := 0) (hi := n) (le_refl n) A fun k h => by simp only [Nat.zero_add]

/-- 512 conjuncts as four groups of 128. -/
theorem regroup (A : ℕ → sProp 𝕄) :
    bigSep (Finset.range 512) A = bigSep Finset.univ fun s : Fin 4 => bigSep Finset.univ fun t : Fin 128 => A (128 * s.val + t.val) := by
  rw [show (512 : ℕ) = 4 * 128 from rfl, PageRing.bigSep_range_mul A 128 4, ← fin_range 4]
  exact BI.bigSep_congr fun s _ => (fin_range 128 (fun j => A (128 * s.val + j))).symm

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four slots at rest: the counters at zero, the rows, the read tokens. -/
theorem quads (c : Dev nD) (tb : S6272x4096.Idx → Elt F .i32) :
    (bigSep Finset.univ (idle c tb) : sProp 𝕄) = iprop(bigSep Finset.univ (fun s : Fin 4 => semVal ((c : Thread nD τ), SemLoc.dma (cell s)) 0)
      ∗ bigSep (Finset.range 512) (fun r => iprop(∃ g, rowPt c r g)) ∗ bigSep (Finset.range 512) (tokPt c tb)) := by
  rw [regroup, regroup, ← bigSep_sep', ← bigSep_sep']
  refine BI.bigSep_congr fun s _ => ?_
  unfold idle rest
  rw [bigSep_sep']

theorem row_disj : ∀ a b : Fin 512, a ≠ b → Disjoint (bset a.val) (bset b.val) := by
  intro a b hab
  rw [Finset.disjoint_left]
  intro y h1 h2
  rw [mem_bset] at h1 h2
  exact hab (Fin.ext (by omega))

theorem row_cover : Finset.univ.biUnion (fun t : Fin 512 => bset t.val) = Finset.univ := by
  ext y
  rw [Finset.mem_biUnion]
  exact ⟨fun _ => Finset.mem_univ _, fun _ => ⟨y 0, Finset.mem_univ _, mem_bset.mpr rfl⟩⟩

/-- The ring's buffer, by rows. -/
theorem rows_in (c : Dev nD) (f : S512x1x4096.Idx → Elt F .i32) :
    (Buf7.view.loc (c : Thread nD τ) ↦{fullShare} f : sProp 𝕄) ⊢ bigSep (Finset.range 512) (fun r => iprop(∃ g, rowPt c r g)) := by
  rw [← fin_range 512, Ring.pointsTo_blocks (ℓ := Buf7.view.loc (c : Thread nD τ)) (fun t : Fin 512 => bset t.val) row_disj row_cover f]
  exact BI.bigSep_mono fun t _ => (show (rowPt c t.val f : sProp 𝕄) ⊢ iprop(∃ g, rowPt c t.val g) from by iintro H; iexists _; iexact H)

theorem rows_out (c : Dev nD) (f₀ : S512x1x4096.Idx → Elt F .i32) :
    bigSep (Finset.range 512) (fun r => iprop(∃ g, rowPt c r g)) ⊢ (iprop(∃ f : S512x1x4096.Idx → Elt F .i32, Buf7.view.loc (c : Thread nD τ) ↦{fullShare} f) : sProp 𝕄) := by
  rw [← fin_range 512]
  exact Ring.pointsTo_blocks_join_exists (ℓ := Buf7.view.loc (c : Thread nD τ)) (fun t : Fin 512 => bset t.val) row_disj row_cover f₀

/-- What stays of the table beside the 512 read tokens. -/
def tabDrop (c : Dev nD) (tb : S6272x4096.Idx → Elt F .i32) : sProp 𝕄 := Tab.view.loc (c : Thread nD τ) ↦{Transfers.shareDrop fullShare 512} tb

theorem toks (c : Dev nD) (tb : S6272x4096.Idx → Elt F .i32) :
    (Tab.view.loc (c : Thread nD τ) ↦{fullShare} tb : sProp 𝕄) ⊣⊢ iprop(tabDrop c tb ∗ bigSep (Finset.range 512) (tokPt c tb)) :=
  Transfers.pointsTo_toks_range fullShare 512

theorem ring_zero (c : Dev nD) (E : Env F) : (RingAt c E 0 : sProp 𝕄) ⊣⊢ bigSep Finset.univ (idle c E.tb) := by
  unfold RingAt
  rw [fin4, if_pos rfl, show slotOf (0 + 3) = 3 from rfl]
  constructor
  · iintro ⟨⟨H0, H1, H2⟩, H3⟩
    isplitl [H0]; · iexact H0
    isplitl [H1]; · iexact H1
    isplitl [H2]; · iexact H2
    iexact H3
  · iintro ⟨H0, H1, H2, H3⟩
    isplitl [H0 H1 H2]
    · isplitl [H0]; · iexact H0
      isplitl [H1]; · iexact H1
      iexact H2
    iexact H3

theorem ring_last (c : Dev nD) (E : Env F) : (RingAt c E 64 : sProp 𝕄) ⊢ bigSep Finset.univ (idle c E.tb) := by
  unfold RingAt St
  rw [fin4, if_neg (by decide), if_neg (by decide), if_neg (by decide), if_neg (by decide)]
  rw [show slotOf 64 = 0 from rfl, show slotOf (64 + 1) = 1 from rfl, show slotOf (64 + 2) = 2 from rfl, show slotOf (64 + 3) = 3 from rfl]
  iintro ⟨⟨H0, H1, H2⟩, H3⟩
  isplitl [H0]; · iexact H0
  isplitl [H1]; · iexact H1
  isplitl [H2]; · iexact H2
  iexact H3

/-! ## @main up to the region -/

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The pipeline's data -/

/-- What core `c`'s kernel reads, when the region is entered. -/
def envAt (I : Dev nD → Ids) (c : Dev nD) : Env F := ⟨I c, V m c main_v2, V m c main_arg2, V m c main_v5⟩

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

variable (I : Dev nD → Ids)

/-- The kernel's four cells. -/
abbrev osem0 : Fin 4 → SemLoc sig := fun s => SemLoc.dma (cell s)
theorem ownSemFacts0 : Pipeline.OwnSemFacts spec0 osem0 := by decide
/-- The one buffer the body's transfers read. -/
def H0 : Finset (Ref sig .tc) := {main_v2}
theorem H0_sub : H0 ⊆ Pipeline.restRefs sig spec0 := by decide

/-- The proof data: the input windows keep their blocks, the output windows get the block computed, and between
    points the ring has its next three blocks under way. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (envAt m I c).outBlk t.val
    | ⟨4, _⟩ => (envAt m I c).embBlk t.val
  Φ t := iprop(RingAt c (envAt m I c) t.val ∗ (∃ r, prngReg c r) ∗ tabDrop c (V m c main_v2))
  q _ := fullShare
  owed _ := 0

theorem A_eq (c : Dev nD) (w : Fin cfg0.W) : (dats m I 0 c).A w = V m c (Pipeline.arrRef spec0 w) := by
  dsimp only [dats]
theorem after0_0 (c : Dev nD) (t : Fin cfg0.N) : (dats m I 0 c).after 0 t = iblk m c 0 t := by dsimp only [dats]
theorem after0_1 (c : Dev nD) (t : Fin cfg0.N) : (dats m I 0 c).after 1 t = iblk m c 1 t := by dsimp only [dats]
theorem after0_2 (c : Dev nD) (t : Fin cfg0.N) : (dats m I 0 c).after 2 t = iblk m c 2 t := by dsimp only [dats]
theorem after0_3 (c : Dev nD) (t : Fin cfg0.N) : (dats m I 0 c).after 3 t = (envAt m I c).outBlk t.val := by dsimp only [dats]
theorem after0_4 (c : Dev nD) (t : Fin cfg0.N) : (dats m I 0 c).after 4 t = (envAt m I c).embBlk t.val := by dsimp only [dats]

theorem before0_0 (c : Dev nD) (t : Fin cfg0.N) (d) : (dats m I 0 c).before 0 t d = iblk m c 0 t :=
  ((dats m I 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m I 0 c).before 1 t d = iblk m c 1 t :=
  ((dats m I 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m I 0 c).before 2 t d = iblk m c 2 t :=
  ((dats m I 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The offset into an array of a block at index zero. -/
theorem at_zero (k n y : ℕ) (hk : k = 0) : k * n + 1 * y = y := by subst hk; omega

theorem iblk0 (c : Dev nD) (t : Fin cfg0.N) (y : S8192.Idx) : iblk m c 0 t y = V m c main_v3 y := by
  unfold iblk
  generalize V m c (Pipeline.arrRef spec0 0) = f
  rw [View.read_apply, cast_eq]
  refine congrArg f (funext fun a => ?_)
  match a with
  | ⟨0, _⟩ => exact Fin.ext (at_zero (cc0_transform_0 (grid0.coords t) 0) 8192 (y 0).val rfl)
theorem iblk1 (c : Dev nD) (t : Fin cfg0.N) (y : S25088.Idx) : iblk m c 1 t y = V m c main_arg2 y := by
  unfold iblk
  generalize V m c (Pipeline.arrRef spec0 1) = f
  rw [View.read_apply, cast_eq]
  refine congrArg f (funext fun a => ?_)
  match a with
  | ⟨0, _⟩ => exact Fin.ext (at_zero (cc0_transform_1 (grid0.coords t) 0) 25088 (y 0).val rfl)
theorem iblk2 (c : Dev nD) (t : Fin cfg0.N) (y : S1x4096.Idx) : iblk m c 2 t y = V m c main_v5 y := by
  unfold iblk
  generalize V m c (Pipeline.arrRef spec0 2) = f
  rw [View.read_apply, cast_eq]
  refine congrArg f (funext fun a => ?_)
  match a with
  | ⟨0, _⟩ => exact Fin.ext (at_zero (cc0_transform_2 (grid0.coords t) 0) 1 (y 0).val rfl)
  | ⟨1, _⟩ => exact Fin.ext (at_zero (cc0_transform_2 (grid0.coords t) 1) 4096 (y 1).val rfl)

theorem coord_val : ∀ t : Fin cfg0.N, (grid0.coords t 0).val = t.val := by decide +kernel

abbrev bodyPre (c : Dev nD) (t : Fin cfg0.N) : sProp 𝕄 :=
  iprop((dats m I 0 c).Φ t.castSucc ∗ (dats m I 0 c).owesAt () t.castSucc
    ∗ (∃ d, owns (c : Thread nD τ) (st0_0 t) fullShare ((dats m I 0 c).before 0 t d))
    ∗ (∃ d, owns (c : Thread nD τ) (st0_1 t) fullShare ((dats m I 0 c).before 1 t d))
    ∗ (∃ d, owns (c : Thread nD τ) (st0_2 t) fullShare ((dats m I 0 c).before 2 t d))
    ∗ (∃ d, owns (c : Thread nD τ) (st0_3 t) fullShare ((dats m I 0 c).before 3 t d))
    ∗ (∃ d, owns (c : Thread nD τ) (st0_4 t) fullShare ((dats m I 0 c).before 4 t d)))
abbrev bodyPost (c : Dev nD) (t : Fin cfg0.N) : sProp 𝕄 :=
  iprop((dats m I 0 c).Φ t.succ ∗ (dats m I 0 c).owesAt () t.succ
    ∗ owns (c : Thread nD τ) (st0_0 t) fullShare ((dats m I 0 c).after 0 t)
    ∗ owns (c : Thread nD τ) (st0_1 t) fullShare ((dats m I 0 c).after 1 t)
    ∗ owns (c : Thread nD τ) (st0_2 t) fullShare ((dats m I 0 c).after 2 t)
    ∗ owns (c : Thread nD τ) (st0_3 t) fullShare ((dats m I 0 c).after 3 t)
    ∗ owns (c : Thread nD τ) (st0_4 t) fullShare ((dats m I 0 c).after 4 t))

/-- A finished output window. -/
theorem out_done (c : Dev nD) (M : Memref sig .tc .vmem S128x4096 .bf16) (P : S128x4096.Idx → Elt F .bf16) :
    (outAt c M P 128 : sProp 𝕄) ⊢ owns (c : Thread nD τ) M fullShare P := by
  unfold outAt owns held
  iintro ⟨%g, %h, H⟩
  iexists g
  isplitr
  · ipureintro; exact funext fun y => h y (y 0).isLt
  iexact H
/-- An output window before anything is written. -/
theorem out_new (c : Dev nD) (M : Memref sig .tc .vmem S128x4096 .bf16) (P : S128x4096.Idx → Elt F .bf16) (f : M.view.ty.Contents (Elt F)) :
    (held c M f : sProp 𝕄) ⊢ outAt c M P 0 := by
  unfold outAt
  iintro H
  iexists f
  isplitr
  · ipureintro; exact fun y h => absurd h (Nat.not_lt_zero _)
  iexact H

variable (hI : ∀ c (y : S8192.Idx), V m c main_v3 y = (I c).tok (y 0).val)

include hI in
theorem sound_body (c : Dev nD) (t : Fin cfg0.N) :
    bodyPre m I c t ⊢ wp frame (wpE (defs₀ (F := F)) Variants.none c none) Set.univ (bodyAt0 t) (fun _ => bodyPost m I c t) := by
  unfold bodyPre bodyPost bodyAt0
  rw [show (dats m I 0 c).Φ t.castSucc = iprop(RingAt c (envAt m I c) t.val ∗ (∃ r, prngReg c r) ∗ tabDrop c (V m c main_v2)) from rfl,
    show (dats m I 0 c).Φ t.succ = iprop(RingAt c (envAt m I c) (t.val + 1) ∗ (∃ r, prngReg c r) ∗ tabDrop c (V m c main_v2)) from rfl]
  simp only [before0_0, before0_1, before0_2]
  rw [after0_0, after0_1, after0_2, after0_3, after0_4]
  unfold Dat.owesAt Pipeline.owesWithin
  rw [show (dats m I 0 c).owed t.castSucc = 0 from rfl, show (dats m I 0 c).owed t.succ = 0 from rfl]
  conv_lhs => unfold owns
  iintro ⟨⟨HR, Hg, HT⟩, ⟨%W, -, HW⟩, ⟨%d0, %f0, %e0, H0⟩, ⟨%d1, %f1, %e1, H1⟩, ⟨%d2, %f2, %e2, H2⟩, ⟨%d3, %f3, -, H3⟩, ⟨%d4, %f4, -, H4⟩⟩
  have hf0 : IsIds (envAt m I c).I (st0_0 t) f0 := fun y => (congrFun e0 y).trans ((iblk0 m c t y).trans (hI c y))
  have hf1 : IsSc (envAt m I c) (st0_1 t) f1 := fun y => (congrFun e1 y).trans (iblk1 m c t y)
  have hf2 : IsW (envAt m I c) (st0_2 t) f2 := fun y => (congrFun e2 y).trans (iblk2 m c t y)
  ihave HB := (body_step c (envAt m I c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.isWhole_whole _) (st0_3 t) (hstage0_3 ((cfg0.slots t 3).cast nbuf0_3))
    (st0_4 t) (hstage0_4 ((cfg0.slots t 4).cast nbuf0_4)) (Memref.isWhole_whole _) f0 hf0 f1 hf1 f2 hf2 t.val (coord_val t) (W := W)) $$ [HR HW H0 H1 H2 H3 H4]
  · isplitl [HR]; · iexact HR
    isplitl [HW]; · iexact HW
    isplitl [H0]; · unfold held; iexact H0
    isplitl [H1]; · unfold held; iexact H1
    isplitl [H2]; · unfold held; iexact H2
    isplitl [H3]; · iapply (out_new c (st0_3 t) _ f3); unfold held; iexact H3
    iapply (out_new c (st0_4 t) _ f4); unfold held; iexact H4
  iapply (wp_wand frame (wpE (defs₀ (F := F)) Variants.none (c : Thread nD τ) none) Set.univ) $$ HB
  iintro %_ ⟨HR, ⟨%W', HW⟩, H0, H1, H2, H3, H4⟩
  isplitl [HR Hg HT]
  · isplitl [HR]; · iexact HR
    isplitl [Hg]; · iexact Hg
    iexact HT
  isplitl [HW]
  · iexists W'; isplitr; · ipureintro; exact fun _ _ => Or.inl trivial
    iexact HW
  isplitl [H0]
  · unfold owns held; iexists f0; isplitr; · ipureintro; exact e0
    iexact H0
  isplitl [H1]
  · unfold owns held; iexists f1; isplitr; · ipureintro; exact e1
    iexact H1
  isplitl [H2]
  · unfold owns held; iexists f2; isplitr; · ipureintro; exact e2
    iexact H2
  isplitl [H3]
  · iapply (out_done c (st0_3 t)); iexact H3
  · iapply (out_done c (st0_4 t)); iexact H4

theorem defs₀_row (t : Fin cfg0.N) :
    defs₀ (F := F) .tc cfg0.body (cfg0.bodyArgs t (cfg0.slots t)) = bodyAt0 t := by
  unfold defs₀; rw [Defs.onTc_tc]

include hI in
theorem body_obligation (c : Dev nD) : BodyObligation (dats (F := F) m I 0 c) (defs₀ (F := F)) Variants.none () Set.univ := fun t => by
  rw [bigSep_W0, bigSep_W0, defs₀_row]
  exact triple_restated (sound_body m I hI c t) rfl .rfl fun _ => .rfl

theorem phi_eq (c : Dev nD) : (Pipeline.ΦD osem0 spec0 H0 (V m) c : sProp 𝕄)
    = iprop((∃ f : S512x1x4096.Idx → Elt F .i32, Buf7.view.loc (c : Thread nD τ) ↦{fullShare} f) ∗ (∃ r, prngReg c r)
      ∗ (bigSep Finset.univ (fun s : Fin 4 => semVal ((c : Thread nD τ), SemLoc.dma (cell s)) 0)) ∗ (Tab.view.loc (c : Thread nD τ) ↦{fullShare} (V m c main_v2))) := by
  rw [Pipeline.ΦD_eq, scopedRest0_eq, BI.bigSep_eq_bigSepL_of_eq (S := H0) [main_v2] (by decide) (by decide)]
  rfl

theorem hin (c : Dev nD) : (Pipeline.ΦD osem0 spec0 H0 (V m) c : sProp 𝕄) ⊢ (dats m I 0 c).Φ 0 := by
  rw [phi_eq]
  show _ ⊢ iprop(RingAt c (envAt m I c) 0 ∗ (∃ r, prngReg c r) ∗ tabDrop c (V m c main_v2))
  iintro ⟨⟨%f, HF⟩, Hg, HS, HT⟩
  ihave HT := (toks c (V m c main_v2)).1 $$ HT
  icases HT with ⟨HD, HT⟩
  isplitl [HF HS HT]
  · iapply (ring_zero c (envAt m I c)).2
    rw [quads]
    isplitl [HS]; · iexact HS
    isplitl [HF]; · iapply (rows_in c f); iexact HF
    iexact HT
  isplitl [Hg]; · iexact Hg
  iexact HD

theorem hout (c : Dev nD) : (dats m I 0 c).Φ (Fin.last cfg0.N) ⊢ (Pipeline.ΦD osem0 spec0 H0 (V m) c : sProp 𝕄) := by
  rw [phi_eq]
  show iprop(RingAt c (envAt m I c) 64 ∗ (∃ r, prngReg c r) ∗ tabDrop c (V m c main_v2)) ⊢ _
  iintro ⟨HR, Hg, HD⟩
  ihave HR := (ring_last c (envAt m I c)) $$ HR
  ihave HR := (Entails.of_eq (quads c (envAt m I c).tb)) $$ HR
  icases HR with ⟨HS, HF, HT⟩
  isplitl [HF]
  · iapply (rows_out c (landed (I c) (V m c main_v2) 0)); iexact HF
  isplitl [Hg]; · iexact Hg
  isplitl [HS]; · iexact HS
  iapply (toks c (V m c main_v2)).2
  isplitl [HD]; · iexact HD
  iexact HT

include hI in
set_option backward.isDefEq.respectTransparency.types false in
/-- The run of @main: every array at the pipeline's contents, every counter at zero. -/
theorem run_main : θ_run defs (onTc (τ := τ) (main (F := F))) (s₀ m ρ) (fun r => Pipeline.FramePost cfgs (dats m I) 0 (V m) r ∧ r.2.sem = fun _ => 0) :=
  Pipeline.θ_run_frame_dma (Q' := _) cfgs (dats m I) (0 : Fin 1) launch0 osem0 defs₀ Variants.none ownSemFacts0 H0 H0_sub m ρ main
    (hbody := fun c => (body_obligation m I hI c).loose) (hshare := fun c => (dats m I 0 c).share_full fun _ => rfl)
    (howed := fun _ _ => rfl) (V := V m) (hmain := hmain m Variants.none) (hA := A_eq m I)
    (hin := hin m I) (hout := hout m I)

include hI in
/-- The run of @main: the arguments unchanged, the results at the pipeline's contents, every counter at zero. -/
theorem run_args : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v6_0) = (dats m I 0 c).arrAt 3 cfg0.N
      ∧ r.2.mem ((c.tc : Thread nD τ).loc main_v6_1) = (dats m I 0 c).arrAt 4 cfg0.N) ∧ r.2.sem = fun _ => 0) :=
  (θ_run defs _ _).mono (fun _ h => ⟨fun c => ⟨⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m I 0 c).arrAt_in 1 rfl _).trans ((A_eq m I c 1).trans (V_main_arg2 m c))),
      ((h.1 c).2 main_arg3 (Pipeline.mem_restRefs_of main_arg3 (by decide) (by decide))).trans (V_main_arg3 m c)⟩,
      (h.1 c).1 3, (h.1 c).1 4⟩, h.2⟩) (run_main m ρ I hI)

end Cert.KernelIdeal.Rows
-- ==== Proof.KernelIdeal.Launch.lean ====
module

public import proofs.«01_k».proof.Proof.KernelIdeal.Run
public import proofs.«01_k».proof.Proof.Vocab
public import Idealize.ShloMosaic.Lib.StableHlo.Run

/-! The ids the kernel's run takes, from the launch memory. -/

@[expose] public section

set_option maxRecDepth 16384

noncomputable section

namespace Cert.KernelIdeal.Rows

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The ids as the region finds them: the launch's ids, flattened. -/
theorem V_main_v3 (c : Dev nD) : V m c main_v3 = shapeCast S8192 (m ((c : Thread nD τ).loc main_arg0)) shapeCasts_S1x8192_S8192 := by
  unfold V hostOps0
  after_results <;> rfl

/-- The ids of a launch memory whose ids are rows of the vocabulary. -/
def idsAt (h : ∀ c : Dev nD, ∀ y : S1x8192.Idx, ((m ((c : Thread nD τ).loc main_arg0) : IVec S1x8192 32) y).toNat < 25088) (c : Dev nD) : Ids :=
  ⟨Vocab.tokAt (m ((c : Thread nD τ).loc main_arg0)), Vocab.tokAt_lt _ (h c)⟩

theorem idsAt_spec (h : ∀ c : Dev nD, ∀ y : S1x8192.Idx, ((m ((c : Thread nD τ).loc main_arg0) : IVec S1x8192 32) y).toNat < 25088) (c : Dev nD) (y : S8192.Idx) :
    V m c main_v3 y = (idsAt m h c).tok (y 0).val :=
  (congrFun (V_main_v3 m c) y).trans (Vocab.reshape_ids _ _ y)

end Cert.KernelIdeal.Rows

end
-- ==== Proof.Spec.lean ====
module

public import Idealize.ShloMosaic.PureOps.Ideal.Laws
public import Idealize.ShloMosaic.Lib.ValueIdx
public import Idealize.ShloMosaic.Lib.IdealHost
public import proofs.«01_k».proof.Proof.Vocab

/-! What both programs compute, element by element, over the extended reals: the embedding row of an id and its
    normalised row. -/

@[expose] public section

noncomputable section

namespace Cert.Spec

open Idealize.ShloMosaic Idealize.ShloMosaic.ValueIdx

/-- The arguments: the ids (below the vocabulary), the codes, the scales and the weight. -/
structure Args where
  /-- the ids -/
  ids : IVec ⟨2, ![1, 8192]⟩ 32
  /-- every id names a row -/
  lt : ∀ y, (ids y).toNat < 25088
  /-- the codes -/
  codes : (⟨2, ![25088, 4096]⟩ : Shape).Idx → BitVec 8
  /-- the scales -/
  scales : (⟨1, ![25088]⟩ : Shape).Idx → EReal
  /-- the weight -/
  weight : (⟨1, ![4096]⟩ : Shape).Idx → EReal

/-- The vocabulary row of the id at position `j`. -/
def Args.row (A : Args) (j : ℕ) : Fin 25088 := ⟨(Vocab.tokAt A.ids j).toNat, Vocab.tokAt_lt A.ids A.lt j⟩

/-- The embedding: code times scale. -/
def Args.emb (A : Args) (j : ℕ) (k : Fin 4096) : EReal :=
  (((A.codes (ix2 (A.row j) k)).toInt : ℝ) : EReal) * A.scales (ix1 (A.row j))

/-- One over the root of the mean square of a row of 4096 values, with the norm's epsilon. -/
def scaleOf (x : Fin 4096 → EReal) : EReal :=
  Ideal.rsqrt ((∑ k, x k * x k) * (((1 : ℝ) / 4096 : ℝ) : EReal) + Ideal.ofBits .f32 0x358637BD#32)

/-- The normalised embedding. -/
def Args.out (A : Args) (j : ℕ) (k : Fin 4096) : EReal := A.emb j k * scaleOf (A.emb j) * A.weight (ix1 k)

/-- The pattern of 1/4096. -/
theorem ofBits_inv4096 : Ideal.ofBits .f32 0x39800000#32 = (((1 : ℝ) / 4096 : ℝ) : EReal) := by
  simp [Ideal.ofBits, Ideal.ieee, -EReal.coe_mul]; norm_num

/-- The pattern of 4096. -/
theorem ofBits_4096 : Ideal.ofBits .f32 0x45800000#32 = ((4096 : ℝ) : EReal) := by
  simp [Ideal.ofBits, Ideal.ieee, -EReal.coe_mul]; norm_num

/-- Dividing by 4096 is multiplying by 1/4096. -/
theorem div_4096 (x : EReal) : Ideal.div x (Ideal.ofBits .f32 0x45800000#32) = x * (((1 : ℝ) / 4096 : ℝ) : EReal) := by
  rw [ofBits_4096, Ideal.div, if_neg (by norm_cast), ← EReal.coe_inv]
  congr 2
  norm_num

end Cert.Spec

end
-- ==== Proof.Bytes.lean ====
module

public import Idealize.ShloMosaic.PureOps
public import Idealize.ShloMosaic.Lib.BitcastConvert
public import Mathlib.Tactic.IntervalCases

/-! One signed byte out of a word of four. -/

@[expose] public section

namespace Cert.Bytes

open Idealize.ShloMosaic

/-- Shifting byte `n` of a word to the top and back with its sign is that byte, sign-extended. -/
theorem shift_pair (W : BitVec 32) (x : BitVec 8) (n : ℕ) (hn : n < 4) (hW : ∀ i, i < 8 → W.getLsbD (8 * n + i) = x.getLsbD i) :
    (W <<< (24 - 8 * n)).sshiftRight 24 = x.signExtend 32 := by
  apply BitVec.eq_of_getLsbD_eq
  intro i hi
  rw [BitVec.getLsbD_sshiftRight, BitVec.getLsbD_signExtend]
  have h1 : ¬ 32 ≤ i := by omega
  by_cases h8 : i < 8
  · have e : 24 + i - (24 - 8 * n) = 8 * n + i := by omega
    rw [if_pos (by omega), BitVec.getLsbD_shiftLeft, e, hW i h8]
    simp [h1, hi, h8]
    omega
  · have e : 31 - (24 - 8 * n) = 8 * n + 7 := by omega
    rw [if_neg (by omega), BitVec.msb_eq_getLsbD_last, BitVec.msb_eq_getLsbD_last, BitVec.getLsbD_shiftLeft]
    simp only [Nat.reduceSub]
    rw [e, hW 7 (by omega)]
    simp [h1, hi, h8]
    omega

/-- The low two bits of an id, as a number. -/
theorem toNat_and3 (id : BitVec 32) : (IntOp.andi id 3#32).toNat = id.toNat % 4 := by
  unfold IntOp.andi
  rw [BitVec.toNat_and]
  exact Nat.and_two_pow_sub_one_eq_mod id.toNat 2

/-- The kernel's extraction: byte `id % 4` of a word, sign-extended. -/
theorem extract (W : BitVec 32) (b : ℕ → BitVec 8) (hW : ∀ q, q < 32 → W.getLsbD q = (b (q / 8)).getLsbD (q % 8)) (id : BitVec 32) :
    IntOp.shrsi .vector (IntOp.shli .vector W (Scalar.subi 24#32 (Scalar.shli (Scalar.andi id 3#32) 3#32))) 24#32
      = (b (id.toNat % 4)).signExtend 32 := by
  have hn : id.toNat % 4 < 4 := Nat.mod_lt _ (by decide)
  have key : ∀ n, n < 4 → IntOp.shrsi .vector (IntOp.shli .vector W (Scalar.subi 24#32 (Scalar.shli (BitVec.ofNat 32 n) 3#32))) 24#32
      = (b n).signExtend 32 := by
    intro n h4
    rw [← shift_pair W (b n) n h4 fun i hi => by
      rw [hW _ (by omega), show (8 * n + i) / 8 = n by omega, show (8 * n + i) % 8 = i by omega]]
    interval_cases n <;> rfl
  rw [← key _ hn]
  congr 4
  apply BitVec.eq_of_toNat_eq
  rw [BitVec.toNat_ofNat, Nat.mod_eq_of_lt (by omega)]
  exact toNat_and3 id

end Cert.Bytes
-- ==== Proof.KernelIdeal.Value.lean ====
module

public import proofs.«01_k».proof.Proof.KernelIdeal.Launch
public import proofs.«01_k».proof.Proof.Spec
public import proofs.«01_k».proof.Proof.Bytes
public import Idealize.ShloMosaic.Lib.Bf16Pair
public import Idealize.ShloMosaic.Lib.ValueIdxCoords

/-! What a pair of rows holds, over the extended reals: the kernel's payloads read at an index. -/

@[expose] public section

set_option maxRecDepth 16384

noncomputable section

namespace Cert.KernelIdeal.Rows

open Cert.KernelIdeal Cert.KernelIdeal.Gen
open Idealize.ShloMosaic Idealize.ShloMosaic.TcCoe Idealize.ShloMosaic.ValueIdx
open scoped BigOperators

/-- The one row of a [1, 4096] vector, at a column. -/
abbrev at0 (k : Fin 4096) : S1x4096.Idx := ix2 (0 : Fin 1) k

/-- Two rows interleaved: row 0 is the first, row 1 the second. -/
theorem interleave_at {α : Type} (lo hi : S1x4096.Idx → α) (h : S2x4096.Bitcasts 16 S1x4096 32) (p : Fin 2) (k : Fin 4096) :
    interleaveRows S2x4096 lo hi h (ix2 p k) = if p.val = 0 then lo (at0 k) else hi (at0 k) := by
  match p with
  | 0 =>
    unfold interleaveRows
    refine (if_pos ?_).trans ?_
    · rfl
    · show lo _ = lo _
      congr 1
      funext a; match a with | ⟨0, _⟩ => exact Subsingleton.elim (α := Fin 1) _ _ | ⟨1, _⟩ => rfl
  | 1 =>
    unfold interleaveRows
    refine (if_neg ?_).trans ?_
    · show ¬ (1 % 2 = 0)
      decide
    · show hi _ = hi _
      congr 1
      funext a; match a with | ⟨0, _⟩ => exact Subsingleton.elim (α := Fin 1) _ _ | ⟨1, _⟩ => rfl

/-- The rows of one parity of a [2, 4096] vector: row `p`. -/
theorem parity_at {α : Type} (p : Fin 2) (x : S2x4096.Idx → α) (h : S2x4096.Bitcasts 16 S1x4096 32) (k : Fin 4096) :
    rowsOfParity p S1x4096 x h (at0 k) = x (ix2 p k) := by
  unfold rowsOfParity
  congr 1
  funext a
  match a with
  | ⟨0, _⟩ => apply Fin.ext; show 2 * 0 + p.val = p.val; omega
  | ⟨1, _⟩ => rfl

/-- The sum of a row's squares, as the kernel takes it. -/
theorem sum_sq (x : FVec Ideal S1x4096 .f32) (h1 h2 h3 h4 h5 h6) :
    extractAt ![0, 0, 0] (shapeCast S1x1x1 (multiReduction .add [1, 2] S1 (shapeCast S1x1x4096 (mulf x x) h1) 0x00000000#32 h2 h3 h4) h5 : FVec Ideal S1x1x1 .f32) h6
      = ∑ k : Fin 4096, x (at0 k) * x (at0 k) := by
  unfold extractAt
  show multiReduction .add [1, 2] S1 (shapeCast S1x1x4096 (mulf x x) h1) 0x00000000#32 h2 h3 h4 _ = _
  rw [Ideal.multiReduction_add_total _ _ h2 (by decide)]
  refine (Fintype.sum_bijective (fun k : Fin 4096 => (ix3 (0 : Fin 1) (0 : Fin 1) k : S1x1x4096.Idx)) ⟨fun a b e => congrFun e 2, fun y => ⟨y 2, ?_⟩⟩ _ _ fun k => ?_).symm
  · funext a
    match a with
    | ⟨0, _⟩ => exact Subsingleton.elim (α := Fin 1) _ _
    | ⟨1, _⟩ => exact Subsingleton.elim (α := Fin 1) _ _
    | ⟨2, _⟩ => rfl
  · refine ((shapeCast_apply (mulf x x) h1 (ix3 (0 : Fin 1) (0 : Fin 1) k) (at0 k) ?_).trans rfl).symm
    rw [Shape.rowMajor_val_two, Shape.rowMajor_val_three]
    show 0 * 4096 + k.val = (0 * 1 + 0) * 4096 + k.val
    omega

/-- The word of a row at a column, cast to one row. -/
theorem word_at (v : S1x1x4096.Idx → BitVec 32) (h : S1x1x4096.ShapeCasts S1x4096) (k : Fin 4096) :
    shapeCast S1x4096 v h (at0 k) = v (ix3 (0 : Fin 1) (0 : Fin 1) k) := by
  refine shapeCast_apply v h _ _ ?_
  rw [Shape.rowMajor_val_two, Shape.rowMajor_val_three]
  show (0 * 1 + 0) * 4096 + k.val = 0 * 4096 + k.val
  omega

/-- The norm's factor broadcast over a row is `Spec.scaleOf` of the row. -/
theorem factor_at (x : FVec Ideal S1x4096 .f32) (k : Fin 4096) (h1 h2 h3 h4 h5 h6) (h7 : S1x1.Broadcasts S1x4096) :
    broadcastTo S1x4096 (rsqrt (addf (mulf (broadcast S1x1 (extractAt ![0, 0, 0] (shapeCast S1x1x1 (multiReduction .add [1, 2] S1 (shapeCast S1x1x4096 (mulf x x) h1) 0x00000000#32 h2 h3 h4) h5 : FVec Ideal S1x1x1 .f32) h6))
        (broadcast S1x1 (Scalar.ofBits .f32 0x39800000#32 : Ideal .f32))) (broadcast S1x1 (Scalar.ofBits .f32 0x358637BD#32 : Ideal .f32))) : FVec Ideal S1x1 .f32) h7 (at0 k)
      = Spec.scaleOf fun k => x (at0 k) := by
  rw [sum_sq]
  show Ideal.rsqrt ((∑ k : Fin 4096, x (at0 k) * x (at0 k)) * Ideal.ofBits .f32 0x39800000#32 + Ideal.ofBits .f32 0x358637BD#32) = _
  rw [Spec.ofBits_inv4096]
  rfl

section Payloads
variable (a b : FVec Ideal S1x4096 .f32) (c : IVec S1x4096 32) (d : EReal) (w : FVec Ideal S1x4096 .f32)

/-- A pair's embedding row `p` at column `k`. -/
def pairRow (p : Fin 2) (k : Fin 4096) : EReal :=
  if p.val = 0 then a (at0 k) * b (at0 k) else ((((IntOp.shrsi .vector (c (at0 k)) 24#32).toInt : ℝ)) : EReal) * d

/-- The products before they are split into words. -/
theorem pay6_at (p : Fin 2) (k : Fin 4096) : k0_pay6 (F := Ideal) a b c d (ix2 p k) = pairRow a b c d p k := by
  unfold k0_pay6 pairRow
  show interleaveRows S2x4096 _ _ bitcasts_S2x4096_w16_S1x4096_w32 (ix2 p k) * interleaveRows S2x4096 _ _ bitcasts_S2x4096_w16_S1x4096_w32 (ix2 p k) = _
  rw [interleave_at, interleave_at]
  split <;> rfl

/-- The pair of embedding rows at an index. -/
theorem pay9_at (p : Fin 2) (k : Fin 4096) : k0_pay9 (F := Ideal) a b c d (ix2 p k) = pairRow a b c d p k := by
  unfold k0_pay9 k0_pay7 k0_pay8
  show interleaveRows S2x4096 (rowsOfParity 0 S1x4096 (k0_pay6 a b c d) bitcasts_S2x4096_w16_S1x4096_w32) (rowsOfParity 1 S1x4096 (k0_pay6 a b c d) bitcasts_S2x4096_w16_S1x4096_w32) bitcasts_S2x4096_w16_S1x4096_w32 (ix2 p k) = _
  rw [interleaveRows_rowsOfParity]
  exact pay6_at a b c d p k

/-- The first row of the pair, loaded again. -/
theorem pay7_at (k : Fin 4096) : k0_pay7 (F := Ideal) a b c d (at0 k) = pairRow a b c d 0 k :=
  (parity_at 0 (k0_pay6 a b c d) bitcasts_S2x4096_w16_S1x4096_w32 k).trans (pay6_at a b c d 0 k)

/-- The second row of the pair, loaded again. -/
theorem pay11_at (k : Fin 4096) : k0_pay11 (F := Ideal) a b c d (at0 k) = pairRow a b c d 1 k :=
  (parity_at 1 (k0_pay6 a b c d) bitcasts_S2x4096_w16_S1x4096_w32 k).trans (pay6_at a b c d 1 k)

/-- The first normalised row. -/
theorem pay10_at (k : Fin 4096) : k0_pay10 (F := Ideal) w a b c d (at0 k) = pairRow a b c d 0 k * Spec.scaleOf (pairRow a b c d 0) * w (at0 k) := by
  have hf := factor_at (extf .f32 (k0_pay7 (F := Ideal) a b c d)) k shapeCasts_S1x4096_S1x1x4096 reduces_S1x1x4096_S1 (.inl rfl) rfl shapeCasts_S1_S1x1x1 inpos_S1x1x1_p0_0_0 broadcasts_S1x1_S1x4096
  have hx : (fun k => (extf .f32 (k0_pay7 (F := Ideal) a b c d) : FVec Ideal S1x4096 .f32) (at0 k)) = pairRow a b c d 0 := funext fun k => pay7_at a b c d k
  rw [hx] at hf
  unfold k0_pay10
  rw [← hf, ← pay7_at]
  rfl

/-- The pair of normalised rows at an index. -/
theorem pay13_at (p : Fin 2) (k : Fin 4096) :
    k0_pay13 (F := Ideal) w (k0_pay10 w a b c d) (k0_pay11 a b c d) (k0_pay12 a b c d) (ix2 p k)
      = pairRow a b c d p k * Spec.scaleOf (pairRow a b c d p) * w (at0 k) := by
  have hf := factor_at (k0_pay11 (F := Ideal) a b c d) k shapeCasts_S1x4096_S1x1x4096 reduces_S1x1x4096_S1 (.inl rfl) rfl shapeCasts_S1_S1x1x1 inpos_S1x1x1_p0_0_0 broadcasts_S1x1_S1x4096
  have hx : (fun k => k0_pay11 (F := Ideal) a b c d (at0 k)) = pairRow a b c d 1 := funext fun k => pay11_at a b c d k
  rw [hx] at hf
  unfold k0_pay13
  refine (interleave_at _ _ bitcasts_S2x4096_w16_S1x4096_w32 p k).trans ?_
  match p with
  | 0 => exact (if_pos rfl).trans (pay10_at a b c d w k)
  | 1 =>
    refine (if_neg (by decide)).trans ?_
    rw [← hf, ← pay11_at]
    rfl

end Payloads

/-- What the environment holds, in terms of the arguments: the words are four code rows' bytes, lowest first. -/
structure Holds (E : Env Ideal) (A : Spec.Args) : Prop where
  /-- the ids -/
  tok : E.I.tok = Vocab.tokAt A.ids
  /-- the packed table's bits -/
  bits : ∀ (r : Fin 6272) (k : Fin 4096) (q : ℕ) (hq : q < 32),
    (E.tb (tix r k)).getLsbD q = (A.codes (ix2 ⟨4 * r.val + q / 8, by have := r.isLt; omega⟩ k)).getLsbD (q % 8)
  /-- the scales -/
  scale : E.sc = A.scales
  /-- the weight -/
  weight : ∀ k : Fin 4096, E.wv (at0 k) = A.weight (ix1 k)

section Rows
variable {E : Env Ideal} {A : Spec.Args} (hE : Holds E A)
include hE

/-- The code taken out of the packed word. -/
theorem code_at (j : ℕ) (k : Fin 4096) :
    IntOp.shrsi .vector (IntOp.shli .vector (E.word j (ix3 (0 : Fin 1) (0 : Fin 1) k)) (Scalar.subi 24#32 (Scalar.shli (Scalar.andi (E.I.tok j) 3#32) 3#32))) 24#32
      = (A.codes (ix2 (A.row j) k)).signExtend 32 := by
  have hr := E.I.row_lt j
  rw [Bytes.extract _ (fun b => if hb : b < 4 then A.codes (ix2 ⟨4 * E.I.row j + b, by omega⟩ k) else 0) ?_ (E.I.tok j)]
  · rw [dif_pos (Nat.mod_lt _ (by decide))]
    congr 3
    apply Fin.ext
    show 4 * ((E.I.tok j).toNat / 4) + (E.I.tok j).toNat % 4 = (Vocab.tokAt A.ids j).toNat
    rw [← hE.tok]
    omega
  · intro q hq
    rw [dif_pos (by omega)]
    exact hE.bits ⟨E.I.row j, hr⟩ k q hq

theorem scale_at (j : ℕ) : E.scale j = A.scales (ix1 (A.row j)) := by
  unfold Env.scale
  rw [hE.scale]
  congr 1
  funext a
  match a with
  | ⟨0, _⟩ =>
    apply Fin.ext
    show (E.I.tok j).toNat = (Vocab.tokAt A.ids j).toNat
    rw [hE.tok]

/-- The pair of ids `j` and `j + 1` is the embedding's rows `j` and `j + 1`. -/
theorem pairRow_at (j : ℕ) (p : Fin 2) (k : Fin 4096) :
    pairRow (k0_pay3 (F := Ideal) (E.I.tok j) (E.word j)) (k0_pay4 (F := Ideal) (E.scale j)) (k0_pay5 (F := Ideal) (E.I.tok (j + 1)) (E.word (j + 1))) (E.scale (j + 1)) p k
      = A.emb (j + p.val) k := by
  have toI : ∀ x : BitVec 8, (x.signExtend 32).toInt = x.toInt := fun x => BitVec.toInt_signExtend_of_le (by decide)
  match p with
  | 0 =>
    refine (if_pos rfl).trans ?_
    unfold k0_pay3 k0_pay4 Spec.Args.emb
    show (((IntOp.shrsi .vector (IntOp.shli .vector (shapeCast S1x4096 (E.word j) _ (at0 k)) _) _).toInt : ℝ) : EReal) * E.scale j = _
    rw [word_at, scale_at hE]
    refine congrArg (fun z : BitVec 32 => ((z.toInt : ℝ) : EReal) * A.scales (ix1 (A.row j))) (code_at hE j k) |>.trans ?_
    simp only [toI]
    rfl
  | 1 =>
    refine (if_neg (by decide)).trans ?_
    unfold k0_pay5 Spec.Args.emb
    show (((IntOp.shrsi .vector (IntOp.shli .vector (shapeCast S1x4096 (E.word (j + 1)) _ (at0 k)) _) _).toInt : ℝ) : EReal) * E.scale (j + 1) = _
    rw [word_at, scale_at hE]
    refine congrArg (fun z : BitVec 32 => ((z.toInt : ℝ) : EReal) * A.scales (ix1 (A.row (j + 1)))) (code_at hE (j + 1) k) |>.trans ?_
    simp only [toI]
    rfl

/-- The embedding pair at an index. -/
theorem embPair_at (j : ℕ) (p : Fin 2) (k : Fin 4096) : E.embPair j (ix2 p k) = A.emb (j + p.val) k :=
  (pay9_at _ _ _ _ p k).trans (pairRow_at hE j p k)

/-- The normalised pair at an index. -/
theorem outPair_at (j : ℕ) (p : Fin 2) (k : Fin 4096) : E.outPair j (ix2 p k) = A.out (j + p.val) k := by
  refine (pay13_at _ _ _ _ _ p k).trans ?_
  have hx := funext fun k => pairRow_at hE j p k
  rw [hx]
  have hw : k0_pay1 E.wv (at0 k) = A.weight (ix1 k) := by
    unfold k0_pay1
    exact (congrFun (shapeCast_self _ _) _).trans (hE.weight k)
  rw [hw]
  rfl

/-- Row `y 0` of a block of pairs. -/
theorem pairBlk_at (f : ℕ → S2x4096.Idx → EReal) (g : ℕ → Fin 4096 → EReal) (hf : ∀ j p k, f j (ix2 p k) = g (j + p.val) k)
    (b : ℕ) (y : S128x4096.Idx) : pairBlk (F := Ideal) f b y = g (128 * b + (y 0).val) (y 1) := by
  have e : pairBlk (F := Ideal) f b y = f (128 * b + 2 * ((y 0).val / 2)) (ix2 (⟨(y 0).val % 2, Nat.mod_lt _ (by decide)⟩ : Fin 2) (y 1 : Fin 4096)) := by
    unfold pairBlk
    congr 1
    funext a; match a with | ⟨0, _⟩ => rfl | ⟨1, _⟩ => rfl
  refine (e.trans (hf _ _ _)).trans ?_
  show g (128 * b + 2 * ((y 0).val / 2) + (y 0).val % 2) (y 1) = g (128 * b + (y 0).val) (y 1)
  congr 1
  omega

/-- Block `b` of the embedding result. -/
theorem embBlk_at (b : ℕ) (y : S128x4096.Idx) : E.embBlk b y = A.emb (128 * b + (y 0).val) (y 1) :=
  pairBlk_at hE E.embPair A.emb (embPair_at hE) b y
/-- Block `b` of the normalised result. -/
theorem outBlk_at (b : ℕ) (y : S128x4096.Idx) : E.outBlk b y = A.out (128 * b + (y 0).val) (y 1) :=
  pairBlk_at hE E.outPair A.out (outPair_at hE) b y

end Rows

end Cert.KernelIdeal.Rows

end
-- ==== Proof.KernelIdeal.Result.lean ====
module

public import proofs.«01_k».proof.Proof.KernelIdeal.Value
public import Idealize.ShloMosaic.Lib.Pipeline.Value
public import Idealize.ShloMosaic.Lib.BitcastConvert

/-! What the kernel's run leaves in the two results, over the extended reals. -/

@[expose] public section

set_option maxRecDepth 16384

noncomputable section

namespace Cert.KernelIdeal.Rows

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline

variable (m : (ℓ : Loc nD τ sig) → Buf (Elt Ideal) ℓ)

/-- The packed table as the region finds it. -/
theorem V_main_v2 (c : Dev nD) : V m c main_v2
    = Host.bitcastConvertWiden S6272x4096 32 (transpose S6272x4096x4 [0, 2, 1] (shapeCast S6272x4x4096 (m ((c : Thread nD τ).loc main_arg1)) shapeCasts_S25088x4096_S6272x4x4096) transposes_S6272x4x4096_S6272x4096x4_0_2_1) splits_S6272x4096_w32_S6272x4096x4_w8 := by
  unfold V hostOps0
  after_results <;> rfl

/-- The weight as the region finds it. -/
theorem V_main_v5 (c : Dev nD) : V m c main_v5
    = shapeCast S1x4096 (extf .f32 (m ((c : Thread nD τ).loc main_arg3)) bitsLt_bf16_f32 : FVec Ideal S4096 .f32) shapeCasts_S4096_S1x4096 := by
  unfold V hostOps0
  after_results <;> rfl

/-- The arguments of a launch memory whose ids are rows of the vocabulary. -/
def argsAt (h : ∀ c : Dev nD, ∀ y : S1x8192.Idx, ((m ((c : Thread nD τ).loc main_arg0) : IVec S1x8192 32) y).toNat < 25088) (c : Dev nD) : Spec.Args :=
  ⟨m ((c : Thread nD τ).loc main_arg0), h c, m ((c : Thread nD τ).loc main_arg1), m ((c : Thread nD τ).loc main_arg2), m ((c : Thread nD τ).loc main_arg3)⟩

/-- Four code rows to a word row: part `b` of word `(r, k)` is the code `(4 r + b, k)`. -/
theorem packed_part (x : S25088x4096.Idx → BitVec 8) (r : Fin 6272) (k : Fin 4096) (q : ℕ) (hq : q / 8 < 4) (h1 h2) :
    transpose S6272x4096x4 [0, 2, 1] (shapeCast S6272x4x4096 x h1) h2 (ix3 r k (⟨q / 8, hq⟩ : Fin 4)) = x (ix2 ⟨4 * r.val + q / 8, by have := r.isLt; omega⟩ k) := by
  refine (transpose_apply _ _ h2 _ (ix3 r (⟨q / 8, hq⟩ : Fin 4) k) ?_).trans ?_
  · intro a
    match a with | ⟨0, _⟩ => rfl | ⟨1, _⟩ => rfl | ⟨2, _⟩ => rfl
  · refine shapeCast_apply x h1 _ _ ?_
    rw [Shape.rowMajor_val_two, Shape.rowMajor_val_three]
    show (4 * r.val + q / 8) * 4096 + k.val = (r.val * 4 + q / 8) * 4096 + k.val
    omega

theorem holds (h : ∀ c : Dev nD, ∀ y : S1x8192.Idx, ((m ((c : Thread nD τ).loc main_arg0) : IVec S1x8192 32) y).toNat < 25088) (c : Dev nD) :
    Holds (envAt m (idsAt m h) c) (argsAt m h c) where
  tok := rfl
  bits r k q hq := by
    show (V m c main_v2 (tix r k)).getLsbD q = _
    rw [V_main_v2]
    refine (Host.bitcastConvertWiden_getLsbD _ _ _ _ _ q hq).trans ?_
    refine congrArg (fun b : BitVec 8 => b.getLsbD (q % 8)) ?_
    refine Eq.trans (congrArg _ ?_) (packed_part (m ((c : Thread nD τ).loc main_arg1)) r k q (by omega) shapeCasts_S25088x4096_S6272x4x4096 transposes_S6272x4x4096_S6272x4096x4_0_2_1)
    funext a
    match a with
    | ⟨0, _⟩ => rfl
    | ⟨1, _⟩ => rfl
    | ⟨2, _⟩ => rfl
  scale := V_main_arg2 m c
  weight k := by
    show V m c main_v5 (at0 k) = _
    rw [V_main_v5]
    refine (shapeCast_apply _ shapeCasts_S4096_S1x4096 (at0 k) (ix1 k) ?_).trans rfl
    rw [Shape.rowMajor_val_two, Shape.rowMajor_val_one]
    show k.val = 0 * 4096 + k.val
    omega

variable (I : Dev nD → Ids)

/-- The first result's block index at a grid point. -/
theorem index3 (t : Fin cfg0.N) : win0_3.index t 0 = t.val ∧ win0_3.index t 1 = 0 := by
  revert t; decide +kernel
theorem index4 (t : Fin cfg0.N) : win0_4.index t 0 = t.val ∧ win0_4.index t 1 = 0 := by
  revert t; decide +kernel

/-- Where a block's element lies in the result. -/
theorem emb3 (t : Fin cfg0.N) (y : S128x4096.Idx) : ((cfg0.win 3).blk t).view.emb y
    = (ix2 (⟨128 * t.val + (y 0).val, by have := t.isLt; have : cfg0.N = 64 := rfl; have := (y 0).isLt; have : S128x4096.size 0 = 128 := rfl; omega⟩ : Fin 8192) (y 1 : Fin 4096) : S8192x4096.Idx) := by
  obtain ⟨e0, e1⟩ := index3 t
  funext a; apply Fin.ext
  match a with
  | ⟨0, _⟩ => show win0_3.index t (0 : Fin 2) * 128 + 1 * (y 0).val = 128 * t.val + (y 0).val; omega
  | ⟨1, _⟩ => show win0_3.index t (1 : Fin 2) * 4096 + 1 * (y 1).val = (y 1).val; omega
theorem emb4 (t : Fin cfg0.N) (y : S128x4096.Idx) : ((cfg0.win 4).blk t).view.emb y
    = (ix2 (⟨128 * t.val + (y 0).val, by have := t.isLt; have : cfg0.N = 64 := rfl; have := (y 0).isLt; have : S128x4096.size 0 = 128 := rfl; omega⟩ : Fin 8192) (y 1 : Fin 4096) : S8192x4096.Idx) := by
  obtain ⟨e0, e1⟩ := index4 t
  funext a; apply Fin.ext
  match a with
  | ⟨0, _⟩ => show win0_4.index t (0 : Fin 2) * 128 + 1 * (y 0).val = 128 * t.val + (y 0).val; omega
  | ⟨1, _⟩ => show win0_4.index t (1 : Fin 2) * 4096 + 1 * (y 1).val = (y 1).val; omega

/-- Every element of a result is in the block of its row's point. -/
theorem point_of (i : S8192x4096.Idx) : ∃ t : Fin cfg0.N, ∃ y : S128x4096.Idx,
    i = ix2 (⟨128 * t.val + (y 0).val, by have := t.isLt; have : cfg0.N = 64 := rfl; have := (y 0).isLt; have : S128x4096.size 0 = 128 := rfl; omega⟩ : Fin 8192) (y 1 : Fin 4096) := by
  have hi : (i 0).val < 8192 := (i 0).isLt
  refine ⟨⟨(i 0).val / 128, by show _ < 64; omega⟩, ix2 (⟨(i 0).val % 128, by omega⟩ : Fin 128) (i 1 : Fin 4096), ?_⟩
  funext a
  match a with
  | ⟨0, _⟩ => apply Fin.ext; show (i 0).val = 128 * ((i 0).val / 128) + (i 0).val % 128; omega
  | ⟨1, _⟩ => rfl

theorem cover3 (i : S8192x4096.Idx) : ∃ t : Fin cfg0.N, (cfg0.win 3).flush t = true ∧ i ∈ ((cfg0.win 3).blk t).view.set := by
  obtain ⟨t, y, e⟩ := point_of i
  exact ⟨t, flush0_3 t, by have h := ((cfg0.win 3).blk t).view.emb_mem_set y; rw [emb3] at h; rw [e]; exact h⟩
theorem cover4 (i : S8192x4096.Idx) : ∃ t : Fin cfg0.N, (cfg0.win 4).flush t = true ∧ i ∈ ((cfg0.win 4).blk t).view.set := by
  obtain ⟨t, y, e⟩ := point_of i
  exact ⟨t, flush0_4 t, by have h := ((cfg0.win 4).blk t).view.emb_mem_set y; rw [emb4] at h; rw [e]; exact h⟩

/-- An array of rows. -/
def rowsOf (g : ℕ → Fin 4096 → EReal) : S8192x4096.Idx → EReal := fun i => g (i 0).val (i 1)

section Final
variable {A : Dev nD → Spec.Args} (hE : ∀ c, Holds (envAt m I c) (A c))
include hE

/-- The first result: the normalised rows. -/
theorem final3 (c : Dev nD) : (dats m I 0 c).arrAt 3 cfg0.N = rowsOf (A c).out := by
  refine (dats m I 0 c).arrAt_eq_of_cover 3 (rowsOf (A c).out) (fun t _ => ?_) cover3
  show (cfg0.win 3).cut (grid0.coords t) ((dats m I 0 c).after 3 t) = _
  rw [after0_3]
  funext y
  show (envAt m I c).outBlk t.val y = rowsOf (A c).out (((cfg0.win 3).blk t).view.emb y)
  rw [emb3, outBlk_at (hE c)]
  rfl
/-- The second result: the embedding. -/
theorem final4 (c : Dev nD) : (dats m I 0 c).arrAt 4 cfg0.N = rowsOf (A c).emb := by
  refine (dats m I 0 c).arrAt_eq_of_cover 4 (rowsOf (A c).emb) (fun t _ => ?_) cover4
  show (cfg0.win 4).cut (grid0.coords t) ((dats m I 0 c).after 4 t) = _
  rw [after0_4]
  funext y
  show (envAt m I c).embBlk t.val y = rowsOf (A c).emb (((cfg0.win 4).blk t).view.emb y)
  rw [emb4, embBlk_at (hE c)]
  rfl

end Final

end Cert.KernelIdeal.Rows

end
-- ==== Proof.ReferenceIdeal.Value.lean ====
module

public import proofs.«01_k».proof.Proof.Gen.ReferenceIdeal.Run
public import proofs.«01_k».proof.Proof.Spec
public import Idealize.ShloMosaic.Lib.Pipeline.Value
public import Idealize.ShloMosaic.Lib.ReduceAll
public import Idealize.ShloMosaic.Lib.ValueIdxCoords

/-! What the reference's two results hold, over the extended reals. -/

@[expose] public section

set_option maxRecDepth 16384

noncomputable section

namespace Cert.ReferenceIdeal.Rows

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The position of the id at `j`. -/
abbrev i2 (j : Fin 8192) : S1x8192.Idx := ix2 (0 : Fin 1) j
/-- The position of the value at row `j`, column `k`. -/
abbrev i3 (j : Fin 8192) (k : Fin 4096) : S1x8192x4096.Idx := ix3 (0 : Fin 1) j k
/-- The position of a row's one value. -/
abbrev i1 (j : Fin 8192) : S1x8192x1.Idx := ix3 (0 : Fin 1) j (0 : Fin 1)

theorem i1_eta (y : S1x8192x1.Idx) : y = i1 (y 1) := by
  funext a
  match a with
  | ⟨0, _⟩ => exact Subsingleton.elim (α := Fin 1) _ _
  | ⟨1, _⟩ => rfl
  | ⟨2, _⟩ => exact Subsingleton.elim (α := Fin 1) _ _

section Broadcasts
variable {α : Type}

/-- A value per row, as a column of rows. -/
theorem col_at (x : S1x8192.Idx → α) (j : Fin 8192) : broadcastInDim S1x8192x1 ![0, 1] bcast_S1x8192_S1x8192x1_0_1 x (i1 j) = x (i2 j) :=
  broadcastInDim_apply _ _ x _ _ fun a => by match a with | ⟨0, _⟩ => rfl | ⟨1, _⟩ => rfl
/-- A value per row, over the row. -/
theorem row_at (x : S1x8192.Idx → α) (j : Fin 8192) (k : Fin 4096) : broadcastInDim S1x8192x4096 ![0, 1] bcast_S1x8192_S1x8192x4096_0_1 x (i3 j k) = x (i2 j) :=
  broadcastInDim_apply _ _ x _ _ fun a => by match a with | ⟨0, _⟩ => rfl | ⟨1, _⟩ => rfl
/-- A column of rows, over the rows. -/
theorem colRow_at (x : S1x8192x1.Idx → α) (j : Fin 8192) (k : Fin 4096) : broadcastInDim S1x8192x4096 ![0, 1, 2] bcast_S1x8192x1_S1x8192x4096_0_1_2 x (i3 j k) = x (i1 j) :=
  broadcastInDim_apply _ _ x _ _ fun a => by match a with | ⟨0, _⟩ => rfl | ⟨1, _⟩ => rfl | ⟨2, _⟩ => rfl
/-- A row of columns, over the rows. -/
theorem weight_at (x : S4096.Idx → α) (j : Fin 8192) (k : Fin 4096) :
    broadcastInDim S1x8192x4096 ![0, 1, 2] bcast_S1x1x4096_S1x8192x4096_0_1_2 (broadcastInDim S1x1x4096 ![2] bcast_S4096_S1x1x4096_2 x) (i3 j k) = x (ix1 k) :=
  (broadcastInDim_apply _ _ _ _ (ix3 (0 : Fin 1) (0 : Fin 1) k : S1x1x4096.Idx) fun a => by match a with | ⟨0, _⟩ => rfl | ⟨1, _⟩ => rfl | ⟨2, _⟩ => rfl).trans
    (broadcastInDim_apply _ _ x _ _ fun a => by match a with | ⟨0, _⟩ => rfl)

end Broadcasts

/-- The gather of whole code rows, read at an index. -/
theorem gather_rows (x : S25088x4096.Idx → BitVec 8) (idx : IVec S1x8192x1 32) (j : Fin 8192) (k : Fin 4096) :
    Host.gather gather_S25088x4096_S1x8192x1_S1x8192x4096_2_0_n_n_0_2_14096 x idx (i3 j k)
      = x (ix2 ⟨min (idx (i1 j)).toInt.toNat (25088 - 1), by omega⟩ k) := by
  unfold Host.gather
  congr 1
  funext a
  refine Fin.ext ?_
  show (gather_S25088x4096_S1x8192x1_S1x8192x4096_2_0_n_n_0_2_14096).start (i3 j k) idx a + (gather_S25088x4096_S1x8192x1_S1x8192x4096_2_0_n_n_0_2_14096).batchCoord (i3 j k) a
      + (gather_S25088x4096_S1x8192x1_S1x8192x4096_2_0_n_n_0_2_14096).offCoord (i3 j k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S25088x4096_S1x8192x1_S1x8192x4096_2_0_n_n_0_2_14096).startIndexMap from List.mem_singleton.mpr rfl)]
    have hsi : (gather_S25088x4096_S1x8192x1_S1x8192x4096_2_0_n_n_0_2_14096).siIdx (i3 j k) ⟨List.idxOf (0 : Fin 2) (gather_S25088x4096_S1x8192x1_S1x8192x4096_2_0_n_n_0_2_14096).startIndexMap,
        List.idxOf_lt_length_iff.2 (List.mem_singleton.mpr rfl)⟩ = i1 j := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (gather_S25088x4096_S1x8192x1_S1x8192x4096_2_0_n_n_0_2_14096).startIndexMap from fun h => absurd (List.mem_singleton.mp h) (by decide))]
    unfold GatherDims.offCoord
    rw [dif_pos ((GatherDims.mem_sKept _ _).mpr ⟨fun h => absurd (List.mem_singleton.mp h) (by decide), List.not_mem_nil⟩)]
    simp only [Nat.zero_add]
    rfl

/-- The gather of scales, read at an index. -/
theorem gather_scale (x : S25088.Idx → EReal) (idx : IVec S1x8192x1 32) (j : Fin 8192) :
    Host.gather gather_S25088_S1x8192x1_S1x8192_n_0_n_n_0_2_1 x idx (i2 j) = x (ix1 ⟨min (idx (i1 j)).toInt.toNat (25088 - 1), by omega⟩) := by
  refine (gather_take_apply (N := 25088) (R := 1) (C := 8192) (by decide) gather_S25088_S1x8192x1_S1x8192_n_0_n_n_0_2_1.wf x idx (i2 j)).trans ?_
  have e : takeIdx (i2 j) = i1 j := by
    funext b
    match b with
    | ⟨0, _⟩ => rfl
    | ⟨1, _⟩ => rfl
    | ⟨2, _⟩ => rfl
  simp only [e]

/-- The row indices the reference gathers at. -/
def idxT (a0 : IVec S1x8192 32) : IVec S1x8192x1 32 :=
  broadcastInDim S1x8192x1 ![0, 1] bcast_S1x8192_S1x8192x1_0_1 (select (cmpi .slt a0 (broadcastInDim S1x8192 ![] bcast_S_S1x8192 (constantI S_ 32 0#32))) (addi a0 (broadcastInDim S1x8192 ![] bcast_S_S1x8192 (constantI S_ 32 25088#32))) a0)

/-- The reference's test that a row index is in range. -/
def mskT (a0 : IVec S1x8192 32) : IVec S1x8192 1 :=
  Host.reduce IntOp.andi (andi (cmpi .sge (idxT a0) (broadcastInDim S1x8192x1 ![] bcast_S_S1x8192x1 (constantI S_ 32 0#32))) (cmpi .sle (idxT a0) (broadcastInDim S1x8192x1 ![0, 1, 2] bcast_S1x1x1_S1x8192x1_0_1_2 (broadcastInDim S1x1x1 ![2] bcast_S1_S1x1x1_2 (constantI S1 32 25087#32))))) (constantI S_ 1 1#1) reducesTo_S1x8192x1_S1x8192_d2 h_S_

/-- The reference's embedding. -/
def embT (a0 : IVec S1x8192 32) (a1 : IVec S25088x4096 8) (a2 : FVec Ideal S25088 .f32) : FVec Ideal S1x8192x4096 .bf16 :=
  mulf (sitofp .bf16 (extsi 32 (select (broadcastInDim S1x8192x4096 ![0, 1] bcast_S1x8192_S1x8192x4096_0_1 (mskT a0)) (Host.gather gather_S25088x4096_S1x8192x1_S1x8192x4096_2_0_n_n_0_2_14096 a1 (idxT a0)) (broadcastInDim S1x8192x4096 ![] bcast_S_S1x8192x4096 (constantI S_ 8 128#8))) natLt_8_32))
    (broadcastInDim S1x8192x4096 ![0, 1, 2] bcast_S1x8192x1_S1x8192x4096_0_1_2 (broadcastInDim S1x8192x1 ![0, 1] bcast_S1x8192_S1x8192x1_0_1 (truncf .bf16 (select (mskT a0) (Host.gather gather_S25088_S1x8192x1_S1x8192_n_0_n_n_0_2_1 a2 (idxT a0)) (broadcastInDim S1x8192 ![] bcast_S_S1x8192 (constant S_ .f32 0x7FC00000#32))) bitsLt_bf16_f32)))

/-- The reference's normalisation of an embedding. -/
def outT (e : FVec Ideal S1x8192x4096 .bf16) (a3 : FVec Ideal S4096 .bf16) : FVec Ideal S1x8192x4096 .bf16 :=
  truncf .bf16 (mulf (mulf (extf .f32 e bitsLt_bf16_f32) (broadcastInDim S1x8192x4096 ![0, 1, 2] bcast_S1x8192x1_S1x8192x4096_0_1_2
    (Host.rsqrt (addf (Host.divf (broadcastInDim S1x8192x1 ![0, 1] bcast_S1x8192_S1x8192x1_0_1 (Host.reduceAdd (mulf (extf .f32 e bitsLt_bf16_f32) (extf .f32 e bitsLt_bf16_f32)) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32))))))
    (broadcastInDim S1x8192x4096 ![0, 1, 2] bcast_S1x1x4096_S1x8192x4096_0_1_2 (broadcastInDim S1x1x4096 ![2] bcast_S4096_S1x1x4096_2 (extf .f32 a3 bitsLt_bf16_f32)))) bitsLt_bf16_f32

section InRange
variable (A : Spec.Args)

theorem tok_at (j : Fin 8192) : A.ids (i2 j) = Vocab.tokAt A.ids j.val := (Vocab.tokAt_apply A.ids (i2 j)).symm

/-- An id in the vocabulary is not negative: it is its own row index. -/
theorem idx_at (j : Fin 8192) : idxT A.ids (i1 j) = A.ids (i2 j) := by
  have h := A.lt (i2 j)
  unfold idxT
  rw [col_at]
  show Scalar.select (IntOp.cmpi .slt (A.ids (i2 j)) 0#32) _ (A.ids (i2 j)) = _
  rw [show IntOp.cmpi .slt (A.ids (i2 j)) 0#32 = 0#1 from ?_]
  · rfl
  · show BitVec.ofBool ((A.ids (i2 j)).slt 0#32) = 0#1
    rw [show (A.ids (i2 j)).slt 0#32 = false from ?_]
    · rfl
    · rw [BitVec.slt_eq_decide, decide_eq_false_iff_not, BitVec.toInt_eq_toNat_of_lt (by omega)]
      simp

/-- Every row index is in range. -/
theorem msk_at (y : S1x8192.Idx) : mskT A.ids y = 1#1 := by
  unfold mskT
  refine Host.reduce_andi_one _ _ _ _ _ rfl fun i => ?_
  obtain ⟨j, rfl⟩ : ∃ j : Fin 8192, i = i1 j := ⟨i 1, i1_eta i⟩
  have h := A.lt (i2 j)
  show IntOp.andi (IntOp.cmpi .sge (idxT A.ids (i1 j)) 0#32) (IntOp.cmpi .sle (idxT A.ids (i1 j)) 25087#32) = 1#1
  rw [idx_at]
  have e := BitVec.toInt_eq_toNat_of_lt (x := A.ids (i2 j)) (by omega)
  have h1 : IntOp.cmpi .sge (A.ids (i2 j)) 0#32 = 1#1 := by
    show BitVec.ofBool ((0#32).sle (A.ids (i2 j))) = 1#1
    rw [BitVec.sle_eq_decide, e]
    simp
  have h2 : IntOp.cmpi .sle (A.ids (i2 j)) 25087#32 = 1#1 := by
    show BitVec.ofBool ((A.ids (i2 j)).sle 25087#32) = 1#1
    rw [BitVec.sle_eq_decide, e, decide_eq_true (by simp; omega)]
    rfl
  rw [h1, h2]
  rfl

/-- The row the gathers read is the id's. -/
theorem row_eq (j : Fin 8192) : (⟨min (idxT A.ids (i1 j)).toInt.toNat (25088 - 1), by omega⟩ : Fin 25088) = A.row j.val := by
  apply Fin.ext
  show min (idxT A.ids (i1 j)).toInt.toNat (25088 - 1) = (Vocab.tokAt A.ids j.val).toNat
  have h := A.lt (i2 j)
  rw [idx_at, ← tok_at, BitVec.toInt_eq_toNat_of_lt (by omega)]
  simp
  omega

/-- The reference's embedding at an index. -/
theorem emb_at (j : Fin 8192) (k : Fin 4096) : embT A.ids A.codes A.scales (i3 j k) = A.emb j.val k := by
  unfold embT
  show ((((Scalar.select (broadcastInDim S1x8192x4096 ![0, 1] bcast_S1x8192_S1x8192x4096_0_1 (mskT A.ids) (i3 j k)) (Host.gather gather_S25088x4096_S1x8192x1_S1x8192x4096_2_0_n_n_0_2_14096 A.codes (idxT A.ids) (i3 j k)) 128#8 : BitVec 8).signExtend 32).toInt : ℝ) : EReal)
    * broadcastInDim S1x8192x4096 ![0, 1, 2] bcast_S1x8192x1_S1x8192x4096_0_1_2 (broadcastInDim S1x8192x1 ![0, 1] bcast_S1x8192_S1x8192x1_0_1 (select (mskT A.ids) (Host.gather gather_S25088_S1x8192x1_S1x8192_n_0_n_n_0_2_1 A.scales (idxT A.ids)) (broadcastInDim S1x8192 ![] bcast_S_S1x8192 (constant (F := Ideal) S_ .f32 0x7FC00000#32)))) (i3 j k) = _
  rw [row_at, colRow_at, col_at, select_apply, msk_at, select_one, select_one, gather_rows, gather_scale, row_eq, BitVec.toInt_signExtend_of_le (by decide)]
  rfl

/-- The reference's normalised embedding at an index. -/
theorem out_at (e : FVec Ideal S1x8192x4096 .bf16) (g : Fin 8192 → Fin 4096 → EReal) (he : ∀ j k, e (i3 j k) = g j k) (a3 : FVec Ideal S4096 .bf16)
    (j : Fin 8192) (k : Fin 4096) : outT e a3 (i3 j k) = g j k * Spec.scaleOf (g j) * a3 (ix1 k) := by
  unfold outT
  show (e (i3 j k) * broadcastInDim S1x8192x4096 ![0, 1, 2] bcast_S1x8192x1_S1x8192x4096_0_1_2 (_ : S1x8192x1.Idx → EReal) (i3 j k)) * broadcastInDim S1x8192x4096 ![0, 1, 2] bcast_S1x1x4096_S1x8192x4096_0_1_2 (broadcastInDim S1x1x4096 ![2] bcast_S4096_S1x1x4096_2 a3) (i3 j k) = _
  rw [weight_at, colRow_at, he]
  congr 2
  show Ideal.rsqrt (Ideal.div (broadcastInDim S1x8192x1 ![0, 1] bcast_S1x8192_S1x8192x1_0_1 (_ : S1x8192.Idx → EReal) (i1 j)) (Ideal.ofBits .f32 0x45800000#32) + Ideal.ofBits .f32 0x358637BD#32) = _
  rw [col_at, Spec.div_4096]
  unfold Spec.scaleOf
  congr 3
  refine (hostReduceAdd_apply _ _ reducesTo_S1x8192x4096_S1x8192_d2 h_S_ (i2 j)).trans ?_
  have hr : S1x8192x4096.Reduces [2] S1x8192 := by decide
  rw [Ideal.hostReduceAdd_single reducesTo_S1x8192x4096_S1x8192_d2 hr]
  show Ideal.ofBits .f32 0x00000000#32 + _ = _
  rw [Ideal.ofBits_zero_f32, zero_add]
  refine Finset.sum_congr rfl fun k _ => ?_
  have hl : hr.lift (i2 j) k = i3 j k := by
    funext a
    match a with
    | ⟨0, _⟩ => rfl
    | ⟨1, _⟩ => rfl
    | ⟨2, _⟩ => rfl
  rw [hl]
  exact congrArg (fun z : EReal => z * z) (he j k)

end InRange

/-- The rows of a [1, 8192, 4096] array. -/
theorem reshape_at {α : Type} (x : S1x8192x4096.Idx → α) (h) (i : S8192x4096.Idx) : shapeCast S8192x4096 x h i = x (i3 (i 0) (i 1)) := by
  refine shapeCast_apply x h _ _ ?_
  rw [Shape.rowMajor_val_two, Shape.rowMajor_val_three]
  show (0 * 8192 + (i 0).val) * 4096 + (i 1).val = (i 0).val * 4096 + (i 1).val
  omega

variable (m : (ℓ : Loc nD τ sig) → Buf (Elt Ideal) ℓ)

/-- The first result's term is the normalisation of the embedding's term. -/
theorem res_eq (c : Dev nD) : res_main_v24 m c
    = shapeCast S8192x4096 (outT (embT (m ((c : Thread nD τ).loc main_arg0)) (m ((c : Thread nD τ).loc main_arg1)) (m ((c : Thread nD τ).loc main_arg2))) (m ((c : Thread nD τ).loc main_arg3))) shapeCasts_S1x8192x4096_S8192x4096 := by
  unfold res_main_v24 outT embT mskT idxT
  rfl

/-- An array of rows. -/
def rowsOf (g : ℕ → Fin 4096 → EReal) : S8192x4096.Idx → EReal := fun i => g (i 0).val (i 1)

/-- The reference's run from a memory that holds `A`: the normalised rows, the embedding, the arguments unchanged. -/
theorem run_args (ρ : Dev nD → PrngReg) (A : Dev nD → Spec.Args)
    (h0 : ∀ c : Dev nD, m ((c : Thread nD τ).loc main_arg0) = (A c).ids) (h1 : ∀ c : Dev nD, m ((c : Thread nD τ).loc main_arg1) = (A c).codes)
    (h2 : ∀ c : Dev nD, m ((c : Thread nD τ).loc main_arg2) = (A c).scales) (h3 : ∀ c : Dev nD, m ((c : Thread nD τ).loc main_arg3) = (A c).weight) :
    θ_run defs (onTc (τ := τ) (main (F := Ideal))) ⟨m, fun _ => 0, ρ⟩ fun r => ∀ c : Dev nD,
      r.2.mem ((c.tc : Thread nD τ).loc main_v24) = rowsOf (A c).out
      ∧ r.2.mem ((c.tc : Thread nD τ).loc main_v25) = rowsOf (A c).emb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (run (F := Ideal) m ρ)
  · rw [res_eq, h0, h1, h2, h3]
    funext i
    refine (reshape_at _ _ i).trans ?_
    exact out_at (embT (A c).ids (A c).codes (A c).scales) (fun j k => (A c).emb j.val k) (emb_at (A c)) (A c).weight (i 0) (i 1)
  · refine Eq.trans (b := shapeCast S8192x4096 (embT (m ((c : Thread nD τ).loc main_arg0)) (m ((c : Thread nD τ).loc main_arg1)) (m ((c : Thread nD τ).loc main_arg2))) shapeCasts_S1x8192x4096_S8192x4096) ?_ ?_
    · unfold embT mskT idxT
      rfl
    · rw [h0, h1, h2]
      funext i
      refine (reshape_at _ _ i).trans ?_
      exact emb_at (A c) (i 0) (i 1)

end Cert.ReferenceIdeal.Rows

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocabulary
public import proofs.«01_k».proof.Proof.Kernel.Launch
public import proofs.«01_k».proof.Proof.KernelIdeal.Result
public import proofs.«01_k».proof.Proof.ReferenceIdeal.Value
public import Idealize.ShloMosaic.Lib.Bf16Pair
public import Idealize.ShloMosaic.Adequacy
public import Idealize.ShloMosaic.Init

@[expose] public section

noncomputable section

namespace Cert.Proof

open Idealize.ShloMosaic Idealize.SL.Sem

/-- The printed kernel, on bits: it runs, its arguments end unchanged, every counter ends at zero. -/
theorem frame_p : Cert.quiescent_Kernel := fun m ρ hpre =>
  (θ_run Cert.Kernel.defs _ _).mono (fun _ h => ⟨fun c => (h.1 c).1, h.2⟩)
    (Cert.Kernel.Rows.run_args m ρ _ (Cert.Kernel.Rows.idsAt_spec m fun c => Cert.Vocab.lt_of_pre _ _ _ _ (hpre c)))

/-- The idealized kernel: it runs, its arguments end unchanged, every counter ends at zero. -/
theorem frame_pi : Cert.quiescent_KernelIdeal := fun m ρ hpre =>
  (θ_run Cert.KernelIdeal.defs _ _).mono (fun _ h => ⟨fun c => (h.1 c).1, h.2⟩)
    (Cert.KernelIdeal.Rows.run_args m ρ _ (Cert.KernelIdeal.Rows.idsAt_spec m fun c => Cert.Vocab.lt_of_pre _ _ _ _ (hpre c)))

/-- The reference: it runs, its arguments end unchanged. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference under the precondition. -/
theorem frame_ri_pre : Cert.quiescent_ReferenceIdeal_pre_in_vocabulary := fun m ρ _ => frame_ri m ρ trivial

/-- The rewrites of the idealization: words packed from two float rows and read back as rows. -/
theorem preserves : Cert.preserves_Kernel_KernelIdeal :=
  ⟨IdealRules.bf16_pair.packStatement _, IdealRules.bf16_pair.statement Cert.KernelIdeal.S2x4096 Cert.KernelIdeal.S1x4096⟩

/-- The value claim: over the extended reals the kernel and the reference leave the same two results, the normalised
    embedding rows and the embedding rows. -/
theorem algebraic : Cert.algebraic_KernelIdeal_ReferenceIdeal := fun m g m' g' hpre hag =>
  have hlt := fun c => Cert.Vocab.lt_of_pre _ _ _ _ (hpre c)
  have hE := fun c => Cert.KernelIdeal.Rows.holds m hlt c
  ⟨fun c => Cert.KernelIdeal.Rows.rowsOf (Cert.KernelIdeal.Rows.argsAt m hlt c).out, fun c => Cert.KernelIdeal.Rows.rowsOf (Cert.KernelIdeal.Rows.argsAt m hlt c).emb,
    (θ_run Cert.KernelIdeal.defs _ _).mono
      (fun _ h c => ⟨(h.1 c).2.1.trans (Cert.KernelIdeal.Rows.final3 m _ hE c), (h.1 c).2.2.trans (Cert.KernelIdeal.Rows.final4 m _ hE c), (h.1 c).1⟩)
      (Cert.KernelIdeal.Rows.run_args m g _ (Cert.KernelIdeal.Rows.idsAt_spec m hlt)),
    Cert.ReferenceIdeal.Rows.run_args m' g' (Cert.KernelIdeal.Rows.argsAt m hlt)
      (fun c => (hag c).1) (fun c => (hag c).2.1) (fun c => (hag c).2.2.1) (fun c => (hag c).2.2.2)⟩

theorem claim : Cert.Claim := ⟨Cert.Kernel.Gen.facts, Cert.KernelIdeal.Gen.facts, Cert.ReferenceIdeal.Gen.facts, Cert.Pre_in_vocabulary.Gen.facts,
  frame_p, frame_pi, frame_ri, frame_ri_pre, preserves, algebraic⟩

end Cert.Proof

end
